-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v5_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S32x8192x3 : Shape := ⟨3, ![32, 8192, 3]⟩
abbrev S_ : Shape := ⟨0, ![]⟩

class Facts : Prop where
  bcast_S_S32x8192x3 : S_.BroadcastsInDim S32x8192x3 (![] : Fin 0 → Fin S32x8192x3.rank)
  reducesTo_S32x8192x3_S_d0_1_2 : S32x8192x3.ReducesTo [0, 1, 2] S_
  h_S_ : 0 < S_.numel

variable [Facts]

def fn {F : FTy → Type} [FloatOps F] (main_arg0 : FVec F S32x8192x3 .f32) : IVec S_ 1 :=
  let main_v0 : FVec F S32x8192x3 .f32 := Host.absf main_arg0
  let main_cst : FVec F S_ .f32 := constant S_ .f32 0x7E167699#32
  let main_v1 : FVec F S32x8192x3 .f32 := broadcastInDim S32x8192x3 ![] bcast_S_S32x8192x3 main_cst
  let main_v2 : IVec S32x8192x3 1 := cmpf .ole main_v0 main_v1
  let main_c : IVec S_ 1 := constantI S_ 1 1#1
  let main_v3 : IVec S_ 1 := (fun x v => Host.reduce IntOp.andi x v reducesTo_S32x8192x3_S_d0_1_2 h_S_) main_v2 main_c
  main_v3
-- ==== Kernel.lean ====
abbrev S32x8192x3 : Shape := ⟨3, ![32, 8192, 3]⟩
abbrev S32x3x8192 : Shape := ⟨3, ![32, 3, 8192]⟩
abbrev S32x3x64x128 : Shape := ⟨4, ![32, 3, 64, 128]⟩
abbrev S32x128x1 : Shape := ⟨3, ![32, 128, 1]⟩
abbrev S32x64x128 : Shape := ⟨3, ![32, 64, 128]⟩
abbrev S32x1x64x128 : Shape := ⟨4, ![32, 1, 64, 128]⟩
abbrev S32x1x1 : Shape := ⟨3, ![32, 1, 1]⟩
abbrev S32x64 : Shape := ⟨2, ![32, 64]⟩
abbrev S32x64x1 : Shape := ⟨3, ![32, 64, 1]⟩
abbrev S32x1 : Shape := ⟨2, ![32, 1]⟩
abbrev S32x128x32 : Shape := ⟨3, ![32, 128, 32]⟩
abbrev S32x128x3 : Shape := ⟨3, ![32, 128, 3]⟩
abbrev S32x128x128 : Shape := ⟨3, ![32, 128, 128]⟩
abbrev S1x3x8192 : Shape := ⟨3, ![1, 3, 8192]⟩
abbrev S1x8192x3 : Shape := ⟨3, ![1, 8192, 3]⟩
abbrev S1x128x1 : Shape := ⟨3, ![1, 128, 1]⟩
abbrev S1x128x32 : Shape := ⟨3, ![1, 128, 32]⟩
abbrev S1x128x3 : Shape := ⟨3, ![1, 128, 3]⟩
abbrev S1x128x128 : Shape := ⟨3, ![1, 128, 128]⟩
abbrev S128x8192 : Shape := ⟨2, ![128, 8192]⟩
abbrev S3x8192 : Shape := ⟨2, ![3, 8192]⟩
abbrev S8192x3 : Shape := ⟨2, ![8192, 3]⟩
abbrev S128x32 : Shape := ⟨2, ![128, 32]⟩
abbrev S128x1 : Shape := ⟨2, ![128, 1]⟩
abbrev S1x8192 : Shape := ⟨2, ![1, 8192]⟩
abbrev S128 : Shape := ⟨1, ![128]⟩
abbrev S128x128 : Shape := ⟨2, ![128, 128]⟩
abbrev S128x3 : Shape := ⟨2, ![128, 3]⟩
abbrev S8192 : Shape := ⟨1, ![8192]⟩
abbrev S3x128 : Shape := ⟨2, ![3, 128]⟩
abbrev S1x128 : Shape := ⟨2, ![1, 128]⟩
abbrev S32x1x128 : Shape := ⟨3, ![32, 1, 128]⟩
abbrev S32x128 : Shape := ⟨2, ![32, 128]⟩
abbrev S32x128x32x1 : Shape := ⟨4, ![32, 128, 32, 1]⟩
abbrev S32x128x32x3 : Shape := ⟨4, ![32, 128, 32, 3]⟩

abbrev nBuf : Space → Nat
  | .hbm => 18
  | .vmem => 40
  | .smem => 0
  | _ => 0

abbrev bufTy : (tb : Table) → Fin (tcTables nBuf tb) → BufTy
  | .hbm, ⟨0, _⟩ => ⟨S32x8192x3, .f32⟩
  | .hbm, ⟨1, _⟩ => ⟨S32x3x8192, .f32⟩
  | .hbm, ⟨2, _⟩ => ⟨S32x3x64x128, .f32⟩
  | .hbm, ⟨3, _⟩ => ⟨S32x128x1, .i32⟩
  | .hbm, ⟨4, _⟩ => ⟨S32x128x32, .f32⟩
  | .hbm, ⟨5, _⟩ => ⟨S32x128x32, .f32⟩
  | .hbm, ⟨6, _⟩ => ⟨S32x128x32, .f32⟩
  | .hbm, ⟨7, _⟩ => ⟨S32x128x3, .f32⟩
  | .hbm, ⟨8, _⟩ => ⟨S32x128x128, .f32⟩
  | .hbm, ⟨9, _⟩ => ⟨S32x128x1, .i32⟩
  | .hbm, ⟨10, _⟩ => ⟨S32x128x32, .f32⟩
  | .hbm, ⟨11, _⟩ => ⟨S32x128x32, .f32⟩
  | .hbm, ⟨12, _⟩ => ⟨S32x128x32, .f32⟩
  | .hbm, ⟨13, _⟩ => ⟨S32x128x3, .f32⟩
  | .hbm, ⟨14, _⟩ => ⟨S32x128x32x1, .f32⟩
  | .hbm, ⟨15, _⟩ => ⟨S32x128x32x1, .f32⟩
  | .hbm, ⟨16, _⟩ => ⟨S32x128x32x1, .f32⟩
  | .hbm, ⟨17, _⟩ => ⟨S32x128x32x3, .f32⟩
  | .local _ .vmem, ⟨0, _⟩ => ⟨S32x3x64x128, .f32⟩
  | .local _ .vmem, ⟨1, _⟩ => ⟨S32x128x1, .i32⟩
  | .local _ .vmem, ⟨2, _⟩ => ⟨S32x64x128, .f32⟩
  | .local _ .vmem, ⟨3, _⟩ => ⟨S1x3x8192, .f32⟩
  | .local _ .vmem, ⟨4, _⟩ => ⟨S1x3x8192, .f32⟩
  | .local _ .vmem, ⟨5, _⟩ => ⟨S1x8192x3, .f32⟩
  | .local _ .vmem, ⟨6, _⟩ => ⟨S1x8192x3, .f32⟩
  | .local _ .vmem, ⟨7, _⟩ => ⟨S1x128x1, .i32⟩
  | .local _ .vmem, ⟨8, _⟩ => ⟨S1x128x1, .i32⟩
  | .local _ .vmem, ⟨9, _⟩ => ⟨S1x128x32, .f32⟩
  | .local _ .vmem, ⟨10, _⟩ => ⟨S1x128x32, .f32⟩
  | .local _ .vmem, ⟨11, _⟩ => ⟨S1x128x32, .f32⟩
  | .local _ .vmem, ⟨12, _⟩ => ⟨S1x128x32, .f32⟩
  | .local _ .vmem, ⟨13, _⟩ => ⟨S1x128x32, .f32⟩
  | .local _ .vmem, ⟨14, _⟩ => ⟨S1x128x32, .f32⟩
  | .local _ .vmem, ⟨15, _⟩ => ⟨S1x128x3, .f32⟩
  | .local _ .vmem, ⟨16, _⟩ => ⟨S1x128x3, .f32⟩
  | .local _ .vmem, ⟨17, _⟩ => ⟨S1x128x128, .f32⟩
  | .local _ .vmem, ⟨18, _⟩ => ⟨S1x128x128, .f32⟩
  | .local _ .vmem, ⟨19, _⟩ => ⟨S128x8192, .f32⟩
  | .local _ .vmem, ⟨20, _⟩ => ⟨S32x128x128, .f32⟩
  | .local _ .vmem, ⟨21, _⟩ => ⟨S32x128x1, .i32⟩
  | .local _ .vmem, ⟨22, _⟩ => ⟨S1x128x1, .i32⟩
  | .local _ .vmem, ⟨23, _⟩ => ⟨S1x128x1, .i32⟩
  | .local _ .vmem, ⟨24, _⟩ => ⟨S1x128x32, .f32⟩
  | .local _ .vmem, ⟨25, _⟩ => ⟨S1x128x32, .f32⟩
  | .local _ .vmem, ⟨26, _⟩ => ⟨S1x128x32, .f32⟩
  | .local _ .vmem, ⟨27, _⟩ => ⟨S1x128x32, .f32⟩
  | .local _ .vmem, ⟨28, _⟩ => ⟨S1x128x32, .f32⟩
  | .local _ .vmem, ⟨29, _⟩ => ⟨S1x128x32, .f32⟩
  | .local _ .vmem, ⟨30, _⟩ => ⟨S1x128x3, .f32⟩
  | .local _ .vmem, ⟨31, _⟩ => ⟨S1x128x3, .f32⟩
  | .local _ .vmem, ⟨32, _⟩ => ⟨S1x128x32, .f32⟩
  | .local _ .vmem, ⟨33, _⟩ => ⟨S1x128x32, .f32⟩
  | .local _ .vmem, ⟨34, _⟩ => ⟨S1x128x32, .f32⟩
  | .local _ .vmem, ⟨35, _⟩ => ⟨S1x128x32, .f32⟩
  | .local _ .vmem, ⟨36, _⟩ => ⟨S1x128x32, .f32⟩
  | .local _ .vmem, ⟨37, _⟩ => ⟨S1x128x32, .f32⟩
  | .local _ .vmem, ⟨38, _⟩ => ⟨S1x128x3, .f32⟩
  | .local _ .vmem, ⟨39, _⟩ => ⟨S1x128x3, .f32⟩
  | _, _ => ⟨S32x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v3_2 : Ref sig .tc := ⟨.hbm, 6, rfl⟩
abbrev main_v3_3 : Ref sig .tc := ⟨.hbm, 7, rfl⟩
abbrev main_v3_4 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg1_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc3_stg7_0 : Ref sig .tc := ⟨.vmem, 36, rfl⟩
abbrev cc3_stg7_1 : Ref sig .tc := ⟨.vmem, 37, rfl⟩
abbrev cc3_stg8_0 : Ref sig .tc := ⟨.vmem, 38, rfl⟩
abbrev cc3_stg8_1 : Ref sig .tc := ⟨.vmem, 39, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc2_sem0_0 : DmaSem sig := 18
abbrev cc2_sem1_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc3_sem5_0 : DmaSem sig := 30
abbrev cc3_sem5_1 : DmaSem sig := 31
abbrev cc3_sem6_0 : DmaSem sig := 32
abbrev cc3_sem6_1 : DmaSem sig := 33
abbrev cc3_sem7_0 : DmaSem sig := 34
abbrev cc3_sem7_1 : DmaSem sig := 35
abbrev cc3_sem8_0 : DmaSem sig := 36
abbrev cc3_sem8_1 : DmaSem sig := 37

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_13 : BitVec 32 := 0#32
  let c128_i32_14 : BitVec 32 := 128#32
  let v18 : BitVec 32 := Scalar.addi c0_i32_13 c128_i32_14
  let c1_i32 : BitVec 32 := 1#32
  ⟨c0_i32_13, v18, c1_i32⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x3x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

@[reducible] def k1_t1_loop : Scf.Loop 32 :=
  let c0_i32_30 : BitVec 32 := 0#32
  let c32_i32 : BitVec 32 := 32#32
  let v94 : BitVec 32 := Scalar.addi c0_i32_30 c32_i32
  let c1_i32_31 : BitVec 32 := 1#32
  ⟨c0_i32_30, v94, c1_i32_31⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8192x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x3 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

@[reducible] def k2_t1_loop : Scf.Loop 32 :=
  let c1_i32 : BitVec 32 := 1#32
  let c127_i32 : BitVec 32 := 127#32
  let v9 : BitVec 32 := Scalar.addi c1_i32 c127_i32
  let c1_i32_2 : BitVec 32 := 1#32
  ⟨c1_i32, v9, c1_i32_2⟩
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 1 → Memref sig .tc .vmem S32x128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S32x128x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x128x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x128x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x128x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x128x3 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x128x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x128x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x128x32 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x128x3 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]
-- ==== ReferenceIdeal.lean ====
abbrev S32x8192x3 : Shape := ⟨3, ![32, 8192, 3]⟩
abbrev S_ : Shape := ⟨0, ![]⟩
abbrev S32x8192 : Shape := ⟨2, ![32, 8192]⟩
abbrev S32 : Shape := ⟨1, ![32]⟩
abbrev S128x32 : Shape := ⟨2, ![128, 32]⟩
abbrev S32x1 : Shape := ⟨2, ![32, 1]⟩
abbrev S32x1x1 : Shape := ⟨3, ![32, 1, 1]⟩
abbrev S32x1x3 : Shape := ⟨3, ![32, 1, 3]⟩
abbrev S1x32 : Shape := ⟨2, ![1, 32]⟩
abbrev S32x128 : Shape := ⟨2, ![32, 128]⟩
abbrev S32x128x1 : Shape := ⟨3, ![32, 128, 1]⟩
abbrev S32x128x3 : Shape := ⟨3, ![32, 128, 3]⟩
abbrev S32x1x8192 : Shape := ⟨3, ![32, 1, 8192]⟩
abbrev S32x128x8192 : Shape := ⟨3, ![32, 128, 8192]⟩
abbrev S32x128x32 : Shape := ⟨3, ![32, 128, 32]⟩
abbrev S32x128x32x1 : Shape := ⟨4, ![32, 128, 32, 1]⟩
abbrev S32x128x32x3 : Shape := ⟨4, ![32, 128, 32, 3]⟩
abbrev S32x128x1x3 : Shape := ⟨4, ![32, 128, 1, 3]⟩
abbrev S128x128 : Shape := ⟨2, ![128, 128]⟩
abbrev S32x1x128 : Shape := ⟨3, ![32, 1, 128]⟩
abbrev S32x128x128 : Shape := ⟨3, ![32, 128, 128]⟩
abbrev S128 : Shape := ⟨1, ![128]⟩
abbrev S127x32 : Shape := ⟨2, ![127, 32]⟩
abbrev S1x128 : Shape := ⟨2, ![1, 128]⟩
abbrev S32x127 : Shape := ⟨2, ![32, 127]⟩

abbrev nBuf : Space → Nat
  | .hbm => 146
  | .vmem => 0
  | .smem => 0
  | _ => 0

abbrev hbmTy0_0 (i : Nat) : BufTy := match i % 128 with
  | 0 => ⟨S32x8192x3, .f32⟩
  | 1 => ⟨S_, .f32⟩
  | 2 => ⟨S32x8192, .f32⟩
  | 3 => ⟨S_, .i32⟩
  | 4 => ⟨S32, .i32⟩
  | 5 => ⟨S_, .i32⟩
  | 6 => ⟨S128x32, .i32⟩
  | 7 => ⟨S_, .i32⟩
  | 8 => ⟨S32x8192x3, .f32⟩
  | 9 => ⟨S_, .i32⟩
  | 10 => ⟨S32x8192, .f32⟩
  | 11 => ⟨S32, .i32⟩
  | 12 => ⟨S128x32, .i32⟩
  | 13 => ⟨S_, .i32⟩
  | 14 => ⟨S_, .i1⟩
  | 15 => ⟨S32x1, .i32⟩
  | 16 => ⟨S32x1x1, .i32⟩
  | 17 => ⟨S32x1x3, .f32⟩
  | 18 => ⟨S32x8192x3, .f32⟩
  | 19 => ⟨S32x8192x3, .f32⟩
  | 20 => ⟨S32x8192x3, .f32⟩
  | 21 => ⟨S_, .f32⟩
  | 22 => ⟨S32x8192, .f32⟩
  | 23 => ⟨S32x8192, .f32⟩
  | 24 => ⟨S32x8192, .i32⟩
  | 25 => ⟨S_, .f32⟩
  | 26 => ⟨S_, .i32⟩
  | 27 => ⟨S32, .f32⟩
  | 28 => ⟨S32, .i32⟩
  | 29 => ⟨S1x32, .i32⟩
  | 30 => ⟨S_, .i32⟩
  | 31 => ⟨S128x32, .i32⟩
  | 32 => ⟨S_, .i32⟩
  | 33 => ⟨S_, .i32⟩
  | 34 => ⟨S32x128, .i32⟩
  | 35 => ⟨S32x128x1, .i32⟩
  | 36 => ⟨S32x128x3, .f32⟩
  | 37 => ⟨S32x128x3, .f32⟩
  | 38 => ⟨S_, .f32⟩
  | 39 => ⟨S32x128, .f32⟩
  | 40 => ⟨S32x128x1, .f32⟩
  | 41 => ⟨S32x8192x3, .f32⟩
  | 42 => ⟨S_, .f32⟩
  | 43 => ⟨S32x8192, .f32⟩
  | 44 => ⟨S32x1x8192, .f32⟩
  | 45 => ⟨S32x128x8192, .f32⟩
  | 46 => ⟨S32x128x8192, .f32⟩
  | 47 => ⟨S32x128x8192, .f32⟩
  | 48 => ⟨S32x128x8192, .f32⟩
  | 49 => ⟨S_, .f32⟩
  | 50 => ⟨S32x128x8192, .f32⟩
  | 51 => ⟨S32x128x8192, .f32⟩
  | 52 => ⟨S32x128x8192, .f32⟩
  | 53 => ⟨S_, .f32⟩
  | 54 => ⟨S32x128x8192, .f32⟩
  | 55 => ⟨S32x128x8192, .f32⟩
  | 56 => ⟨S32x128x8192, .f32⟩
  | 57 => ⟨S32x128x8192, .f32⟩
  | 58 => ⟨S32x128x32, .f32⟩
  | 59 => ⟨S32x128x32, .i32⟩
  | 60 => ⟨S32x128x32x1, .i32⟩
  | 61 => ⟨S32x128x32x3, .f32⟩
  | 62 => ⟨S32x128x1x3, .f32⟩
  | 63 => ⟨S32x128x32x3, .f32⟩
  | 64 => ⟨S32x128x32x3, .f32⟩
  | 65 => ⟨S128x128, .i32⟩
  | 66 => ⟨S128x128, .i32⟩
  | 67 => ⟨S_, .i32⟩
  | 68 => ⟨S128x128, .i32⟩
  | 69 => ⟨S128x128, .i32⟩
  | 70 => ⟨S128x128, .i1⟩
  | 71 => ⟨S32x128x3, .f32⟩
  | 72 => ⟨S_, .f32⟩
  | 73 => ⟨S32x128, .f32⟩
  | 74 => ⟨S32x128x1, .f32⟩
  | 75 => ⟨S32x128x3, .f32⟩
  | 76 => ⟨S_, .f32⟩
  | 77 => ⟨S32x128, .f32⟩
  | 78 => ⟨S32x1x128, .f32⟩
  | 79 => ⟨S32x128x128, .f32⟩
  | 80 => ⟨S32x128x128, .f32⟩
  | 81 => ⟨S32x128x128, .f32⟩
  | 82 => ⟨S32x128x128, .f32⟩
  | 83 => ⟨S_, .f32⟩
  | 84 => ⟨S32x128x128, .f32⟩
  | 85 => ⟨S32x128x128, .f32⟩
  | 86 => ⟨S32x128x128, .f32⟩
  | 87 => ⟨S_, .f32⟩
  | 88 => ⟨S32x128x128, .f32⟩
  | 89 => ⟨S32x128x128, .f32⟩
  | 90 => ⟨S32x128x128, .f32⟩
  | 91 => ⟨S_, .f32⟩
  | 92 => ⟨S_, .f32⟩
  | 93 => ⟨S32x128x128, .i1⟩
  | 94 => ⟨S32x128x128, .f32⟩
  | 95 => ⟨S32x128x128, .f32⟩
  | 96 => ⟨S128, .i32⟩
  | 97 => ⟨S_, .i32⟩
  | 98 => ⟨S128, .i32⟩
  | 99 => ⟨S128, .i1⟩
  | 100 => ⟨S32x128, .i1⟩
  | 101 => ⟨S_, .i32⟩
  | 102 => ⟨S32, .i32⟩
  | 103 => ⟨S_, .i32⟩
  | 104 => ⟨S127x32, .i32⟩
  | 105 => ⟨S_, .i32⟩
  | 106 => ⟨S32x128x128, .f32⟩
  | 107 => ⟨S_, .i32⟩
  | 108 => ⟨S32x128, .i1⟩
  | 109 => ⟨S32, .i32⟩
  | 110 => ⟨S127x32, .i32⟩
  | 111 => ⟨S_, .i32⟩
  | 112 => ⟨S_, .i1⟩
  | 113 => ⟨S32x1, .i32⟩
  | 114 => ⟨S32x1x1, .i32⟩
  | 115 => ⟨S32x1x128, .f32⟩
  | 116 => ⟨S32x128, .f32⟩
  | 117 => ⟨S_, .f32⟩
  | 118 => ⟨S_, .f32⟩
  | 119 => ⟨S32x128, .f32⟩
  | 120 => ⟨S32x128, .f32⟩
  | 121 => ⟨S32x128, .i32⟩
  | 122 => ⟨S_, .f32⟩
  | 123 => ⟨S_, .i32⟩
  | 124 => ⟨S32, .f32⟩
  | 125 => ⟨S32, .i32⟩
  | 126 => ⟨S128, .i32⟩
  | 127 => ⟨S32x1, .i32⟩
  | _ => ⟨S32x8192x3, .f32⟩

abbrev hbmTy0_1 (i : Nat) : BufTy := match i % 128 with
  | 0 => ⟨S1x128, .i32⟩
  | 1 => ⟨S32x128, .i32⟩
  | 2 => ⟨S32x128, .i32⟩
  | 3 => ⟨S32x128, .i1⟩
  | 4 => ⟨S32x128, .i1⟩
  | 5 => ⟨S1x32, .i32⟩
  | 6 => ⟨S_, .i32⟩
  | 7 => ⟨S127x32, .i32⟩
  | 8 => ⟨S_, .i32⟩
  | 9 => ⟨S_, .i32⟩
  | 10 => ⟨S_, .i32⟩
  | 11 => ⟨S32x1, .i32⟩
  | 12 => ⟨S32x127, .i32⟩
  | 13 => ⟨S32x128, .i32⟩
  | 14 => ⟨S32x128x1, .i32⟩
  | 15 => ⟨S32x128x32x3, .f32⟩
  | 16 => ⟨S32x128x1, .i32⟩
  | 17 => ⟨S32x128x3, .f32⟩
  | _ => ⟨S32x8192x3, .f32⟩

abbrev hbmTy (i : Nat) : BufTy := match i / 128 with
  | 0 => hbmTy0_0 i
  | 1 => hbmTy0_1 i
  | _ => ⟨S32x8192x3, .f32⟩

abbrev bufTy : (tb : Table) → Fin (tcTables nBuf tb) → BufTy
  | .hbm, ⟨i, _⟩ => hbmTy i
  | _, _ => ⟨S32x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_while0c_c_21 : Ref sig .tc := ⟨.hbm, 13, rfl⟩
abbrev main_while0c_v65 : Ref sig .tc := ⟨.hbm, 14, rfl⟩
abbrev main_while0b_v65 : Ref sig .tc := ⟨.hbm, 15, rfl⟩
abbrev main_while0b_v66 : Ref sig .tc := ⟨.hbm, 16, rfl⟩
abbrev main_while0b_v67 : Ref sig .tc := ⟨.hbm, 17, rfl⟩
abbrev main_while0b_v68 : Ref sig .tc := ⟨.hbm, 18, rfl⟩
abbrev main_while0b_v69 : Ref sig .tc := ⟨.hbm, 19, rfl⟩
abbrev main_while0b_v70 : Ref sig .tc := ⟨.hbm, 20, rfl⟩
abbrev main_while0b_cst_21 : Ref sig .tc := ⟨.hbm, 21, rfl⟩
abbrev main_while0b_v71 : Ref sig .tc := ⟨.hbm, 22, rfl⟩
abbrev main_while0b_v72 : Ref sig .tc := ⟨.hbm, 23, rfl⟩
abbrev main_while0b_call0_v0 : Ref sig .tc := ⟨.hbm, 24, rfl⟩
abbrev main_while0b_call0_cst : Ref sig .tc := ⟨.hbm, 25, rfl⟩
abbrev main_while0b_call0_c : Ref sig .tc := ⟨.hbm, 26, rfl⟩
abbrev main_while0b_call0_v1_0 : Ref sig .tc := ⟨.hbm, 27, rfl⟩
abbrev main_while0b_v73 : Ref sig .tc := ⟨.hbm, 28, rfl⟩
abbrev main_while0b_call1_v0 : Ref sig .tc := ⟨.hbm, 29, rfl⟩
abbrev main_while0b_call1_c : Ref sig .tc := ⟨.hbm, 30, rfl⟩
abbrev main_while0b_v74 : Ref sig .tc := ⟨.hbm, 31, rfl⟩
abbrev main_while0b_c_22 : Ref sig .tc := ⟨.hbm, 32, rfl⟩
abbrev main_while0b_v75 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_2 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_3 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_4 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_5 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_values : Ref sig .tc := ⟨.hbm, 58, rfl⟩
abbrev main_indices : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_6 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_7 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_8 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_9 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_10 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_11 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v50 : Ref sig .tc := ⟨.hbm, 95, rfl⟩
abbrev main_v51 : Ref sig .tc := ⟨.hbm, 96, rfl⟩
abbrev main_c_12 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_c_13 : Ref sig .tc := ⟨.hbm, 101, rfl⟩
abbrev main_v55 : Ref sig .tc := ⟨.hbm, 102, rfl⟩
abbrev main_c_14 : Ref sig .tc := ⟨.hbm, 103, rfl⟩
abbrev main_v56 : Ref sig .tc := ⟨.hbm, 104, rfl⟩
abbrev main_c_15 : Ref sig .tc := ⟨.hbm, 105, rfl⟩
abbrev main_v57_0 : Ref sig .tc := ⟨.hbm, 106, rfl⟩
abbrev main_v57_1 : Ref sig .tc := ⟨.hbm, 107, rfl⟩
abbrev main_v57_2 : Ref sig .tc := ⟨.hbm, 108, rfl⟩
abbrev main_v57_3 : Ref sig .tc := ⟨.hbm, 109, rfl⟩
abbrev main_v57_4 : Ref sig .tc := ⟨.hbm, 110, rfl⟩
abbrev main_while1c_c_21 : Ref sig .tc := ⟨.hbm, 111, rfl⟩
abbrev main_while1c_v65 : Ref sig .tc := ⟨.hbm, 112, rfl⟩
abbrev main_while1b_v65 : Ref sig .tc := ⟨.hbm, 113, rfl⟩
abbrev main_while1b_v66 : Ref sig .tc := ⟨.hbm, 114, rfl⟩
abbrev main_while1b_v67 : Ref sig .tc := ⟨.hbm, 115, rfl⟩
abbrev main_while1b_v68 : Ref sig .tc := ⟨.hbm, 116, rfl⟩
abbrev main_while1b_cst_21 : Ref sig .tc := ⟨.hbm, 117, rfl⟩
abbrev main_while1b_call3_v0 : Ref sig .tc := ⟨.hbm, 118, rfl⟩
abbrev main_while1b_call3_v1 : Ref sig .tc := ⟨.hbm, 119, rfl⟩
abbrev main_while1b_v69 : Ref sig .tc := ⟨.hbm, 120, rfl⟩
abbrev main_while1b_call4_v0 : Ref sig .tc := ⟨.hbm, 121, rfl⟩
abbrev main_while1b_call4_cst : Ref sig .tc := ⟨.hbm, 122, rfl⟩
abbrev main_while1b_call4_c : Ref sig .tc := ⟨.hbm, 123, rfl⟩
abbrev main_while1b_call4_v1_0 : Ref sig .tc := ⟨.hbm, 124, rfl⟩
abbrev main_while1b_v70 : Ref sig .tc := ⟨.hbm, 125, rfl⟩
abbrev main_while1b_v71 : Ref sig .tc := ⟨.hbm, 126, rfl⟩
abbrev main_while1b_v72 : Ref sig .tc := ⟨.hbm, 127, rfl⟩
abbrev main_while1b_v73 : Ref sig .tc := ⟨.hbm, 128, rfl⟩
abbrev main_while1b_v74 : Ref sig .tc := ⟨.hbm, 129, rfl⟩
abbrev main_while1b_v75 : Ref sig .tc := ⟨.hbm, 130, rfl⟩
abbrev main_while1b_v76 : Ref sig .tc := ⟨.hbm, 131, rfl⟩
abbrev main_while1b_v77 : Ref sig .tc := ⟨.hbm, 132, rfl⟩
abbrev main_while1b_call5_v0 : Ref sig .tc := ⟨.hbm, 133, rfl⟩
abbrev main_while1b_call5_c : Ref sig .tc := ⟨.hbm, 134, rfl⟩
abbrev main_while1b_v78 : Ref sig .tc := ⟨.hbm, 135, rfl⟩
abbrev main_while1b_c_22 : Ref sig .tc := ⟨.hbm, 136, rfl⟩
abbrev main_while1b_v79 : Ref sig .tc := ⟨.hbm, 137, rfl⟩
abbrev main_c_16 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 127#32, 1#32⟩
-- ==== Proof.RefOps.lean ====
/-
  The reference program's operations, stretch by stretch, and its two loops' regions as chains of them: what a run of
  the program is stated over. For each stretch: it touches only the program's own buffers, allocates none, and the list
  of buffers it writes.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

set_option maxRecDepth 1096

noncomputable section

namespace Cert.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.StableHlo

variable {F : FTy → Type} [FloatOps F]

abbrev hostOps0 : List (HloOp τ sig (Elt F)) :=
  [ StableHlo.nullary main_cst (constant S_ .f32 0x501502F9#32),
    StableHlo.unary main_cst main_v0 (broadcastInDim S32x8192 ![] bcast_S_S32x8192 : (⟨S_, .f32⟩ : BufTy).Contents (Elt F) → (⟨S32x8192, .f32⟩ : BufTy).Contents (Elt F)),
    StableHlo.nullary main_c (constantI S_ 32 0#32),
    StableHlo.unary main_c main_v1 (broadcastInDim S32 ![] bcast_S_S32 : (⟨S_, .i32⟩ : BufTy).Contents (Elt F) → (⟨S32, .i32⟩ : BufTy).Contents (Elt F)),
    StableHlo.nullary main_c_0 (constantI S_ 32 0#32),
    StableHlo.unary main_c_0 main_v2 (broadcastInDim S128x32 ![] bcast_S_S128x32 : (⟨S_, .i32⟩ : BufTy).Contents (Elt F) → (⟨S128x32, .i32⟩ : BufTy).Contents (Elt F)),
    StableHlo.nullary main_c_1 (constantI S_ 32 0#32),
    StableHlo.unary main_arg0 main_v3_0 id,
    StableHlo.unary main_c_1 main_v3_1 id,
    StableHlo.unary main_v0 main_v3_2 id,
    StableHlo.unary main_v1 main_v3_3 id,
    StableHlo.unary main_v2 main_v3_4 id ]
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
abbrev hostOps0_1 : List (HloOp τ sig (Elt F)) :=
  ( StableHlo.unary main_v3_4 main_v4 ((transpose S32x128 [1, 0] · transposes_S128x32_S32x128_1_0) : (⟨S128x32, .i32⟩ : BufTy).Contents (Elt F) → (⟨S32x128, .i32⟩ : BufTy).Contents (Elt F))
  :: StableHlo.unary main_v4 main_v5 (broadcastInDim S32x128x1 ![0, 1] bcast_S32x128_S32x128x1_0_1 : (⟨S32x128, .i32⟩ : BufTy).Contents (Elt F) → (⟨S32x128x1, .i32⟩ : BufTy).Contents (Elt F))
  :: StableHlo.binary main_arg0 main_v5 main_v6 ((fun x i => Host.gather gather_S32x8192x3_S32x128x1_S32x128x3_2_1_0_0_1_2_113 x i) : (⟨S32x8192x3, .f32⟩ : BufTy).Contents (Elt F) → (⟨S32x128x1, .i32⟩ : BufTy).Contents (Elt F) → (⟨S32x128x3, .f32⟩ : BufTy).Contents (Elt F))
  :: StableHlo.binary main_v6 main_v6 main_v7 (mulf : (⟨S32x128x3, .f32⟩ : BufTy).Contents (Elt F) → (⟨S32x128x3, .f32⟩ : BufTy).Contents (Elt F) → (⟨S32x128x3, .f32⟩ : BufTy).Contents (Elt F))
  :: StableHlo.nullary main_cst_2 (constant S_ .f32 0x00000000#32)
  :: StableHlo.binary main_v7 main_cst_2 main_v8 ((fun x v => Host.reduceAdd x v reducesTo_S32x128x3_S32x128_d2 h_S_) : (⟨S32x128x3, .f32⟩ : BufTy).Contents (Elt F) → (⟨S_, .f32⟩ : BufTy).Contents (Elt F) → (⟨S32x128, .f32⟩ : BufTy).Contents (Elt F))
  :: StableHlo.unary main_v8 main_v9 (broadcastInDim S32x128x1 ![0, 1] bcast_S32x128_S32x128x1_0_1 : (⟨S32x128, .f32⟩ : BufTy).Contents (Elt F) → (⟨S32x128x1, .f32⟩ : BufTy).Contents (Elt F))
  :: StableHlo.binary main_arg0 main_arg0 main_v10 (mulf : (⟨S32x8192x3, .f32⟩ : BufTy).Contents (Elt F) → (⟨S32x8192x3, .f32⟩ : BufTy).Contents (Elt F) → (⟨S32x8192x3, .f32⟩ : BufTy).Contents (Elt F))
  :: StableHlo.nullary main_cst_3 (constant S_ .f32 0x00000000#32)
  :: StableHlo.binary main_v10 main_cst_3 main_v11 ((fun x v => Host.reduceAdd x v reducesTo_S32x8192x3_S32x8192_d2 h_S_) : (⟨S32x8192x3, .f32⟩ : BufTy).Contents (Elt F) → (⟨S_, .f32⟩ : BufTy).Contents (Elt F) → (⟨S32x8192, .f32⟩ : BufTy).Contents (Elt F))
  :: StableHlo.unary main_v11 main_v12 (broadcastInDim S32x1x8192 ![0, 2] bcast_S32x8192_S32x1x8192_0_2 : (⟨S32x8192, .f32⟩ : BufTy).Contents (Elt F) → (⟨S32x1x8192, .f32⟩ : BufTy).Contents (Elt F))
  :: StableHlo.unary main_v9 main_v13 (broadcastInDim S32x128x8192 ![0, 1, 2] bcast_S32x128x1_S32x128x8192_0_1_2 : (⟨S32x128x1, .f32⟩ : BufTy).Contents (Elt F) → (⟨S32x128x8192, .f32⟩ : BufTy).Contents (Elt F))
  :: StableHlo.unary main_v12 main_v14 (broadcastInDim S32x128x8192 ![0, 1, 2] bcast_S32x1x8192_S32x128x8192_0_1_2 : (⟨S32x1x8192, .f32⟩ : BufTy).Contents (Elt F) → (⟨S32x128x8192, .f32⟩ : BufTy).Contents (Elt F))
  :: StableHlo.binary main_v13 main_v14 main_v15 (addf : (⟨S32x128x8192, .f32⟩ : BufTy).Contents (Elt F) → (⟨S32x128x8192, .f32⟩ : BufTy).Contents (Elt F) → (⟨S32x128x8192, .f32⟩ : BufTy).Contents (Elt F))
  :: StableHlo.binary main_v6 main_arg0 main_v16 ((fun l r => Host.dotGeneral dot_S32x128x3_S32x8192x3_S32x128x8192_2_2_1_1_0_0 none l r) : (⟨S32x128x3, .f32⟩ : BufTy).Contents (Elt F) → (⟨S32x8192x3, .f32⟩ : BufTy).Contents (Elt F) → (⟨S32x128x8192, .f32⟩ : BufTy).Contents (Elt F))
  :: StableHlo.nullary main_cst_4 (constant S_ .f32 0x40000000#32)
  :: StableHlo.unary main_cst_4 main_v17 (broadcastInDim S32x128x8192 ![] bcast_S_S32x128x8192 : (⟨S_, .f32⟩ : BufTy).Contents (Elt F) → (⟨S32x128x8192, .f32⟩ : BufTy).Contents (Elt F))
  :: StableHlo.binary main_v17 main_v16 main_v18 (mulf : (⟨S32x128x8192, .f32⟩ : BufTy).Contents (Elt F) → (⟨S32x128x8192, .f32⟩ : BufTy).Contents (Elt F) → (⟨S32x128x8192, .f32⟩ : BufTy).Contents (Elt F))
  :: StableHlo.binary main_v15 main_v18 main_v19 (subf : (⟨S32x128x8192, .f32⟩ : BufTy).Contents (Elt F) → (⟨S32x128x8192, .f32⟩ : BufTy).Contents (Elt F) → (⟨S32x128x8192, .f32⟩ : BufTy).Contents (Elt F))
  :: StableHlo.nullary main_cst_5 (constant S_ .f32 0x00000000#32)
  :: StableHlo.unary main_cst_5 main_v20 (broadcastInDim S32x128x8192 ![] bcast_S_S32x128x8192 : (⟨S_, .f32⟩ : BufTy).Contents (Elt F) → (⟨S32x128x8192, .f32⟩ : BufTy).Contents (Elt F))
  :: StableHlo.binary main_v19 main_v20 main_v21 (maximumf : (⟨S32x128x8192, .f32⟩ : BufTy).Contents (Elt F) → (⟨S32x128x8192, .f32⟩ : BufTy).Contents (Elt F) → (⟨S32x128x8192, .f32⟩ : BufTy).Contents (Elt F))
  :: StableHlo.unary main_v21 main_v22 (Host.sqrt : (⟨S32x128x8192, .f32⟩ : BufTy).Contents (Elt F) → (⟨S32x128x8192, .f32⟩ : BufTy).Contents (Elt F))
  :: StableHlo.unary main_v22 main_v23 (Host.negf : (⟨S32x128x8192, .f32⟩ : BufTy).Contents (Elt F) → (⟨S32x128x8192, .f32⟩ : BufTy).Contents (Elt F))
  :: StableHlo.unary main_v23 main_values ((fun x => (Host.topK S32x128x32 2 (FloatOps.cmpfTotal .gt) x sliceFits_S32x128x8192_S32x128x32).1) : (⟨S32x128x8192, .f32⟩ : BufTy).Contents (Elt F) → (⟨S32x128x32, .f32⟩ : BufTy).Contents (Elt F))
  :: StableHlo.unary main_v23 main_indices ((fun x => (Host.topK S32x128x32 2 (FloatOps.cmpfTotal .gt) x sliceFits_S32x128x8192_S32x128x32).2) : (⟨S32x128x8192, .f32⟩ : BufTy).Contents (Elt F) → (⟨S32x128x32, .i32⟩ : BufTy).Contents (Elt F))
  :: StableHlo.unary main_indices main_v24 (broadcastInDim S32x128x32x1 ![0, 1, 2] bcast_S32x128x32_S32x128x32x1_0_1_2 : (⟨S32x128x32, .i32⟩ : BufTy).Contents (Elt F) → (⟨S32x128x32x1, .i32⟩ : BufTy).Contents (Elt F))
  :: StableHlo.binary main_arg0 main_v24 main_v25 ((fun x i => Host.gather gather_S32x8192x3_S32x128x32x1_S32x128x32x3_3_1_0_0_1_3_113 x i) : (⟨S32x8192x3, .f32⟩ : BufTy).Contents (Elt F) → (⟨S32x128x32x1, .i32⟩ : BufTy).Contents (Elt F) → (⟨S32x128x32x3, .f32⟩ : BufTy).Contents (Elt F))
  :: StableHlo.unary main_v6 main_v26 (broadcastInDim S32x128x1x3 ![0, 1, 3] bcast_S32x128x3_S32x128x1x3_0_1_3 : (⟨S32x128x3, .f32⟩ : BufTy).Contents (Elt F) → (⟨S32x128x1x3, .f32⟩ : BufTy).Contents (Elt F))
  :: StableHlo.unary main_v26 main_v27 (broadcastInDim S32x128x32x3 ![0, 1, 2, 3] bcast_S32x128x1x3_S32x128x32x3_0_1_2_3 : (⟨S32x128x1x3, .f32⟩ : BufTy).Contents (Elt F) → (⟨S32x128x32x3, .f32⟩ : BufTy).Contents (Elt F))
  :: StableHlo.binary main_v25 main_v27 main_v28 (subf : (⟨S32x128x32x3, .f32⟩ : BufTy).Contents (Elt F) → (⟨S32x128x32x3, .f32⟩ : BufTy).Contents (Elt F) → (⟨S32x128x32x3, .f32⟩ : BufTy).Contents (Elt F))
  :: StableHlo.nullary main_v29 (iotaInDim S128x128 32 0)
  :: StableHlo.nullary main_v30 (iotaInDim S128x128 32 1)
  :: StableHlo.nullary main_c_6 (constantI S_ 32 0#32)
  :: StableHlo.unary main_c_6 main_v31 (broadcastInDim S128x128 ![] bcast_S_S128x128 : (⟨S_, .i32⟩ : BufTy).Contents (Elt F) → (⟨S128x128, .i32⟩ : BufTy).Contents (Elt F))
  :: StableHlo.binary main_v29 main_v31 main_v32 (addi : (⟨S128x128, .i32⟩ : BufTy).Contents (Elt F) → (⟨S128x128, .i32⟩ : BufTy).Contents (Elt F) → (⟨S128x128, .i32⟩ : BufTy).Contents (Elt F))
  :: StableHlo.binary main_v32 main_v30 main_v33 (cmpi .eq : (⟨S128x128, .i32⟩ : BufTy).Contents (Elt F) → (⟨S128x128, .i32⟩ : BufTy).Contents (Elt F) → (⟨S128x128, .i1⟩ : BufTy).Contents (Elt F))
  :: StableHlo.binary main_v6 main_v6 main_v34 (mulf : (⟨S32x128x3, .f32⟩ : BufTy).Contents (Elt F) → (⟨S32x128x3, .f32⟩ : BufTy).Contents (Elt F) → (⟨S32x128x3, .f32⟩ : BufTy).Contents (Elt F))
  :: StableHlo.nullary main_cst_7 (constant S_ .f32 0x00000000#32)
  :: StableHlo.binary main_v34 main_cst_7 main_v35 ((fun x v => Host.reduceAdd x v reducesTo_S32x128x3_S32x128_d2 h_S_) : (⟨S32x128x3, .f32⟩ : BufTy).Contents (Elt F) → (⟨S_, .f32⟩ : BufTy).Contents (Elt F) → (⟨S32x128, .f32⟩ : BufTy).Contents (Elt F))
  :: StableHlo.unary main_v35 main_v36 (broadcastInDim S32x128x1 ![0, 1] bcast_S32x128_S32x128x1_0_1 : (⟨S32x128, .f32⟩ : BufTy).Contents (Elt F) → (⟨S32x128x1, .f32⟩ : BufTy).Contents (Elt F))
  :: StableHlo.binary main_v6 main_v6 main_v37 (mulf : (⟨S32x128x3, .f32⟩ : BufTy).Contents (Elt F) → (⟨S32x128x3, .f32⟩ : BufTy).Contents (Elt F) → (⟨S32x128x3, .f32⟩ : BufTy).Contents (Elt F))
  :: StableHlo.nullary main_cst_8 (constant S_ .f32 0x00000000#32)
  :: StableHlo.binary main_v37 main_cst_8 main_v38 ((fun x v => Host.reduceAdd x v reducesTo_S32x128x3_S32x128_d2 h_S_) : (⟨S32x128x3, .f32⟩ : BufTy).Contents (Elt F) → (⟨S_, .f32⟩ : BufTy).Contents (Elt F) → (⟨S32x128, .f32⟩ : BufTy).Contents (Elt F))
  :: StableHlo.unary main_v38 main_v39 (broadcastInDim S32x1x128 ![0, 2] bcast_S32x128_S32x1x128_0_2 : (⟨S32x128, .f32⟩ : BufTy).Contents (Elt F) → (⟨S32x1x128, .f32⟩ : BufTy).Contents (Elt F))
  :: StableHlo.unary main_v36 main_v40 (broadcastInDim S32x128x128 ![0, 1, 2] bcast_S32x128x1_S32x128x128_0_1_2 : (⟨S32x128x1, .f32⟩ : BufTy).Contents (Elt F) → (⟨S32x128x128, .f32⟩ : BufTy).Contents (Elt F))
  :: StableHlo.unary main_v39 main_v41 (broadcastInDim S32x128x128 ![0, 1, 2] bcast_S32x1x128_S32x128x128_0_1_2 : (⟨S32x1x128, .f32⟩ : BufTy).Contents (Elt F) → (⟨S32x128x128, .f32⟩ : BufTy).Contents (Elt F))
  :: StableHlo.binary main_v40 main_v41 main_v42 (addf : (⟨S32x128x128, .f32⟩ : BufTy).Contents (Elt F) → (⟨S32x128x128, .f32⟩ : BufTy).Contents (Elt F) → (⟨S32x128x128, .f32⟩ : BufTy).Contents (Elt F))
  :: StableHlo.binary main_v6 main_v6 main_v43 ((fun l r => Host.dotGeneral dot_S32x128x3_S32x128x3_S32x128x128_2_2_1_1_0_0 none l r) : (⟨S32x128x3, .f32⟩ : BufTy).Contents (Elt F) → (⟨S32x128x3, .f32⟩ : BufTy).Contents (Elt F) → (⟨S32x128x128, .f32⟩ : BufTy).Contents (Elt F))
  :: StableHlo.nullary main_cst_9 (constant S_ .f32 0x40000000#32)
  :: StableHlo.unary main_cst_9 main_v44 (broadcastInDim S32x128x128 ![] bcast_S_S32x128x128 : (⟨S_, .f32⟩ : BufTy).Contents (Elt F) → (⟨S32x128x128, .f32⟩ : BufTy).Contents (Elt F))
  :: StableHlo.binary main_v44 main_v43 main_v45 (mulf : (⟨S32x128x128, .f32⟩ : BufTy).Contents (Elt F) → (⟨S32x128x128, .f32⟩ : BufTy).Contents (Elt F) → (⟨S32x128x128, .f32⟩ : BufTy).Contents (Elt F))
  :: StableHlo.binary main_v42 main_v45 main_v46 (subf : (⟨S32x128x128, .f32⟩ : BufTy).Contents (Elt F) → (⟨S32x128x128, .f32⟩ : BufTy).Contents (Elt F) → (⟨S32x128x128, .f32⟩ : BufTy).Contents (Elt F))
  :: StableHlo.nullary main_cst_10 (constant S_ .f32 0x00000000#32)
  :: StableHlo.unary main_cst_10 main_v47 (broadcastInDim S32x128x128 ![] bcast_S_S32x128x128 : (⟨S_, .f32⟩ : BufTy).Contents (Elt F) → (⟨S32x128x128, .f32⟩ : BufTy).Contents (Elt F))
  :: StableHlo.binary main_v46 main_v47 main_v48 (maximumf : (⟨S32x128x128, .f32⟩ : BufTy).Contents (Elt F) → (⟨S32x128x128, .f32⟩ : BufTy).Contents (Elt F) → (⟨S32x128x128, .f32⟩ : BufTy).Contents (Elt F))
  :: StableHlo.unary main_v48 main_v49 (Host.sqrt : (⟨S32x128x128, .f32⟩ : BufTy).Contents (Elt F) → (⟨S32x128x128, .f32⟩ : BufTy).Contents (Elt F))
  :: StableHlo.nullary main_cst_11 (constant S_ .f32 0x7F800000#32)
  :: [] )
theorem hostOps0_1_sub : (hostOps0_1 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.nullary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub ..⟩
abbrev hostOps0_2 : List (HloOp τ sig (Elt F)) :=
  [ StableHlo.TRef.unary (.of main_cst_11 : StableHlo.TRef sig ⟨S_, .f32⟩) (.of main_call2_v0 : StableHlo.TRef sig ⟨S_, .f32⟩) id,
    StableHlo.TRef.unary (.of main_v33 : StableHlo.TRef sig ⟨S128x128, .i1⟩) (.of main_call2_v1 : StableHlo.TRef sig ⟨S32x128x128, .i1⟩) (broadcastInDim S32x128x128 ![1, 2] bcast_S128x128_S32x128x128_1_2),
    StableHlo.TRef.unary (.of main_call2_v0 : StableHlo.TRef sig ⟨S_, .f32⟩) (.of main_call2_v2 : StableHlo.TRef sig ⟨S32x128x128, .f32⟩) (broadcastInDim S32x128x128 ![] bcast_S_S32x128x128),
    StableHlo.TRef.ternary (.of main_call2_v1 : StableHlo.TRef sig ⟨S32x128x128, .i1⟩) (.of main_call2_v2 : StableHlo.TRef sig ⟨S32x128x128, .f32⟩) (.of main_v49 : StableHlo.TRef sig ⟨S32x128x128, .f32⟩) (.of main_v50 : StableHlo.TRef sig ⟨S32x128x128, .f32⟩) select ]
theorem hostOps0_2_sub : (hostOps0_2 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
abbrev hostOps0_3 : List (HloOp τ sig (Elt F)) :=
  [ StableHlo.nullary main_v51 (iotaInDim S128 32 0),
    StableHlo.nullary main_c_12 (constantI S_ 32 0#32),
    StableHlo.unary main_c_12 main_v52 (broadcastInDim S128 ![] bcast_S_S128 : (⟨S_, .i32⟩ : BufTy).Contents (Elt F) → (⟨S128, .i32⟩ : BufTy).Contents (Elt F)),
    StableHlo.binary main_v51 main_v52 main_v53 (cmpi .eq : (⟨S128, .i32⟩ : BufTy).Contents (Elt F) → (⟨S128, .i32⟩ : BufTy).Contents (Elt F) → (⟨S128, .i1⟩ : BufTy).Contents (Elt F)),
    StableHlo.unary main_v53 main_v54 (broadcastInDim S32x128 ![1] bcast_S128_S32x128_1 : (⟨S128, .i1⟩ : BufTy).Contents (Elt F) → (⟨S32x128, .i1⟩ : BufTy).Contents (Elt F)),
    StableHlo.nullary main_c_13 (constantI S_ 32 0#32),
    StableHlo.unary main_c_13 main_v55 (broadcastInDim S32 ![] bcast_S_S32 : (⟨S_, .i32⟩ : BufTy).Contents (Elt F) → (⟨S32, .i32⟩ : BufTy).Contents (Elt F)),
    StableHlo.nullary main_c_14 (constantI S_ 32 0#32),
    StableHlo.unary main_c_14 main_v56 (broadcastInDim S127x32 ![] bcast_S_S127x32 : (⟨S_, .i32⟩ : BufTy).Contents (Elt F) → (⟨S127x32, .i32⟩ : BufTy).Contents (Elt F)),
    StableHlo.nullary main_c_15 (constantI S_ 32 0#32),
    StableHlo.unary main_v50 main_v57_0 id,
    StableHlo.unary main_c_15 main_v57_1 id,
    StableHlo.unary main_v54 main_v57_2 id,
    StableHlo.unary main_v55 main_v57_3 id,
    StableHlo.unary main_v56 main_v57_4 id ]
theorem hostOps0_3_sub : (hostOps0_3 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
abbrev hostOps0_4 : List (HloOp τ sig (Elt F)) :=
  [ StableHlo.nullary main_c_16 (constantI S_ 32 0#32),
    StableHlo.unary main_c_16 main_v58 (broadcastInDim S32x1 ![] bcast_S_S32x1 : (⟨S_, .i32⟩ : BufTy).Contents (Elt F) → (⟨S32x1, .i32⟩ : BufTy).Contents (Elt F)),
    StableHlo.unary main_v57_4 main_v59 ((transpose S32x127 [1, 0] · transposes_S127x32_S32x127_1_0) : (⟨S127x32, .i32⟩ : BufTy).Contents (Elt F) → (⟨S32x127, .i32⟩ : BufTy).Contents (Elt F)),
    StableHlo.binary main_v58 main_v59 main_v60 ((fun a b => concatenate S32x128 1 [⟨S32x1, a⟩, ⟨S32x127, b⟩] concatenates_S32x1_S32x127_S32x128_d1) : (⟨S32x1, .i32⟩ : BufTy).Contents (Elt F) → (⟨S32x127, .i32⟩ : BufTy).Contents (Elt F) → (⟨S32x128, .i32⟩ : BufTy).Contents (Elt F)),
    StableHlo.unary main_v60 main_v61 (broadcastInDim S32x128x1 ![0, 1] bcast_S32x128_S32x128x1_0_1 : (⟨S32x128, .i32⟩ : BufTy).Contents (Elt F) → (⟨S32x128x1, .i32⟩ : BufTy).Contents (Elt F)),
    StableHlo.binary main_v28 main_v61 main_v62 ((fun x i => Host.gather gather_S32x128x32x3_S32x128x1_S32x128x32x3_23_1_0_0_1_2_11323 x i) : (⟨S32x128x32x3, .f32⟩ : BufTy).Contents (Elt F) → (⟨S32x128x1, .i32⟩ : BufTy).Contents (Elt F) → (⟨S32x128x32x3, .f32⟩ : BufTy).Contents (Elt F)),
    StableHlo.unary main_v60 main_v63 (broadcastInDim S32x128x1 ![0, 1] bcast_S32x128_S32x128x1_0_1 : (⟨S32x128, .i32⟩ : BufTy).Contents (Elt F) → (⟨S32x128x1, .i32⟩ : BufTy).Contents (Elt F)),
    StableHlo.binary main_v6 main_v63 main_v64 ((fun x i => Host.gather gather_S32x128x3_S32x128x1_S32x128x3_2_1_0_0_1_2_113 x i) : (⟨S32x128x3, .f32⟩ : BufTy).Contents (Elt F) → (⟨S32x128x1, .i32⟩ : BufTy).Contents (Elt F) → (⟨S32x128x3, .f32⟩ : BufTy).Contents (Elt F)) ]
theorem hostOps0_4_sub : (hostOps0_4 : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub ..⟩
abbrev main_part0_ops0 : List (HloOp τ sig (Elt F)) :=
  [ StableHlo.nullary main_cst (constant S_ .f32 0x501502F9#32),
    StableHlo.unary main_cst main_v0 (broadcastInDim S32x8192 ![] bcast_S_S32x8192 : (⟨S_, .f32⟩ : BufTy).Contents (Elt F) → (⟨S32x8192, .f32⟩ : BufTy).Contents (Elt F)),
    StableHlo.nullary main_c (constantI S_ 32 0#32),
    StableHlo.unary main_c main_v1 (broadcastInDim S32 ![] bcast_S_S32 : (⟨S_, .i32⟩ : BufTy).Contents (Elt F) → (⟨S32, .i32⟩ : BufTy).Contents (Elt F)),
    StableHlo.nullary main_c_0 (constantI S_ 32 0#32),
    StableHlo.unary main_c_0 main_v2 (broadcastInDim S128x32 ![] bcast_S_S128x32 : (⟨S_, .i32⟩ : BufTy).Contents (Elt F) → (⟨S128x32, .i32⟩ : BufTy).Contents (Elt F)),
    StableHlo.nullary main_c_1 (constantI S_ 32 0#32),
    StableHlo.unary main_arg0 main_v3_0 id,
    StableHlo.unary main_c_1 main_v3_1 id,
    StableHlo.unary main_v0 main_v3_2 id,
    StableHlo.unary main_v1 main_v3_3 id,
    StableHlo.unary main_v2 main_v3_4 id ]
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
abbrev main_part0_ops1 : List (HloOp τ sig (Elt F)) :=
  ( StableHlo.unary main_v3_4 main_v4 ((transpose S32x128 [1, 0] · transposes_S128x32_S32x128_1_0) : (⟨S128x32, .i32⟩ : BufTy).Contents (Elt F) → (⟨S32x128, .i32⟩ : BufTy).Contents (Elt F))
  :: StableHlo.unary main_v4 main_v5 (broadcastInDim S32x128x1 ![0, 1] bcast_S32x128_S32x128x1_0_1 : (⟨S32x128, .i32⟩ : BufTy).Contents (Elt F) → (⟨S32x128x1, .i32⟩ : BufTy).Contents (Elt F))
  :: StableHlo.binary main_arg0 main_v5 main_v6 ((fun x i => Host.gather gather_S32x8192x3_S32x128x1_S32x128x3_2_1_0_0_1_2_113 x i) : (⟨S32x8192x3, .f32⟩ : BufTy).Contents (Elt F) → (⟨S32x128x1, .i32⟩ : BufTy).Contents (Elt F) → (⟨S32x128x3, .f32⟩ : BufTy).Contents (Elt F))
  :: StableHlo.binary main_v6 main_v6 main_v7 (mulf : (⟨S32x128x3, .f32⟩ : BufTy).Contents (Elt F) → (⟨S32x128x3, .f32⟩ : BufTy).Contents (Elt F) → (⟨S32x128x3, .f32⟩ : BufTy).Contents (Elt F))
  :: StableHlo.nullary main_cst_2 (constant S_ .f32 0x00000000#32)
  :: StableHlo.binary main_v7 main_cst_2 main_v8 ((fun x v => Host.reduceAdd x v reducesTo_S32x128x3_S32x128_d2 h_S_) : (⟨S32x128x3, .f32⟩ : BufTy).Contents (Elt F) → (⟨S_, .f32⟩ : BufTy).Contents (Elt F) → (⟨S32x128, .f32⟩ : BufTy).Contents (Elt F))
  :: StableHlo.unary main_v8 main_v9 (broadcastInDim S32x128x1 ![0, 1] bcast_S32x128_S32x128x1_0_1 : (⟨S32x128, .f32⟩ : BufTy).Contents (Elt F) → (⟨S32x128x1, .f32⟩ : BufTy).Contents (Elt F))
  :: StableHlo.binary main_arg0 main_arg0 main_v10 (mulf : (⟨S32x8192x3, .f32⟩ : BufTy).Contents (Elt F) → (⟨S32x8192x3, .f32⟩ : BufTy).Contents (Elt F) → (⟨S32x8192x3, .f32⟩ : BufTy).Contents (Elt F))
  :: StableHlo.nullary main_cst_3 (constant S_ .f32 0x00000000#32)
  :: StableHlo.binary main_v10 main_cst_3 main_v11 ((fun x v => Host.reduceAdd x v reducesTo_S32x8192x3_S32x8192_d2 h_S_) : (⟨S32x8192x3, .f32⟩ : BufTy).Contents (Elt F) → (⟨S_, .f32⟩ : BufTy).Contents (Elt F) → (⟨S32x8192, .f32⟩ : BufTy).Contents (Elt F))
  :: StableHlo.unary main_v11 main_v12 (broadcastInDim S32x1x8192 ![0, 2] bcast_S32x8192_S32x1x8192_0_2 : (⟨S32x8192, .f32⟩ : BufTy).Contents (Elt F) → (⟨S32x1x8192, .f32⟩ : BufTy).Contents (Elt F))
  :: StableHlo.unary main_v9 main_v13 (broadcastInDim S32x128x8192 ![0, 1, 2] bcast_S32x128x1_S32x128x8192_0_1_2 : (⟨S32x128x1, .f32⟩ : BufTy).Contents (Elt F) → (⟨S32x128x8192, .f32⟩ : BufTy).Contents (Elt F))
  :: StableHlo.unary main_v12 main_v14 (broadcastInDim S32x128x8192 ![0, 1, 2] bcast_S32x1x8192_S32x128x8192_0_1_2 : (⟨S32x1x8192, .f32⟩ : BufTy).Contents (Elt F) → (⟨S32x128x8192, .f32⟩ : BufTy).Contents (Elt F))
  :: StableHlo.binary main_v13 main_v14 main_v15 (addf : (⟨S32x128x8192, .f32⟩ : BufTy).Contents (Elt F) → (⟨S32x128x8192, .f32⟩ : BufTy).Contents (Elt F) → (⟨S32x128x8192, .f32⟩ : BufTy).Contents (Elt F))
  :: StableHlo.binary main_v6 main_arg0 main_v16 ((fun l r => Host.dotGeneral dot_S32x128x3_S32x8192x3_S32x128x8192_2_2_1_1_0_0 none l r) : (⟨S32x128x3, .f32⟩ : BufTy).Contents (Elt F) → (⟨S32x8192x3, .f32⟩ : BufTy).Contents (Elt F) → (⟨S32x128x8192, .f32⟩ : BufTy).Contents (Elt F))
  :: StableHlo.nullary main_cst_4 (constant S_ .f32 0x40000000#32)
  :: StableHlo.unary main_cst_4 main_v17 (broadcastInDim S32x128x8192 ![] bcast_S_S32x128x8192 : (⟨S_, .f32⟩ : BufTy).Contents (Elt F) → (⟨S32x128x8192, .f32⟩ : BufTy).Contents (Elt F))
  :: StableHlo.binary main_v17 main_v16 main_v18 (mulf : (⟨S32x128x8192, .f32⟩ : BufTy).Contents (Elt F) → (⟨S32x128x8192, .f32⟩ : BufTy).Contents (Elt F) → (⟨S32x128x8192, .f32⟩ : BufTy).Contents (Elt F))
  :: StableHlo.binary main_v15 main_v18 main_v19 (subf : (⟨S32x128x8192, .f32⟩ : BufTy).Contents (Elt F) → (⟨S32x128x8192, .f32⟩ : BufTy).Contents (Elt F) → (⟨S32x128x8192, .f32⟩ : BufTy).Contents (Elt F))
  :: StableHlo.nullary main_cst_5 (constant S_ .f32 0x00000000#32)
  :: StableHlo.unary main_cst_5 main_v20 (broadcastInDim S32x128x8192 ![] bcast_S_S32x128x8192 : (⟨S_, .f32⟩ : BufTy).Contents (Elt F) → (⟨S32x128x8192, .f32⟩ : BufTy).Contents (Elt F))
  :: StableHlo.binary main_v19 main_v20 main_v21 (maximumf : (⟨S32x128x8192, .f32⟩ : BufTy).Contents (Elt F) → (⟨S32x128x8192, .f32⟩ : BufTy).Contents (Elt F) → (⟨S32x128x8192, .f32⟩ : BufTy).Contents (Elt F))
  :: StableHlo.unary main_v21 main_v22 (Host.sqrt : (⟨S32x128x8192, .f32⟩ : BufTy).Contents (Elt F) → (⟨S32x128x8192, .f32⟩ : BufTy).Contents (Elt F))
  :: StableHlo.unary main_v22 main_v23 (Host.negf : (⟨S32x128x8192, .f32⟩ : BufTy).Contents (Elt F) → (⟨S32x128x8192, .f32⟩ : BufTy).Contents (Elt F))
  :: StableHlo.unary main_v23 main_values ((fun x => (Host.topK S32x128x32 2 (FloatOps.cmpfTotal .gt) x sliceFits_S32x128x8192_S32x128x32).1) : (⟨S32x128x8192, .f32⟩ : BufTy).Contents (Elt F) → (⟨S32x128x32, .f32⟩ : BufTy).Contents (Elt F))
  :: StableHlo.unary main_v23 main_indices ((fun x => (Host.topK S32x128x32 2 (FloatOps.cmpfTotal .gt) x sliceFits_S32x128x8192_S32x128x32).2) : (⟨S32x128x8192, .f32⟩ : BufTy).Contents (Elt F) → (⟨S32x128x32, .i32⟩ : BufTy).Contents (Elt F))
  :: StableHlo.unary main_indices main_v24 (broadcastInDim S32x128x32x1 ![0, 1, 2] bcast_S32x128x32_S32x128x32x1_0_1_2 : (⟨S32x128x32, .i32⟩ : BufTy).Contents (Elt F) → (⟨S32x128x32x1, .i32⟩ : BufTy).Contents (Elt F))
  :: StableHlo.binary main_arg0 main_v24 main_v25 ((fun x i => Host.gather gather_S32x8192x3_S32x128x32x1_S32x128x32x3_3_1_0_0_1_3_113 x i) : (⟨S32x8192x3, .f32⟩ : BufTy).Contents (Elt F) → (⟨S32x128x32x1, .i32⟩ : BufTy).Contents (Elt F) → (⟨S32x128x32x3, .f32⟩ : BufTy).Contents (Elt F))
  :: StableHlo.unary main_v6 main_v26 (broadcastInDim S32x128x1x3 ![0, 1, 3] bcast_S32x128x3_S32x128x1x3_0_1_3 : (⟨S32x128x3, .f32⟩ : BufTy).Contents (Elt F) → (⟨S32x128x1x3, .f32⟩ : BufTy).Contents (Elt F))
  :: StableHlo.unary main_v26 main_v27 (broadcastInDim S32x128x32x3 ![0, 1, 2, 3] bcast_S32x128x1x3_S32x128x32x3_0_1_2_3 : (⟨S32x128x1x3, .f32⟩ : BufTy).Contents (Elt F) → (⟨S32x128x32x3, .f32⟩ : BufTy).Contents (Elt F))
  :: StableHlo.binary main_v25 main_v27 main_v28 (subf : (⟨S32x128x32x3, .f32⟩ : BufTy).Contents (Elt F) → (⟨S32x128x32x3, .f32⟩ : BufTy).Contents (Elt F) → (⟨S32x128x32x3, .f32⟩ : BufTy).Contents (Elt F))
  :: StableHlo.nullary main_v29 (iotaInDim S128x128 32 0)
  :: StableHlo.nullary main_v30 (iotaInDim S128x128 32 1)
  :: StableHlo.nullary main_c_6 (constantI S_ 32 0#32)
  :: StableHlo.unary main_c_6 main_v31 (broadcastInDim S128x128 ![] bcast_S_S128x128 : (⟨S_, .i32⟩ : BufTy).Contents (Elt F) → (⟨S128x128, .i32⟩ : BufTy).Contents (Elt F))
  :: StableHlo.binary main_v29 main_v31 main_v32 (addi : (⟨S128x128, .i32⟩ : BufTy).Contents (Elt F) → (⟨S128x128, .i32⟩ : BufTy).Contents (Elt F) → (⟨S128x128, .i32⟩ : BufTy).Contents (Elt F))
  :: StableHlo.binary main_v32 main_v30 main_v33 (cmpi .eq : (⟨S128x128, .i32⟩ : BufTy).Contents (Elt F) → (⟨S128x128, .i32⟩ : BufTy).Contents (Elt F) → (⟨S128x128, .i1⟩ : BufTy).Contents (Elt F))
  :: StableHlo.binary main_v6 main_v6 main_v34 (mulf : (⟨S32x128x3, .f32⟩ : BufTy).Contents (Elt F) → (⟨S32x128x3, .f32⟩ : BufTy).Contents (Elt F) → (⟨S32x128x3, .f32⟩ : BufTy).Contents (Elt F))
  :: StableHlo.nullary main_cst_7 (constant S_ .f32 0x00000000#32)
  :: StableHlo.binary main_v34 main_cst_7 main_v35 ((fun x v => Host.reduceAdd x v reducesTo_S32x128x3_S32x128_d2 h_S_) : (⟨S32x128x3, .f32⟩ : BufTy).Contents (Elt F) → (⟨S_, .f32⟩ : BufTy).Contents (Elt F) → (⟨S32x128, .f32⟩ : BufTy).Contents (Elt F))
  :: StableHlo.unary main_v35 main_v36 (broadcastInDim S32x128x1 ![0, 1] bcast_S32x128_S32x128x1_0_1 : (⟨S32x128, .f32⟩ : BufTy).Contents (Elt F) → (⟨S32x128x1, .f32⟩ : BufTy).Contents (Elt F))
  :: StableHlo.binary main_v6 main_v6 main_v37 (mulf : (⟨S32x128x3, .f32⟩ : BufTy).Contents (Elt F) → (⟨S32x128x3, .f32⟩ : BufTy).Contents (Elt F) → (⟨S32x128x3, .f32⟩ : BufTy).Contents (Elt F))
  :: StableHlo.nullary main_cst_8 (constant S_ .f32 0x00000000#32)
  :: StableHlo.binary main_v37 main_cst_8 main_v38 ((fun x v => Host.reduceAdd x v reducesTo_S32x128x3_S32x128_d2 h_S_) : (⟨S32x128x3, .f32⟩ : BufTy).Contents (Elt F) → (⟨S_, .f32⟩ : BufTy).Contents (Elt F) → (⟨S32x128, .f32⟩ : BufTy).Contents (Elt F))
  :: StableHlo.unary main_v38 main_v39 (broadcastInDim S32x1x128 ![0, 2] bcast_S32x128_S32x1x128_0_2 : (⟨S32x128, .f32⟩ : BufTy).Contents (Elt F) → (⟨S32x1x128, .f32⟩ : BufTy).Contents (Elt F))
  :: StableHlo.unary main_v36 main_v40 (broadcastInDim S32x128x128 ![0, 1, 2] bcast_S32x128x1_S32x128x128_0_1_2 : (⟨S32x128x1, .f32⟩ : BufTy).Contents (Elt F) → (⟨S32x128x128, .f32⟩ : BufTy).Contents (Elt F))
  :: StableHlo.unary main_v39 main_v41 (broadcastInDim S32x128x128 ![0, 1, 2] bcast_S32x1x128_S32x128x128_0_1_2 : (⟨S32x1x128, .f32⟩ : BufTy).Contents (Elt F) → (⟨S32x128x128, .f32⟩ : BufTy).Contents (Elt F))
  :: [] )
theorem main_part0_ops1_sub : (main_part0_ops1 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.nullary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub ..⟩
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

abbrev main_part1_ops0 : List (HloOp τ sig (Elt F)) :=
  [ StableHlo.binary main_v40 main_v41 main_v42 (addf : (⟨S32x128x128, .f32⟩ : BufTy).Contents (Elt F) → (⟨S32x128x128, .f32⟩ : BufTy).Contents (Elt F) → (⟨S32x128x128, .f32⟩ : BufTy).Contents (Elt F)),
    StableHlo.binary main_v6 main_v6 main_v43 ((fun l r => Host.dotGeneral dot_S32x128x3_S32x128x3_S32x128x128_2_2_1_1_0_0 none l r) : (⟨S32x128x3, .f32⟩ : BufTy).Contents (Elt F) → (⟨S32x128x3, .f32⟩ : BufTy).Contents (Elt F) → (⟨S32x128x128, .f32⟩ : BufTy).Contents (Elt F)),
    StableHlo.nullary main_cst_9 (constant S_ .f32 0x40000000#32),
    StableHlo.unary main_cst_9 main_v44 (broadcastInDim S32x128x128 ![] bcast_S_S32x128x128 : (⟨S_, .f32⟩ : BufTy).Contents (Elt F) → (⟨S32x128x128, .f32⟩ : BufTy).Contents (Elt F)),
    StableHlo.binary main_v44 main_v43 main_v45 (mulf : (⟨S32x128x128, .f32⟩ : BufTy).Contents (Elt F) → (⟨S32x128x128, .f32⟩ : BufTy).Contents (Elt F) → (⟨S32x128x128, .f32⟩ : BufTy).Contents (Elt F)),
    StableHlo.binary main_v42 main_v45 main_v46 (subf : (⟨S32x128x128, .f32⟩ : BufTy).Contents (Elt F) → (⟨S32x128x128, .f32⟩ : BufTy).Contents (Elt F) → (⟨S32x128x128, .f32⟩ : BufTy).Contents (Elt F)),
    StableHlo.nullary main_cst_10 (constant S_ .f32 0x00000000#32),
    StableHlo.unary main_cst_10 main_v47 (broadcastInDim S32x128x128 ![] bcast_S_S32x128x128 : (⟨S_, .f32⟩ : BufTy).Contents (Elt F) → (⟨S32x128x128, .f32⟩ : BufTy).Contents (Elt F)),
    StableHlo.binary main_v46 main_v47 main_v48 (maximumf : (⟨S32x128x128, .f32⟩ : BufTy).Contents (Elt F) → (⟨S32x128x128, .f32⟩ : BufTy).Contents (Elt F) → (⟨S32x128x128, .f32⟩ : BufTy).Contents (Elt F)),
    StableHlo.unary main_v48 main_v49 (Host.sqrt : (⟨S32x128x128, .f32⟩ : BufTy).Contents (Elt F) → (⟨S32x128x128, .f32⟩ : BufTy).Contents (Elt F)),
    StableHlo.nullary main_cst_11 (constant S_ .f32 0x7F800000#32) ]
theorem main_part1_ops0_sub : (main_part1_ops0 : List (HloOp τ sig (Elt F))).Forall fun op => op.bufs ⊆ StableHlo.tcRefs τ sig :=
  ⟨StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub ..⟩
abbrev main_part1_ops1 : List (HloOp τ sig (Elt F)) :=
  [ StableHlo.TRef.unary (.of main_cst_11 : StableHlo.TRef sig ⟨S_, .f32⟩) (.of main_call2_v0 : StableHlo.TRef sig ⟨S_, .f32⟩) id,
    StableHlo.TRef.unary (.of main_v33 : StableHlo.TRef sig ⟨S128x128, .i1⟩) (.of main_call2_v1 : StableHlo.TRef sig ⟨S32x128x128, .i1⟩) (broadcastInDim S32x128x128 ![1, 2] bcast_S128x128_S32x128x128_1_2),
    StableHlo.TRef.unary (.of main_call2_v0 : StableHlo.TRef sig ⟨S_, .f32⟩) (.of main_call2_v2 : StableHlo.TRef sig ⟨S32x128x128, .f32⟩) (broadcastInDim S32x128x128 ![] bcast_S_S32x128x128),
    StableHlo.TRef.ternary (.of main_call2_v1 : StableHlo.TRef sig ⟨S32x128x128, .i1⟩) (.of main_call2_v2 : StableHlo.TRef sig ⟨S32x128x128, .f32⟩) (.of main_v49 : StableHlo.TRef sig ⟨S32x128x128, .f32⟩) (.of main_v50 : StableHlo.TRef sig ⟨S32x128x128, .f32⟩) select ]
theorem main_part1_ops1_sub : (main_part1_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
abbrev main_part1_ops2 : List (HloOp τ sig (Elt F)) :=
  [ StableHlo.nullary main_v51 (iotaInDim S128 32 0),
    StableHlo.nullary main_c_12 (constantI S_ 32 0#32),
    StableHlo.unary main_c_12 main_v52 (broadcastInDim S128 ![] bcast_S_S128 : (⟨S_, .i32⟩ : BufTy).Contents (Elt F) → (⟨S128, .i32⟩ : BufTy).Contents (Elt F)),
    StableHlo.binary main_v51 main_v52 main_v53 (cmpi .eq : (⟨S128, .i32⟩ : BufTy).Contents (Elt F) → (⟨S128, .i32⟩ : BufTy).Contents (Elt F) → (⟨S128, .i1⟩ : BufTy).Contents (Elt F)),
    StableHlo.unary main_v53 main_v54 (broadcastInDim S32x128 ![1] bcast_S128_S32x128_1 : (⟨S128, .i1⟩ : BufTy).Contents (Elt F) → (⟨S32x128, .i1⟩ : BufTy).Contents (Elt F)),
    StableHlo.nullary main_c_13 (constantI S_ 32 0#32),
    StableHlo.unary main_c_13 main_v55 (broadcastInDim S32 ![] bcast_S_S32 : (⟨S_, .i32⟩ : BufTy).Contents (Elt F) → (⟨S32, .i32⟩ : BufTy).Contents (Elt F)),
    StableHlo.nullary main_c_14 (constantI S_ 32 0#32),
    StableHlo.unary main_c_14 main_v56 (broadcastInDim S127x32 ![] bcast_S_S127x32 : (⟨S_, .i32⟩ : BufTy).Contents (Elt F) → (⟨S127x32, .i32⟩ : BufTy).Contents (Elt F)),
    StableHlo.nullary main_c_15 (constantI S_ 32 0#32),
    StableHlo.unary main_v50 main_v57_0 id,
    StableHlo.unary main_c_15 main_v57_1 id,
    StableHlo.unary main_v54 main_v57_2 id,
    StableHlo.unary main_v55 main_v57_3 id,
    StableHlo.unary main_v56 main_v57_4 id ]
theorem main_part1_ops2_sub : (main_part1_ops2 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
abbrev main_part1_ops3 : List (HloOp τ sig (Elt F)) :=
  [ StableHlo.nullary main_c_16 (constantI S_ 32 0#32),
    StableHlo.unary main_c_16 main_v58 (broadcastInDim S32x1 ![] bcast_S_S32x1 : (⟨S_, .i32⟩ : BufTy).Contents (Elt F) → (⟨S32x1, .i32⟩ : BufTy).Contents (Elt F)),
    StableHlo.unary main_v57_4 main_v59 ((transpose S32x127 [1, 0] · transposes_S127x32_S32x127_1_0) : (⟨S127x32, .i32⟩ : BufTy).Contents (Elt F) → (⟨S32x127, .i32⟩ : BufTy).Contents (Elt F)),
    StableHlo.binary main_v58 main_v59 main_v60 ((fun a b => concatenate S32x128 1 [⟨S32x1, a⟩, ⟨S32x127, b⟩] concatenates_S32x1_S32x127_S32x128_d1) : (⟨S32x1, .i32⟩ : BufTy).Contents (Elt F) → (⟨S32x127, .i32⟩ : BufTy).Contents (Elt F) → (⟨S32x128, .i32⟩ : BufTy).Contents (Elt F)),
    StableHlo.unary main_v60 main_v61 (broadcastInDim S32x128x1 ![0, 1] bcast_S32x128_S32x128x1_0_1 : (⟨S32x128, .i32⟩ : BufTy).Contents (Elt F) → (⟨S32x128x1, .i32⟩ : BufTy).Contents (Elt F)),
    StableHlo.binary main_v28 main_v61 main_v62 ((fun x i => Host.gather gather_S32x128x32x3_S32x128x1_S32x128x32x3_23_1_0_0_1_2_11323 x i) : (⟨S32x128x32x3, .f32⟩ : BufTy).Contents (Elt F) → (⟨S32x128x1, .i32⟩ : BufTy).Contents (Elt F) → (⟨S32x128x32x3, .f32⟩ : BufTy).Contents (Elt F)),
    StableHlo.unary main_v60 main_v63 (broadcastInDim S32x128x1 ![0, 1] bcast_S32x128_S32x128x1_0_1 : (⟨S32x128, .i32⟩ : BufTy).Contents (Elt F) → (⟨S32x128x1, .i32⟩ : BufTy).Contents (Elt F)),
    StableHlo.binary main_v6 main_v63 main_v64 ((fun x i => Host.gather gather_S32x128x3_S32x128x1_S32x128x3_2_1_0_0_1_2_113 x i) : (⟨S32x128x3, .f32⟩ : BufTy).Contents (Elt F) → (⟨S32x128x1, .i32⟩ : BufTy).Contents (Elt F) → (⟨S32x128x3, .f32⟩ : BufTy).Contents (Elt F)) ]
theorem main_part1_ops3_sub : (main_part1_ops3 : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub ..⟩
theorem main_part1_chain (c : Dev nD) : main_part1 (F := F) c = (Pipeline.chain
  [ StableHlo.seq main_part1_ops0,
    StableHlo.seq main_part1_ops1,
    StableHlo.seq main_part1_ops2,
    HostLoop.enter 1,
    StableHlo.seq main_part1_ops3 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

theorem main_chain_windows (c : Dev nD) : main (F := F) c = (Pipeline.chain
  [ StableHlo.seq main_part0_ops0,
    HostLoop.enter 0,
    StableHlo.seq main_part0_ops1,
    StableHlo.seq main_part1_ops0,
    StableHlo.seq main_part1_ops1,
    StableHlo.seq main_part1_ops2,
    HostLoop.enter 1,
    StableHlo.seq main_part1_ops3 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

abbrev main_groups (c : Dev nD) : List (StableHlo.Group nD τ sig (Elt F) (HostLoop.Sig (Pipeline.Sig Λ₀ (Fin 0) fun p => (pcfgs (F := F) p).Adm) 2)) :=
  [ .ops [main_part0_ops0],
    .prog (HostLoop.enter 0),
    .ops [main_part0_ops1, main_part1_ops0],
    .ops [main_part1_ops1],
    .ops [main_part1_ops2],
    .prog (HostLoop.enter 1),
    .ops [main_part1_ops3] ]

theorem main_chain_cut (c : Dev nD) : (Pipeline.chain
  [ StableHlo.seq main_part0_ops0,
    HostLoop.enter 0,
    StableHlo.seq main_part0_ops1,
    StableHlo.seq main_part1_ops0,
    StableHlo.seq main_part1_ops1,
    StableHlo.seq main_part1_ops2,
    HostLoop.enter 1,
    StableHlo.seq main_part1_ops3 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    HostLoop.enter 1,
    StableHlo.seq hostOps0_4 ] : Prog (TpuEff nD τ sig (Elt F) (HostLoop.Sig (Pipeline.Sig Λ₀ (Fin 0) fun p => (pcfgs (F := F) p).Adm) 2) .tc) PUnit) := by
  chain_rfl

theorem main_chain (c : Dev nD) : main (F := F) c = (Pipeline.chain
  [ StableHlo.seq hostOps0,
    HostLoop.enter 0,
    StableHlo.seq hostOps0_1,
    StableHlo.seq hostOps0_2,
    StableHlo.seq hostOps0_3,
    HostLoop.enter 1,
    StableHlo.seq hostOps0_4 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

abbrev while0Ops0 : List (HloOp τ sig (Elt F)) :=
  [ StableHlo.unary main_v3_3 main_while0b_v65 (broadcastInDim S32x1 ![0] bcast_S32_S32x1_0 : (⟨S32, .i32⟩ : BufTy).Contents (Elt F) → (⟨S32x1, .i32⟩ : BufTy).Contents (Elt F)),
    StableHlo.unary main_while0b_v65 main_while0b_v66 (broadcastInDim S32x1x1 ![0, 1] bcast_S32x1_S32x1x1_0_1 : (⟨S32x1, .i32⟩ : BufTy).Contents (Elt F) → (⟨S32x1x1, .i32⟩ : BufTy).Contents (Elt F)),
    StableHlo.binary main_v3_0 main_while0b_v66 main_while0b_v67 ((fun x i => Host.gather gather_S32x8192x3_S32x1x1_S32x1x3_2_1_0_0_1_2_113 x i) : (⟨S32x8192x3, .f32⟩ : BufTy).Contents (Elt F) → (⟨S32x1x1, .i32⟩ : BufTy).Contents (Elt F) → (⟨S32x1x3, .f32⟩ : BufTy).Contents (Elt F)),
    StableHlo.unary main_while0b_v67 main_while0b_v68 (broadcastInDim S32x8192x3 ![0, 1, 2] bcast_S32x1x3_S32x8192x3_0_1_2 : (⟨S32x1x3, .f32⟩ : BufTy).Contents (Elt F) → (⟨S32x8192x3, .f32⟩ : BufTy).Contents (Elt F)),
    StableHlo.binary main_v3_0 main_while0b_v68 main_while0b_v69 (subf : (⟨S32x8192x3, .f32⟩ : BufTy).Contents (Elt F) → (⟨S32x8192x3, .f32⟩ : BufTy).Contents (Elt F) → (⟨S32x8192x3, .f32⟩ : BufTy).Contents (Elt F)),
    StableHlo.binary main_while0b_v69 main_while0b_v69 main_while0b_v70 (mulf : (⟨S32x8192x3, .f32⟩ : BufTy).Contents (Elt F) → (⟨S32x8192x3, .f32⟩ : BufTy).Contents (Elt F) → (⟨S32x8192x3, .f32⟩ : BufTy).Contents (Elt F)),
    StableHlo.nullary main_while0b_cst_21 (constant S_ .f32 0x00000000#32),
    StableHlo.binary main_while0b_v70 main_while0b_cst_21 main_while0b_v71 ((fun x v => Host.reduceAdd x v reducesTo_S32x8192x3_S32x8192_d2 h_S_) : (⟨S32x8192x3, .f32⟩ : BufTy).Contents (Elt F) → (⟨S_, .f32⟩ : BufTy).Contents (Elt F) → (⟨S32x8192, .f32⟩ : BufTy).Contents (Elt F)),
    StableHlo.binary main_v3_2 main_while0b_v71 main_while0b_v72 (minimumf : (⟨S32x8192, .f32⟩ : BufTy).Contents (Elt F) → (⟨S32x8192, .f32⟩ : BufTy).Contents (Elt F) → (⟨S32x8192, .f32⟩ : BufTy).Contents (Elt F)) ]
theorem while0Ops0_sub : (while0Ops0 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.binary_bufs_sub ..⟩
abbrev while0Ops0_1 : List (HloOp τ sig (Elt F)) :=
  [ StableHlo.TRef.nullary (.of main_while0b_call0_v0 : StableHlo.TRef sig ⟨S32x8192, .i32⟩) (iotaInDim S32x8192 32 1),
    StableHlo.TRef.nullary (.of main_while0b_call0_cst : StableHlo.TRef sig ⟨S_, .f32⟩) (constant S_ .f32 0xFF800000#32),
    StableHlo.TRef.nullary (.of main_while0b_call0_c : StableHlo.TRef sig ⟨S_, .i32⟩) (constantI S_ 32 0#32),
    StableHlo.TRef.quaternary (.of main_while0b_v72 : StableHlo.TRef sig ⟨S32x8192, .f32⟩) (.of main_while0b_call0_v0 : StableHlo.TRef sig ⟨S32x8192, .i32⟩) (.of main_while0b_call0_cst : StableHlo.TRef sig ⟨S_, .f32⟩) (.of main_while0b_call0_c : StableHlo.TRef sig ⟨S_, .i32⟩) (.of main_while0b_call0_v1_0 : StableHlo.TRef sig ⟨S32, .f32⟩) (fun x y u v j => (Host.argReduce reducer_argmax_f32_i32 x y u v reducesTo_S32x8192_S32_d1 h_S_ j).1),
    StableHlo.TRef.quaternary (.of main_while0b_v72 : StableHlo.TRef sig ⟨S32x8192, .f32⟩) (.of main_while0b_call0_v0 : StableHlo.TRef sig ⟨S32x8192, .i32⟩) (.of main_while0b_call0_cst : StableHlo.TRef sig ⟨S_, .f32⟩) (.of main_while0b_call0_c : StableHlo.TRef sig ⟨S_, .i32⟩) (.of main_while0b_v73 : StableHlo.TRef sig ⟨S32, .i32⟩) (fun x y u v j => (Host.argReduce reducer_argmax_f32_i32 x y u v reducesTo_S32x8192_S32_d1 h_S_ j).2) ]
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
abbrev while0Ops0_2 : List (HloOp τ sig (Elt F)) :=
  [ StableHlo.TRef.unary (.of main_v3_3 : StableHlo.TRef sig ⟨S32, .i32⟩) (.of main_while0b_call1_v0 : StableHlo.TRef sig ⟨S1x32, .i32⟩) (broadcastInDim S1x32 ![1] bcast_S32_S1x32_1),
    StableHlo.TRef.nullary (.of main_while0b_call1_c : StableHlo.TRef sig ⟨S_, .i32⟩) (constantI S_ 32 0#32),
    StableHlo.TRef.binaryIndexed (.of main_v3_4 : StableHlo.TRef sig ⟨S128x32, .i32⟩) (.of main_while0b_call1_v0 : StableHlo.TRef sig ⟨S1x32, .i32⟩) ![(.of main_v3_1 : StableHlo.TRef sig ⟨S_, .i32⟩), (.of main_while0b_call1_c : StableHlo.TRef sig ⟨S_, .i32⟩)] (.of main_while0b_v74 : StableHlo.TRef sig ⟨S128x32, .i32⟩) (fun x u i => Host.dynamicUpdateSlice x u (fun k => (i k (Shape.Idx.first h_S_)).toInt) updateFits_S128x32_S1x32) ]
theorem while0Ops0_2_sub : (while0Ops0_2 : List (HloOp τ sig (Elt F))).Forall fun op => op.bufs ⊆ StableHlo.tcRefs τ sig :=
  ⟨StableHlo.unary_bufs_sub .., StableHlo.nullary_bufs_sub .., StableHlo.binaryIndexed_bufs_sub ..⟩
abbrev while0Ops0_3 : List (HloOp τ sig (Elt F)) :=
  [ StableHlo.nullary main_while0b_c_22 (constantI S_ 32 1#32),
    StableHlo.binary main_v3_1 main_while0b_c_22 main_while0b_v75 (addi : (⟨S_, .i32⟩ : BufTy).Contents (Elt F) → (⟨S_, .i32⟩ : BufTy).Contents (Elt F) → (⟨S_, .i32⟩ : BufTy).Contents (Elt F)),
    StableHlo.unary main_while0b_v75 main_v3_1 id,
    StableHlo.unary main_while0b_v72 main_v3_2 id,
    StableHlo.unary main_while0b_v73 main_v3_3 id,
    StableHlo.unary main_while0b_v74 main_v3_4 id ]
theorem while0Ops0_3_sub : (while0Ops0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem while0_body_chain : main_while0_body (F := F) = (Pipeline.chain
  [ StableHlo.seq while0Ops0,
    StableHlo.seq while0Ops0_1,
    StableHlo.seq while0Ops0_2,
    StableHlo.seq while0Ops0_3 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, StableHlo.chain_seq_cons]
  chain_rfl

abbrev while1Ops0 : List (HloOp τ sig (Elt F)) :=
  [ StableHlo.unary main_v57_3 main_while1b_v65 (broadcastInDim S32x1 ![0] bcast_S32_S32x1_0 : (⟨S32, .i32⟩ : BufTy).Contents (Elt F) → (⟨S32x1, .i32⟩ : BufTy).Contents (Elt F)),
    StableHlo.unary main_while1b_v65 main_while1b_v66 (broadcastInDim S32x1x1 ![0, 1] bcast_S32x1_S32x1x1_0_1 : (⟨S32x1, .i32⟩ : BufTy).Contents (Elt F) → (⟨S32x1x1, .i32⟩ : BufTy).Contents (Elt F)),
    StableHlo.binary main_v57_0 main_while1b_v66 main_while1b_v67 ((fun x i => Host.gather gather_S32x128x128_S32x1x1_S32x1x128_2_1_0_0_1_2_11128 x i) : (⟨S32x128x128, .f32⟩ : BufTy).Contents (Elt F) → (⟨S32x1x1, .i32⟩ : BufTy).Contents (Elt F) → (⟨S32x1x128, .f32⟩ : BufTy).Contents (Elt F)),
    StableHlo.reshape main_while1b_v67 main_while1b_v68 (rfl : (.f32 : EltTy) = .f32) shapeCasts_S32x1x128_S32x128,
    StableHlo.nullary main_while1b_cst_21 (constant S_ .f32 0x7F800000#32) ]
theorem while1Ops0_sub : (while1Ops0 : List (HloOp τ sig (Elt F))).Forall fun op => op.bufs ⊆ StableHlo.tcRefs τ sig :=
  ⟨StableHlo.unary_bufs_sub .., StableHlo.unary_bufs_sub .., StableHlo.binary_bufs_sub .., StableHlo.reshape_bufs_sub .., StableHlo.nullary_bufs_sub ..⟩
abbrev while1Ops0_1 : List (HloOp τ sig (Elt F)) :=
  [ StableHlo.TRef.unary (.of main_while1b_cst_21 : StableHlo.TRef sig ⟨S_, .f32⟩) (.of main_while1b_call3_v0 : StableHlo.TRef sig ⟨S_, .f32⟩) id,
    StableHlo.TRef.unary (.of main_while1b_call3_v0 : StableHlo.TRef sig ⟨S_, .f32⟩) (.of main_while1b_call3_v1 : StableHlo.TRef sig ⟨S32x128, .f32⟩) (broadcastInDim S32x128 ![] bcast_S_S32x128),
    StableHlo.TRef.ternary (.of main_v57_2 : StableHlo.TRef sig ⟨S32x128, .i1⟩) (.of main_while1b_call3_v1 : StableHlo.TRef sig ⟨S32x128, .f32⟩) (.of main_while1b_v68 : StableHlo.TRef sig ⟨S32x128, .f32⟩) (.of main_while1b_v69 : StableHlo.TRef sig ⟨S32x128, .f32⟩) select ]
theorem while1Ops0_1_sub : (while1Ops0_1 : List (HloOp τ sig (Elt F))).Forall fun op => op.bufs ⊆ StableHlo.tcRefs τ sig :=
  ⟨StableHlo.unary_bufs_sub .., StableHlo.unary_bufs_sub .., StableHlo.ternary_bufs_sub ..⟩
abbrev while1Ops0_2 : List (HloOp τ sig (Elt F)) :=
  [ StableHlo.TRef.nullary (.of main_while1b_call4_v0 : StableHlo.TRef sig ⟨S32x128, .i32⟩) (iotaInDim S32x128 32 1),
    StableHlo.TRef.nullary (.of main_while1b_call4_cst : StableHlo.TRef sig ⟨S_, .f32⟩) (constant S_ .f32 0x7F800000#32),
    StableHlo.TRef.nullary (.of main_while1b_call4_c : StableHlo.TRef sig ⟨S_, .i32⟩) (constantI S_ 32 0#32),
    StableHlo.TRef.quaternary (.of main_while1b_v69 : StableHlo.TRef sig ⟨S32x128, .f32⟩) (.of main_while1b_call4_v0 : StableHlo.TRef sig ⟨S32x128, .i32⟩) (.of main_while1b_call4_cst : StableHlo.TRef sig ⟨S_, .f32⟩) (.of main_while1b_call4_c : StableHlo.TRef sig ⟨S_, .i32⟩) (.of main_while1b_call4_v1_0 : StableHlo.TRef sig ⟨S32, .f32⟩) (fun x y u v j => (Host.argReduce reducer_argmin_f32_i32 x y u v reducesTo_S32x128_S32_d1 h_S_ j).1),
    StableHlo.TRef.quaternary (.of main_while1b_v69 : StableHlo.TRef sig ⟨S32x128, .f32⟩) (.of main_while1b_call4_v0 : StableHlo.TRef sig ⟨S32x128, .i32⟩) (.of main_while1b_call4_cst : StableHlo.TRef sig ⟨S_, .f32⟩) (.of main_while1b_call4_c : StableHlo.TRef sig ⟨S_, .i32⟩) (.of main_while1b_v70 : StableHlo.TRef sig ⟨S32, .i32⟩) (fun x y u v j => (Host.argReduce reducer_argmin_f32_i32 x y u v reducesTo_S32x128_S32_d1 h_S_ j).2) ]
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
abbrev while1Ops0_3 : List (HloOp τ sig (Elt F)) :=
  [ StableHlo.nullary main_while1b_v71 (iotaInDim S128 32 0),
    StableHlo.unary main_while1b_v70 main_while1b_v72 (broadcastInDim S32x1 ![0] bcast_S32_S32x1_0 : (⟨S32, .i32⟩ : BufTy).Contents (Elt F) → (⟨S32x1, .i32⟩ : BufTy).Contents (Elt F)),
    StableHlo.unary main_while1b_v71 main_while1b_v73 (broadcastInDim S1x128 ![1] bcast_S128_S1x128_1 : (⟨S128, .i32⟩ : BufTy).Contents (Elt F) → (⟨S1x128, .i32⟩ : BufTy).Contents (Elt F)),
    StableHlo.unary main_while1b_v73 main_while1b_v74 (broadcastInDim S32x128 ![0, 1] bcast_S1x128_S32x128_0_1 : (⟨S1x128, .i32⟩ : BufTy).Contents (Elt F) → (⟨S32x128, .i32⟩ : BufTy).Contents (Elt F)),
    StableHlo.unary main_while1b_v72 main_while1b_v75 (broadcastInDim S32x128 ![0, 1] bcast_S32x1_S32x128_0_1 : (⟨S32x1, .i32⟩ : BufTy).Contents (Elt F) → (⟨S32x128, .i32⟩ : BufTy).Contents (Elt F)),
    StableHlo.binary main_while1b_v74 main_while1b_v75 main_while1b_v76 (cmpi .eq : (⟨S32x128, .i32⟩ : BufTy).Contents (Elt F) → (⟨S32x128, .i32⟩ : BufTy).Contents (Elt F) → (⟨S32x128, .i1⟩ : BufTy).Contents (Elt F)),
    StableHlo.binary main_v57_2 main_while1b_v76 main_while1b_v77 (ori : (⟨S32x128, .i1⟩ : BufTy).Contents (Elt F) → (⟨S32x128, .i1⟩ : BufTy).Contents (Elt F) → (⟨S32x128, .i1⟩ : BufTy).Contents (Elt F)) ]
theorem while1Ops0_3_sub : (while1Ops0_3 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.binary_bufs_sub ..⟩
abbrev while1Ops0_4 : List (HloOp τ sig (Elt F)) :=
  [ StableHlo.TRef.unary (.of main_while1b_v70 : StableHlo.TRef sig ⟨S32, .i32⟩) (.of main_while1b_call5_v0 : StableHlo.TRef sig ⟨S1x32, .i32⟩) (broadcastInDim S1x32 ![1] bcast_S32_S1x32_1),
    StableHlo.TRef.nullary (.of main_while1b_call5_c : StableHlo.TRef sig ⟨S_, .i32⟩) (constantI S_ 32 0#32),
    StableHlo.TRef.binaryIndexed (.of main_v57_4 : StableHlo.TRef sig ⟨S127x32, .i32⟩) (.of main_while1b_call5_v0 : StableHlo.TRef sig ⟨S1x32, .i32⟩) ![(.of main_v57_1 : StableHlo.TRef sig ⟨S_, .i32⟩), (.of main_while1b_call5_c : StableHlo.TRef sig ⟨S_, .i32⟩)] (.of main_while1b_v78 : StableHlo.TRef sig ⟨S127x32, .i32⟩) (fun x u i => Host.dynamicUpdateSlice x u (fun k => (i k (Shape.Idx.first h_S_)).toInt) updateFits_S127x32_S1x32) ]
theorem while1Ops0_4_sub : (while1Ops0_4 : List (HloOp τ sig (Elt F))).Forall fun op => op.bufs ⊆ StableHlo.tcRefs τ sig :=
  ⟨StableHlo.unary_bufs_sub .., StableHlo.nullary_bufs_sub .., StableHlo.binaryIndexed_bufs_sub ..⟩
abbrev while1Ops0_5 : List (HloOp τ sig (Elt F)) :=
  [ StableHlo.nullary main_while1b_c_22 (constantI S_ 32 1#32),
    StableHlo.binary main_v57_1 main_while1b_c_22 main_while1b_v79 (addi : (⟨S_, .i32⟩ : BufTy).Contents (Elt F) → (⟨S_, .i32⟩ : BufTy).Contents (Elt F) → (⟨S_, .i32⟩ : BufTy).Contents (Elt F)),
    StableHlo.unary main_while1b_v79 main_v57_1 id,
    StableHlo.unary main_while1b_v77 main_v57_2 id,
    StableHlo.unary main_while1b_v70 main_v57_3 id,
    StableHlo.unary main_while1b_v78 main_v57_4 id ]
theorem while1Ops0_5_sub : (while1Ops0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, StableHlo.chain_seq_cons, Pipeline.chain_cons, StableHlo.chain_seq_cons]
  chain_rfl

/-! ## What each stretch writes -/

theorem hostOps0_fresh : (hostOps0 : List (HloOp τ sig (Elt F))).Forall fun op => op.fresh = ∅ :=
  StableHlo.forall_fresh_of_map rfl
abbrev hostOps0_W : List (Ref sig .tc) := [main_cst, main_v0, main_c, main_v1, main_c_0, main_v2, main_c_1, main_v3_0, main_v3_1, main_v3_2, main_v3_3, main_v3_4]
theorem hostOps0_writes : (hostOps0 : List (HloOp τ sig (Elt F))).Forall fun op => op.writes ⊆ (hostOps0_W.map (Proc.devRef (τ := τ) .tc)).toFinset :=
  StableHlo.forall_writes_sub_of_map rfl

theorem hostOps0_1_fresh : (hostOps0_1 : List (HloOp τ sig (Elt F))).Forall fun op => op.fresh = ∅ :=
  StableHlo.forall_fresh_of_map rfl
abbrev hostOps0_1_W : List (Ref sig .tc) := [main_v4, main_v5, main_v6, main_v7, main_cst_2, main_v8, main_v9, main_v10, main_cst_3, main_v11, main_v12, main_v13, main_v14, main_v15, main_v16, main_cst_4, main_v17, main_v18, main_v19, main_cst_5, main_v20, main_v21, main_v22, main_v23, main_values, main_indices, main_v24, main_v25, main_v26, main_v27, main_v28, main_v29, main_v30, main_c_6, main_v31, main_v32, main_v33, main_v34, main_cst_7, main_v35, main_v36, main_v37, main_cst_8, main_v38, main_v39, main_v40, main_v41, main_v42, main_v43, main_cst_9, main_v44, main_v45, main_v46, main_cst_10, main_v47, main_v48, main_v49, main_cst_11]
theorem hostOps0_1_writes : (hostOps0_1 : List (HloOp τ sig (Elt F))).Forall fun op => op.writes ⊆ (hostOps0_1_W.map (Proc.devRef (τ := τ) .tc)).toFinset :=
  StableHlo.forall_writes_sub_of_map rfl

theorem hostOps0_2_fresh : (hostOps0_2 : List (HloOp τ sig (Elt F))).Forall fun op => op.fresh = ∅ :=
  StableHlo.forall_fresh_of_map rfl
abbrev hostOps0_2_W : List (Ref sig .tc) := [main_call2_v0, main_call2_v1, main_call2_v2, main_v50]
theorem hostOps0_2_writes : (hostOps0_2 : List (HloOp τ sig (Elt F))).Forall fun op => op.writes ⊆ (hostOps0_2_W.map (Proc.devRef (τ := τ) .tc)).toFinset :=
  StableHlo.forall_writes_sub_of_map rfl

theorem hostOps0_3_fresh : (hostOps0_3 : List (HloOp τ sig (Elt F))).Forall fun op => op.fresh = ∅ :=
  StableHlo.forall_fresh_of_map rfl
abbrev hostOps0_3_W : List (Ref sig .tc) := [main_v51, main_c_12, main_v52, main_v53, main_v54, main_c_13, main_v55, main_c_14, main_v56, main_c_15, main_v57_0, main_v57_1, main_v57_2, main_v57_3, main_v57_4]
theorem hostOps0_3_writes : (hostOps0_3 : List (HloOp τ sig (Elt F))).Forall fun op => op.writes ⊆ (hostOps0_3_W.map (Proc.devRef (τ := τ) .tc)).toFinset :=
  StableHlo.forall_writes_sub_of_map rfl

theorem while0Ops0_fresh : (while0Ops0 : List (HloOp τ sig (Elt F))).Forall fun op => op.fresh = ∅ :=
  StableHlo.forall_fresh_of_map rfl
abbrev while0Ops0_W : List (Ref sig .tc) := [main_while0b_v65, main_while0b_v66, main_while0b_v67, main_while0b_v68, main_while0b_v69, main_while0b_v70, main_while0b_cst_21, main_while0b_v71, main_while0b_v72]
theorem while0Ops0_writes : (while0Ops0 : List (HloOp τ sig (Elt F))).Forall fun op => op.writes ⊆ (while0Ops0_W.map (Proc.devRef (τ := τ) .tc)).toFinset :=
  StableHlo.forall_writes_sub_of_map rfl

theorem while0Ops0_1_fresh : (while0Ops0_1 : List (HloOp τ sig (Elt F))).Forall fun op => op.fresh = ∅ :=
  StableHlo.forall_fresh_of_map rfl
abbrev while0Ops0_1_W : List (Ref sig .tc) := [main_while0b_call0_v0, main_while0b_call0_cst, main_while0b_call0_c, main_while0b_call0_v1_0, main_while0b_v73]
theorem while0Ops0_1_writes : (while0Ops0_1 : List (HloOp τ sig (Elt F))).Forall fun op => op.writes ⊆ (while0Ops0_1_W.map (Proc.devRef (τ := τ) .tc)).toFinset :=
  StableHlo.forall_writes_sub_of_map rfl

theorem while0Ops0_2_fresh : (while0Ops0_2 : List (HloOp τ sig (Elt F))).Forall fun op => op.fresh = ∅ :=
  StableHlo.forall_fresh_of_map rfl
abbrev while0Ops0_2_W : List (Ref sig .tc) := [main_while0b_call1_v0, main_while0b_call1_c, main_while0b_v74]
theorem while0Ops0_2_writes : (while0Ops0_2 : List (HloOp τ sig (Elt F))).Forall fun op => op.writes ⊆ (while0Ops0_2_W.map (Proc.devRef (τ := τ) .tc)).toFinset :=
  StableHlo.forall_writes_sub_of_map rfl

theorem while0Ops0_3_fresh : (while0Ops0_3 : List (HloOp τ sig (Elt F))).Forall fun op => op.fresh = ∅ :=
  StableHlo.forall_fresh_of_map rfl
abbrev while0Ops0_3_W : List (Ref sig .tc) := [main_while0b_c_22, main_while0b_v75, main_v3_1, main_v3_2, main_v3_3, main_v3_4]
theorem while0Ops0_3_writes : (while0Ops0_3 : List (HloOp τ sig (Elt F))).Forall fun op => op.writes ⊆ (while0Ops0_3_W.map (Proc.devRef (τ := τ) .tc)).toFinset :=
  StableHlo.forall_writes_sub_of_map rfl

theorem while1Ops0_fresh : (while1Ops0 : List (HloOp τ sig (Elt F))).Forall fun op => op.fresh = ∅ :=
  StableHlo.forall_fresh_of_map rfl
abbrev while1Ops0_W : List (Ref sig .tc) := [main_while1b_v65, main_while1b_v66, main_while1b_v67, main_while1b_v68, main_while1b_cst_21]
theorem while1Ops0_writes : (while1Ops0 : List (HloOp τ sig (Elt F))).Forall fun op => op.writes ⊆ (while1Ops0_W.map (Proc.devRef (τ := τ) .tc)).toFinset :=
  StableHlo.forall_writes_sub_of_map rfl

theorem while1Ops0_1_fresh : (while1Ops0_1 : List (HloOp τ sig (Elt F))).Forall fun op => op.fresh = ∅ :=
  StableHlo.forall_fresh_of_map rfl
abbrev while1Ops0_1_W : List (Ref sig .tc) := [main_while1b_call3_v0, main_while1b_call3_v1, main_while1b_v69]
theorem while1Ops0_1_writes : (while1Ops0_1 : List (HloOp τ sig (Elt F))).Forall fun op => op.writes ⊆ (while1Ops0_1_W.map (Proc.devRef (τ := τ) .tc)).toFinset :=
  StableHlo.forall_writes_sub_of_map rfl

theorem while1Ops0_2_fresh : (while1Ops0_2 : List (HloOp τ sig (Elt F))).Forall fun op => op.fresh = ∅ :=
  StableHlo.forall_fresh_of_map rfl
abbrev while1Ops0_2_W : List (Ref sig .tc) := [main_while1b_call4_v0, main_while1b_call4_cst, main_while1b_call4_c, main_while1b_call4_v1_0, main_while1b_v70]
theorem while1Ops0_2_writes : (while1Ops0_2 : List (HloOp τ sig (Elt F))).Forall fun op => op.writes ⊆ (while1Ops0_2_W.map (Proc.devRef (τ := τ) .tc)).toFinset :=
  StableHlo.forall_writes_sub_of_map rfl

theorem while1Ops0_3_fresh : (while1Ops0_3 : List (HloOp τ sig (Elt F))).Forall fun op => op.fresh = ∅ :=
  StableHlo.forall_fresh_of_map rfl
abbrev while1Ops0_3_W : List (Ref sig .tc) := [main_while1b_v71, main_while1b_v72, main_while1b_v73, main_while1b_v74, main_while1b_v75, main_while1b_v76, main_while1b_v77]
theorem while1Ops0_3_writes : (while1Ops0_3 : List (HloOp τ sig (Elt F))).Forall fun op => op.writes ⊆ (while1Ops0_3_W.map (Proc.devRef (τ := τ) .tc)).toFinset :=
  StableHlo.forall_writes_sub_of_map rfl

theorem while1Ops0_4_fresh : (while1Ops0_4 : List (HloOp τ sig (Elt F))).Forall fun op => op.fresh = ∅ :=
  StableHlo.forall_fresh_of_map rfl
abbrev while1Ops0_4_W : List (Ref sig .tc) := [main_while1b_call5_v0, main_while1b_call5_c, main_while1b_v78]
theorem while1Ops0_4_writes : (while1Ops0_4 : List (HloOp τ sig (Elt F))).Forall fun op => op.writes ⊆ (while1Ops0_4_W.map (Proc.devRef (τ := τ) .tc)).toFinset :=
  StableHlo.forall_writes_sub_of_map rfl

theorem while1Ops0_5_fresh : (while1Ops0_5 : List (HloOp τ sig (Elt F))).Forall fun op => op.fresh = ∅ :=
  StableHlo.forall_fresh_of_map rfl
abbrev while1Ops0_5_W : List (Ref sig .tc) := [main_while1b_c_22, main_while1b_v79, main_v57_1, main_v57_2, main_v57_3, main_v57_4]
theorem while1Ops0_5_writes : (while1Ops0_5 : List (HloOp τ sig (Elt F))).Forall fun op => op.writes ⊆ (while1Ops0_5_W.map (Proc.devRef (τ := τ) .tc)).toFinset :=
  StableHlo.forall_writes_sub_of_map rfl

end Cert.Ref

end
-- ==== Proof.TwoLoops.lean ====
/-
  The run of a host program that is five pieces in a row: operations, a counted loop, operations, a second counted
  loop, operations. From any memory every fair execution ends, and every buffer holds what the five pieces computed one
  after another leave in it.
-/
module

public import Idealize.ShloMosaic.Lib.StableHlo.RunLoop

@[expose] public section

noncomputable section

namespace Cert.TwoLoops

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs)
open TcCoe

variable {nD : Nat} {τ : Topo} {sig : RefSig} {F : FTy → Type} {Λ₀ : Idealize.SL.Sem.Labels}

/-- The program admits no pipeline. -/
abbrev noAdm (pcs : Fin 0 → PCfg sig Λ₀ (Elt F)) : (p : Fin 0) → (pcs p).Adm := fun p => p.elim0

/-- The program hands out no ticket. -/
abbrev noTicket (pcs : Fin 0 → PCfg sig Λ₀ (Elt F)) :
    Fin 0 → Ticket (Ix := Unit) (Name := ℕ) (U := Option PUnit) (Lvl := ℕ) (nD := nD) (τ := τ) pcs (noAdm pcs) := fun j => j.elim0

/-- No counter carries an index. -/
abbrev noIx : GSem nD τ sig → Finset Unit := fun _ => ∅

/-- Every counter is at the bottom level. -/
abbrev levels : GSem nD τ sig → Unit → ℕ := fun _ _ => 0

/-- What a core owes: nothing, at any write-back set. -/
abbrev owesNone (c : Dev nD) : sProp (MT nD τ sig Unit (Elt F) ℕ (Option PUnit) ℕ) := iprop(∃ W, owes (c : Thread nD τ) (0 : CellTallies nD τ sig Unit) W)

variable {pcs : Fin 0 → PCfg sig Λ₀ (Elt F)} {defs₀ : Defs nD τ sig (Elt F) Λ₀} {nL : Nat}
  {loops : Fin nL → Prog (TpuEff nD τ sig (Elt F) (HostLoop.Sig (Pipeline.Sig Λ₀ (Fin 0) fun p => (pcs p).Adm) nL) .tc) PUnit}

/-- A condition that behaves as counted does so too while the core's debts are carried along. -/
theorem cond_with_owes {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (hcond : CondSpec pcs defs₀ loops cond condOps bodyI W₀ n) :
    LoopCond pcs defs₀ Variants.none loops owesNone cond condOps bodyI W₀ n := by
  intro k hk c bd
  refine BIBase.Entails.trans ?_ (((sep_mono_left (hcond k hk c bd)).trans (wp_frame_r (R := owesNone c) _ _ _)).trans (wp_mono _ _ _ fun v => ?_))
  · iintro ⟨Hbd, Hh, HR⟩
    isplitl [Hbd Hh]
    · isplitl [Hbd] <;> iassumption
    · iexact HR
  · iintro ⟨⟨%hv, Hbd, Hh⟩, HR⟩
    isplitr
    · ipureintro; exact hv
    · isplitl [Hbd]
      · iexact Hbd
      · isplitl [Hh] <;> iassumption

/-- The buffers a loop leaves behind: `n` rounds of condition and body, and the condition that fails. -/
abbrev leaves (condOps : List (HloOp τ sig (Elt F))) (bodyI : List (List (HloOp τ sig (Elt F)))) (n : ℕ)
    (W : Dev nD → Valuation τ sig (Elt F)) (c : Dev nD) : Valuation τ sig (Elt F) :=
  after condOps (atTrip condOps bodyI W n c)

/-- One loop of the program with all that is known of it: its name, its two regions, the operations they are made of,
    and its number of rounds. -/
structure Counted (loops : Fin nL → Prog (TpuEff nD τ sig (Elt F) (HostLoop.Sig (Pipeline.Sig Λ₀ (Fin 0) fun p => (pcs p).Adm) nL) .tc) PUnit) where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  hloops : loops l = HostLoop.step l cond body
  condOps : List (HloOp τ sig (Elt F))
  bodyI : List (List (HloOp τ sig (Elt F)))
  hbodyI : Plain bodyI
  hbody : body = Pipeline.chain (bodyI.map fun ops => (seq ops : Prog _ PUnit))
  n : ℕ

variable (A B : Counted (pcs := pcs) loops) (preI midI postI : List (List (HloOp τ sig (Elt F))))
  (hpre : Plain preI) (hmid : Plain midI) (hpost : Plain postI) (m : (ℓ : Loc nD τ sig) → Buf (Elt F) ℓ)

/-- The buffers where the second loop is entered. -/
abbrev second (c : Dev nD) : Valuation τ sig (Elt F) := afterL midI (leaves A.condOps A.bodyI A.n (entryContents preI m) c)

/-- The buffers at the program's end. -/
abbrev final (c : Dev nD) : Valuation τ sig (Elt F) := afterL postI (leaves B.condOps B.bodyI B.n (second A preI midI m) c)

/-- The five pieces as segments of one run. -/
def pieces (hA : CondSpec pcs defs₀ loops A.cond A.condOps A.bodyI (entryContents preI m) A.n)
    (hB : CondSpec pcs defs₀ loops B.cond B.condOps B.bodyI (second A preI midI m) B.n) :
    List (CSeg pcs (noAdm pcs) defs₀ Variants.none noIx levels loops (noTicket pcs)) :=
  segsOf _ _ _ _ _ _ _ _ owesNone preI hpre (launchContents m)
    ++ loopSeg _ _ _ _ _ _ _ _ A.l A.cond A.body A.hloops A.condOps A.bodyI A.hbodyI A.hbody A.n (entryContents preI m) owesNone (cond_with_owes hA)
      :: (segsOf _ _ _ _ _ _ _ _ owesNone midI hmid (leaves A.condOps A.bodyI A.n (entryContents preI m))
        ++ loopSeg _ _ _ _ _ _ _ _ B.l B.cond B.body B.hloops B.condOps B.bodyI B.hbodyI B.hbody B.n (second A preI midI m) owesNone (cond_with_owes hB)
          :: segsOf _ _ _ _ _ _ _ _ owesNone postI hpost (leaves B.condOps B.bodyI B.n (second A preI midI m)))

/-- The pieces' programs, in order. -/
theorem pieces_prog (hA hB) :
    (pieces (defs₀ := defs₀) A B preI midI postI hpre hmid hpost m hA hB).map CSeg.prog
      = (preI.map fun ops => (seq ops : Prog _ PUnit)) ++ HostLoop.enter A.l ::
        ((midI.map fun ops => (seq ops : Prog _ PUnit)) ++ HostLoop.enter B.l :: postI.map fun ops => (seq ops : Prog _ PUnit)) := by
  unfold pieces
  rw [List.map_append, List.map_cons, List.map_append, List.map_cons, segsOf_prog, segsOf_prog, segsOf_prog]
  rfl

/-- Each piece starts where the one before it stopped. -/
theorem pieces_chain (hA hB) :
    CSeg.Chains (fun c => iprop(held (c : Thread nD τ) (ucRefs τ sig) (launchContents m c) ∗ owesNone c))
      (pieces (defs₀ := defs₀) A B preI midI postI hpre hmid hpost m hA hB)
      (fun c => iprop(iprop(held (c : Thread nD τ) (ucRefs τ sig) (final A B preI midI postI m c)) ∗ ∃ W, owes (c : Thread nD τ) (0 : CellTallies nD τ sig Unit) W)) := by
  unfold pieces
  exact CSeg.Chains.append (segsOf_chains _ _ _ _ _ _ _ _ owesNone preI hpre _)
    ⟨fun _ => .rfl, CSeg.Chains.append (segsOf_chains _ _ _ _ _ _ _ _ owesNone midI hmid _)
      ⟨fun _ => .rfl, segsOf_chains _ _ _ _ _ _ _ _ owesNone postI hpost _⟩⟩

/-- THE RUN: every fair execution ends with every buffer of the program as the five pieces leave it. -/
theorem run [∀ e, Nonempty (Elt F e)]
    (main : Dev nD → Prog (TpuEff nD τ sig (Elt F) (HostLoop.Sig (Pipeline.Sig Λ₀ (Fin 0) fun p => (pcs p).Adm) nL) .tc) PUnit)
    (hmain : ∀ c, main c = Pipeline.chain ((preI.map fun ops => (seq ops : Prog _ PUnit)) ++ HostLoop.enter A.l ::
        ((midI.map fun ops => (seq ops : Prog _ PUnit)) ++ HostLoop.enter B.l :: postI.map fun ops => (seq ops : Prog _ PUnit))))
    (ρ : Dev nD → PrngReg) (hpre : Plain preI) (hmid : Plain midI) (hpost : Plain postI)
    (hA : CondSpec pcs defs₀ loops A.cond A.condOps A.bodyI (entryContents preI m) A.n)
    (hB : CondSpec pcs defs₀ loops B.cond B.condOps B.bodyI (second A preI midI m) B.n) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = final A B preI midI postI m c (Proc.devRef .tc b)) :=
  Pipeline.θ_run_regions_loop_kit (Ix := Unit) (Name := ℕ) (U := Option PUnit) (Lvl := ℕ) (J := Fin 0) (P := Fin 0) (Val := Elt F)
    pcs (noAdm pcs) (fun k => k.1.elim0) defs₀ Variants.none noIx levels loops (noTicket pcs) m ρ main
    (pieces A B preI midI postI hpre hmid hpost m hA hB)
    (fun c Q => by
      rw [hmain c]
      show wp _ _ _ (Pipeline.chain ((pieces A B preI midI postI hpre hmid hpost m hA hB).map CSeg.prog)) Q ⊢ _
      rw [pieces_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by
          rw [BI.bigSep_emp_const])
        iempintro)
    (T₀ := fun c => iprop(held (c : Thread nD τ) (ucRefs τ sig) (launchContents m c) ∗ owesNone c))
    (Tₙ := fun c => iprop(held (c : Thread nD τ) (ucRefs τ sig) (final A B preI midI postI m c)))
    (hch := pieces_chain A B preI midI postI hpre hmid hpost m hA hB)
    (hinit := by
      refine Pipeline.initEach noIx levels fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]
      · iexact Hh
      · iexists ∅; iexact HO)
    (QY := fun c s => ∀ b ∈ ucRefs τ sig, s.mem ((c : Dev nD), b) = final A B preI midI postI m c b)
    (hfin := fun c s' => by
      unfold held
      iintro ⟨Hh, HSI⟩
      ihave Hr := (pointsTo_read_all (ucRefs τ sig) (fun b => ((c : Dev nD), b)) (fun b => final A B preI midI postI m c b) s') $$ [Hh HSI]
      · isplitl [Hh] <;> iassumption
      icases Hr with ⟨%h, HSI⟩
      imodintro
      isplitr
      · ipureintro; exact h
      · iexact HSI)
    (hQ := fun _ h c b hb => h c _ (devRef_mem_ucRefs b hb))

end Cert.TwoLoops

end
-- ==== Proof.RefRun.lean ====
/-
  The run of the reference program: its two counted loops (farthest point sampling, 128 rounds, and the nearest-neighbour
  path, 127 rounds) and the operations around them; every fair execution ends with every buffer at the fold of the
  program's operations, the argument unchanged, no counter left standing.
-/
module

public import proofs.«01_k».proof.Proof.RefOps
public import proofs.«01_k».proof.Proof.TwoLoops
public import Idealize.ShloMosaic.Lib.StableHlo.RunRead
public import Idealize.ShloMosaic.Lib.Scf.ExitTest
public import Idealize.ShloMosaic.Lib.Scf.Counter
public import Idealize.ShloMosaic.Lib.Quiescent

@[expose] public section

set_option maxRecDepth 2000

noncomputable section

namespace Cert.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- Contents of one buffer under a valuation. -/
abbrev rd (V : Valuation τ sig (Elt F)) (b : Ref sig .tc) := V (Proc.devRef .tc b)

/-- Operations leave alone every buffer outside the list of those they write. -/
theorem rd_keep (ops : List (HloOp τ sig (Elt F))) {Ws : List (Ref sig .tc)}
    (hw : ops.Forall fun op => op.writes ⊆ (Ws.map (Proc.devRef (τ := τ) .tc)).toFinset) {r : Ref sig .tc} (h : r ∉ Ws)
    (V : Valuation τ sig (Elt F)) : rd (after ops V) r = rd V r :=
  after_of_writes_sub ops V hw h

/-! ## The stretches, loop by loop -/

/-- The first loop's condition: round number below 128. -/
abbrev condA : List (HloOp τ sig (Elt F)) :=
  [ StableHlo.nullary main_while0c_c_21 (constantI S_ 32 128#32),
    StableHlo.binary main_v3_1 main_while0c_c_21 main_while0c_v65 (cmpi .slt) ]
/-- The second loop's condition: round number below 127. -/
abbrev condB : List (HloOp τ sig (Elt F)) :=
  [ StableHlo.nullary main_while1c_c_21 (constantI S_ 32 127#32),
    StableHlo.binary main_v57_1 main_while1c_c_21 main_while1c_v65 (cmpi .slt) ]

abbrev preI : List (List (HloOp τ sig (Elt F))) := [hostOps0]
abbrev bodyA : List (List (HloOp τ sig (Elt F))) := [while0Ops0, while0Ops0_1, while0Ops0_2, while0Ops0_3]
abbrev midI : List (List (HloOp τ sig (Elt F))) := [hostOps0_1, hostOps0_2, hostOps0_3]
abbrev bodyB : List (List (HloOp τ sig (Elt F))) := [while1Ops0, while1Ops0_1, while1Ops0_2, while1Ops0_3, while1Ops0_4, while1Ops0_5]
abbrev postI : List (List (HloOp τ sig (Elt F))) := [hostOps0_4]

/-- No operation of the last stretch allocates a buffer. -/
theorem hostOps0_4_fresh : (hostOps0_4 : List (HloOp τ sig (Elt F))).Forall fun op => op.fresh = ∅ :=
  StableHlo.forall_fresh_of_map rfl

theorem plain_pre : Plain (preI (F := F)) :=
  .cons hostOps0_sub (hf := List.forall_iff_forall_mem.mp hostOps0_fresh) .nil
theorem plain_A : Plain (bodyA (F := F)) :=
  .cons while0Ops0_sub (hf := List.forall_iff_forall_mem.mp while0Ops0_fresh) <|
  .cons while0Ops0_1_sub (hf := List.forall_iff_forall_mem.mp while0Ops0_1_fresh) <|
  .cons while0Ops0_2_sub (hf := List.forall_iff_forall_mem.mp while0Ops0_2_fresh) <|
  .cons while0Ops0_3_sub (hf := List.forall_iff_forall_mem.mp while0Ops0_3_fresh) .nil
theorem plain_mid : Plain (midI (F := F)) :=
  .cons hostOps0_1_sub (hf := List.forall_iff_forall_mem.mp hostOps0_1_fresh) <|
  .cons hostOps0_2_sub (hf := List.forall_iff_forall_mem.mp hostOps0_2_fresh) <|
  .cons hostOps0_3_sub (hf := List.forall_iff_forall_mem.mp hostOps0_3_fresh) .nil
theorem plain_B : Plain (bodyB (F := F)) :=
  .cons while1Ops0_sub (hf := List.forall_iff_forall_mem.mp while1Ops0_fresh) <|
  .cons while1Ops0_1_sub (hf := List.forall_iff_forall_mem.mp while1Ops0_1_fresh) <|
  .cons while1Ops0_2_sub (hf := List.forall_iff_forall_mem.mp while1Ops0_2_fresh) <|
  .cons while1Ops0_3_sub (hf := List.forall_iff_forall_mem.mp while1Ops0_3_fresh) <|
  .cons while1Ops0_4_sub (hf := List.forall_iff_forall_mem.mp while1Ops0_4_fresh) <|
  .cons while1Ops0_5_sub (hf := List.forall_iff_forall_mem.mp while1Ops0_5_fresh) .nil
theorem plain_post : Plain (postI (F := F)) :=
  .cons hostOps0_4_sub (hf := List.forall_iff_forall_mem.mp hostOps0_4_fresh) .nil

/-- The sampling loop. -/
def loopA : Cert.TwoLoops.Counted (F := F) (pcs := pcfgs (F := F)) loops where
  l := 0
  cond := main_while0_cond
  body := main_while0_body
  hloops := rfl
  condOps := condA
  bodyI := bodyA
  hbodyI := plain_A
  hbody := by rw [while0_body_chain]; rfl
  n := 128

/-- The path loop. -/
def loopB : Cert.TwoLoops.Counted (F := F) (pcs := pcfgs (F := F)) loops where
  l := 1
  cond := main_while1_cond
  body := main_while1_body
  hloops := rfl
  condOps := condB
  bodyI := bodyB
  hbodyI := plain_B
  hbody := by rw [while1_body_chain]; rfl
  n := 127

/-! ## The round numbers -/

abbrev condA_W : List (Ref sig .tc) := [main_while0c_c_21, main_while0c_v65]
theorem condA_writes : (condA : List (HloOp τ sig (Elt F))).Forall fun op => op.writes ⊆ (condA_W.map (Proc.devRef (τ := τ) .tc)).toFinset :=
  StableHlo.forall_writes_sub_of_map rfl
abbrev condB_W : List (Ref sig .tc) := [main_while1c_c_21, main_while1c_v65]
theorem condB_writes : (condB : List (HloOp τ sig (Elt F))).Forall fun op => op.writes ⊆ (condB_W.map (Proc.devRef (τ := τ) .tc)).toFinset :=
  StableHlo.forall_writes_sub_of_map rfl

/-- The last stretch of the first body advances its round number. -/
theorem roundA (X : Valuation τ sig (Elt F)) : rd (after while0Ops0_3 X) main_v3_1 = addi (rd X main_v3_1) (constantI S_ 32 1#32) := by
  after_results
  rfl

/-- One round of the first loop advances its round number. -/
theorem stepA_round (X : Valuation τ sig (Elt F)) :
    rd (afterL bodyA (after condA X)) main_v3_1 = addi (rd X main_v3_1) (constantI S_ 32 1#32) := by
  simp only [afterL_cons, afterL_nil]
  rw [roundA, rd_keep while0Ops0_2 while0Ops0_2_writes (by decide +kernel),
    rd_keep while0Ops0_1 while0Ops0_1_writes (by decide +kernel),
    rd_keep while0Ops0 while0Ops0_writes (by decide +kernel),
    rd_keep condA condA_writes (by decide +kernel)]

theorem roundB (X : Valuation τ sig (Elt F)) : rd (after while1Ops0_5 X) main_v57_1 = addi (rd X main_v57_1) (constantI S_ 32 1#32) := by
  after_results
  rfl

/-- One round of the second loop advances its round number. -/
theorem stepB_round (X : Valuation τ sig (Elt F)) :
    rd (afterL bodyB (after condB X)) main_v57_1 = addi (rd X main_v57_1) (constantI S_ 32 1#32) := by
  simp only [afterL_cons, afterL_nil]
  rw [roundB, rd_keep while1Ops0_4 while1Ops0_4_writes (by decide +kernel),
    rd_keep while1Ops0_3 while1Ops0_3_writes (by decide +kernel),
    rd_keep while1Ops0_2 while1Ops0_2_writes (by decide +kernel),
    rd_keep while1Ops0_1 while1Ops0_1_writes (by decide +kernel),
    rd_keep while1Ops0 while1Ops0_writes (by decide +kernel),
    rd_keep condB condB_writes (by decide +kernel)]

/-- The first loop starts at round 0. -/
theorem startA_round (V : Valuation τ sig (Elt F)) : rd (afterL preI V) main_v3_1 = fun _ => (0#32 : BitVec 32) := by
  simp only [afterL_cons, afterL_nil]
  after_reads_simp
  rfl

/-- The second loop starts at round 0. -/
theorem startB_round (V : Valuation τ sig (Elt F)) : rd (afterL midI V) main_v57_1 = fun _ => (0#32 : BitVec 32) := by
  simp only [afterL_cons, afterL_nil]
  after_results
  rfl

/-- Before round `k` of the first loop its round number reads `k`. -/
theorem atA_round (W : Dev nD → Valuation τ sig (Elt F)) (c : Dev nD) (h0 : rd (W c) main_v3_1 = fun _ => (0#32 : BitVec 32)) :
    ∀ k, rd (atTrip condA bodyA W k c) main_v3_1 = fun _ => Scf.iv 0#32 1#32 k
  | 0 => by rw [show atTrip condA bodyA W 0 c = W c from rfl, h0, Scf.iv_zero]
  | k + 1 => by
    rw [show atTrip condA bodyA W (k + 1) c = afterL bodyA (after condA (atTrip condA bodyA W k c)) from rfl, stepA_round,
      atA_round W c h0 k, Scf.iv_succ]
    rfl

/-- Before round `k` of the second loop its round number reads `k`. -/
theorem atB_round (W : Dev nD → Valuation τ sig (Elt F)) (c : Dev nD) (h0 : rd (W c) main_v57_1 = fun _ => (0#32 : BitVec 32)) :
    ∀ k, rd (atTrip condB bodyB W k c) main_v57_1 = fun _ => Scf.iv 0#32 1#32 k
  | 0 => by rw [show atTrip condB bodyB W 0 c = W c from rfl, h0, Scf.iv_zero]
  | k + 1 => by
    rw [show atTrip condB bodyB W (k + 1) c = afterL bodyB (after condB (atTrip condB bodyB W k c)) from rfl, stepB_round,
      atB_round W c h0 k, Scf.iv_succ]
    rfl

-- a rule stated for any thread is used at the TensorCore's
set_option backward.isDefEq.respectTransparency.types false in
/-- The first loop's condition counts to 128. -/
theorem counts_A (W : Dev nD → Valuation τ sig (Elt F)) (h0 : ∀ c, rd (W c) main_v3_1 = fun _ => (0#32 : BitVec 32)) :
    CondSpec (pcfgs (F := F)) defs₀ loops (main_while0_cond (F := F)) condA bodyA W 128 := by
  intro k hk c bd
  have hctr : atTrip condA bodyA W k c (Proc.devRef .tc main_v3_1) = _ := atA_round W c (h0 c) k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condA bodyA W k c) main_v3_1 HostLoop.idx0)
        (HloOp.result _ (atTrip condA bodyA W k c) main_while0c_c_21 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  rw [after_cons, after_cons, after_nil]; iexact Hh

set_option backward.isDefEq.respectTransparency.types false in
/-- The second loop's condition counts to 127. -/
theorem counts_B (W : Dev nD → Valuation τ sig (Elt F)) (h0 : ∀ c, rd (W c) main_v57_1 = fun _ => (0#32 : BitVec 32)) :
    CondSpec (pcfgs (F := F)) defs₀ loops (main_while1_cond (F := F)) condB bodyB W 127 := by
  intro k hk c bd
  have hctr : atTrip condB bodyB W k c (Proc.devRef .tc main_v57_1) = _ := atB_round W c (h0 c) k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condB bodyB W k c) main_v57_1 HostLoop.idx0)
        (HloOp.result _ (atTrip condB bodyB W k c) main_while1c_c_21 HostLoop.idx0) = 1#1) (k < 127)
    rw [nullary_result_ne _ _ _ _ (by decide), nullary_result, hctr]
    exact Scf.cmpi_slt_iv_ub_iff (lb := 0#32) (ub := 127#32) (st := 1#32) (by decide) (show k ≤ Scf.trips 0#32 127#32 1#32 from hk)
  isplitl [Hb]; · iexact Hb
  rw [after_cons, after_cons, after_nil]; iexact Hh

/-! ## The run -/

variable (m : (ℓ : Loc nD τ sig) → Buf (Elt F) ℓ) (ρ : Dev nD → PrngReg)

/-- The buffers at the program's end. -/
abbrev endV (c : Dev nD) : Valuation τ sig (Elt F) := Cert.TwoLoops.final (loopA (F := F)) loopB preI midI postI m c

/-- Every fair execution of the reference ends with every buffer at the fold of its operations. -/
theorem run_end [∀ e, Nonempty (Elt F e)] : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = endV m c (Proc.devRef .tc b)) :=
  Cert.TwoLoops.run (loopA (F := F)) loopB preI midI postI m main (fun c => by rw [main_chain]; rfl) ρ plain_pre plain_mid plain_post
    (counts_A _ fun c => startA_round _) (counts_B _ fun c => startB_round _)

/-- One round of the first loop leaves the argument alone. -/
theorem stepA_arg (X : Valuation τ sig (Elt F)) : rd (afterL bodyA (after condA X)) main_arg0 = rd X main_arg0 := by
  simp only [afterL_cons, afterL_nil]
  rw [rd_keep while0Ops0_3 while0Ops0_3_writes (by decide +kernel), rd_keep while0Ops0_2 while0Ops0_2_writes (by decide +kernel),
    rd_keep while0Ops0_1 while0Ops0_1_writes (by decide +kernel),
    rd_keep while0Ops0 while0Ops0_writes (by decide +kernel),
    rd_keep condA condA_writes (by decide +kernel)]

/-- One round of the second loop leaves alone every buffer it does not write. -/
theorem stepB_keep (X : Valuation τ sig (Elt F)) (r : Ref sig .tc)
    (h : r ∉ condB_W ∧ r ∉ while1Ops0_W ∧ r ∉ while1Ops0_1_W ∧ r ∉ while1Ops0_2_W ∧ r ∉ while1Ops0_3_W ∧ r ∉ while1Ops0_4_W ∧ r ∉ while1Ops0_5_W) :
    rd (afterL bodyB (after condB X)) r = rd X r := by
  simp only [afterL_cons, afterL_nil]
  rw [rd_keep while1Ops0_5 while1Ops0_5_writes h.2.2.2.2.2.2, rd_keep while1Ops0_4 while1Ops0_4_writes h.2.2.2.2.2.1,
    rd_keep while1Ops0_3 while1Ops0_3_writes h.2.2.2.2.1,
    rd_keep while1Ops0_2 while1Ops0_2_writes h.2.2.2.1,
    rd_keep while1Ops0_1 while1Ops0_1_writes h.2.2.1,
    rd_keep while1Ops0 while1Ops0_writes h.2.1,
    rd_keep condB condB_writes h.1]

theorem atA_arg (W : Dev nD → Valuation τ sig (Elt F)) (c : Dev nD) : ∀ k, rd (atTrip condA bodyA W k c) main_arg0 = rd (W c) main_arg0
  | 0 => rfl
  | k + 1 => (stepA_arg _).trans (atA_arg W c k)

theorem atB_keep (W : Dev nD → Valuation τ sig (Elt F)) (c : Dev nD) (r : Ref sig .tc)
    (h : r ∉ condB_W ∧ r ∉ while1Ops0_W ∧ r ∉ while1Ops0_1_W ∧ r ∉ while1Ops0_2_W ∧ r ∉ while1Ops0_3_W ∧ r ∉ while1Ops0_4_W ∧ r ∉ while1Ops0_5_W) :
    ∀ k, rd (atTrip condB bodyB W k c) r = rd (W c) r
  | 0 => rfl
  | k + 1 => (stepB_keep _ r h).trans (atB_keep W c r h k)

abbrev hostOps0_4_W : List (Ref sig .tc) := [main_c_16, main_v58, main_v59, main_v60, main_v61, main_v62, main_v63, main_v64]
theorem hostOps0_4_writes : (hostOps0_4 : List (HloOp τ sig (Elt F))).Forall fun op => op.writes ⊆ (hostOps0_4_W.map (Proc.devRef (τ := τ) .tc)).toFinset :=
  StableHlo.forall_writes_sub_of_map rfl

/-- The argument ends unchanged. -/
theorem end_arg (c : Dev nD) : rd (endV m c) main_arg0 = m ((c.tc : Thread nD τ).loc main_arg0) := by
  show rd (after hostOps0_4 (after condB (atTrip condB bodyB (fun c => after hostOps0_3 (after hostOps0_2 (after hostOps0_1
    (after condA (atTrip condA bodyA (fun c => after hostOps0 (launchContents m c)) 128 c))))) 127 c))) main_arg0 = _
  rw [rd_keep hostOps0_4 hostOps0_4_writes (by decide +kernel), rd_keep condB condB_writes (by decide +kernel)]
  erw [atB_keep _ c main_arg0 (by decide +kernel) 127]
  rw [rd_keep hostOps0_3 hostOps0_3_writes (by decide +kernel), rd_keep hostOps0_2 hostOps0_2_writes (by decide +kernel),
    rd_keep hostOps0_1 hostOps0_1_writes (by decide +kernel), rd_keep condA condA_writes (by decide +kernel)]
  erw [atA_arg _ c 128]
  rw [rd_keep hostOps0 hostOps0_writes (by decide +kernel)]

/-- The reference ends, its argument unchanged and its counters at zero. -/
theorem frame [∀ e, Nonempty (Elt F e)] : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0))
      ∧ r.2.sem = fun _ => 0) :=
  (θ_run (defs (F := F)) (onTc (τ := τ) (main (F := F))) ⟨m, fun _ => 0, ρ⟩).mono (fun r h => ⟨fun c => (h c main_arg0 (by decide)).trans (end_arg m c), sem_eq_zero_of_no_sems (by decide) r.2⟩) (run_end m ρ)

end Cert.Ref

end
-- ==== Proof.Words0.lean ====
module

public import proofs.«01_k».proof.Proof.Gen.KernelIdeal.Frame
public import Idealize.ShloMosaic.Lib.Pipeline.Value
public import Idealize.ShloMosaic.Lib.Tactic
public import Idealize.ShloMosaic.Lib.VecWindow

@[expose] public section

set_option maxRecDepth 16384

noncomputable section

namespace Cert.KernelIdeal.Val

open Cert.KernelIdeal Cert.KernelIdeal.Gen
open Idealize.ShloMosaic Idealize.ShloMosaic.TcCoe Idealize.SL.Sem Idealize.ShloMosaic.Tactic

variable {F : FTy → Type} [FloatOps F]

theorem zero3 : (![0, 0, 0] : Fin 3 → ℕ) = fun _ => 0 := funext fun a => by fin_cases a <;> rfl

/-- One round of the sampling loop on its words: the carried pair (current point, index list) and the
    distance array the round finds. -/
def round0 (x y z : FVec F S32x64x128 .f32) (k : Fin k0_t1_loop.trips)
    (s : (IVec S32x1x1 32 × IVec S32x128x1 32) × FVec F S32x64x128 .f32) :
    (IVec S32x1x1 32 × IVec S32x128x1 32) × FVec F S32x64x128 .f32 :=
  ((k0_pay8 (k0_pay10 x y z k0_pay4 s.1.1 s.2) (k0_pay12 x y z k0_pay4 s.1.1 s.2),
    k0_pay9 (iota .tc S32x128x1 32 [1] iota_S32x128x1_d1_w32) 0#32 1#32 k s.1.1 s.1.2),
   k0_pay10 x y z k0_pay4 s.1.1 s.2)

/-- The rounds' states: before round 0 the point is 0, the list is 0, every distance is the start value. -/
def rounds0 (x y z : FVec F S32x64x128 .f32) : ℕ → (IVec S32x1x1 32 × IVec S32x128x1 32) × FVec F S32x64x128 .f32
  | 0 => ((k0_pay6, k0_pay7), k0_pay5)
  | k + 1 => if h : k < k0_t1_loop.trips then round0 x y z ⟨k, h⟩ (rounds0 x y z k) else rounds0 x y z k

section
variable (𝒱 : Variants) (c : Dev nD) (bd : Option 𝒱.V) (i : grid0.Coords) (arg1 : Memref sig .tc .vmem S32x3x64x128 .f32) (harg1 : arg1.IsWhole) (arg2 : Memref sig .tc .vmem S32x128x1 .i32) (harg2 : arg2.IsWhole) (arg3 : Memref sig .tc .vmem S32x64x128 .f32) (harg3 : arg3.IsWhole) (v0 v2 v4 : Vec F S32x1x64x128 .f32)

theorem tripR0_eq (v11 : IVec S32x128x1 32) (k : Fin k0_t1_loop.trips) (acc : IVec S32x1x1 32 × IVec S32x128x1 32) (f : BufTy.Contents (Elt F) arg3.view.ty) :
    tripR_k0_t1 𝒱 c bd i arg1 harg1 arg2 harg2 arg3 harg3 v0 v2 v4 v11 k acc f
      = (k0_pay8 (k0_pay10 (k0_pay1 v0) (k0_pay2 v2) (k0_pay3 v4) k0_pay4 acc.1 (arg3.view.read (Elt F) f))
          (k0_pay12 (k0_pay1 v0) (k0_pay2 v2) (k0_pay3 v4) k0_pay4 acc.1 (arg3.view.read (Elt F) f)),
         k0_pay9 v11 0#32 1#32 k acc.1 acc.2) := by
  unfold tripR_k0_t1 trip_k0_t1
  dsimp only
  sl_unfold_words
  simp only [View.readAt_eq_ld, View.ld_unit_zero (S := S32x64x128) zero3]

theorem tripL0_eq (v11 : IVec S32x128x1 32) (k : Fin k0_t1_loop.trips) (acc : IVec S32x1x1 32 × IVec S32x128x1 32) (f g : BufTy.Contents (Elt F) arg3.view.ty)
    (L : List (View.Piece (Elt F) S32x64x128 .f32)) :
    arg3.view.read (Elt F) (arg3.view.writes (Elt F) g (tripL_k0_t1 𝒱 c bd i arg1 harg1 arg2 harg2 arg3 harg3 v0 v2 v4 v11 k acc f ++ L))
      = k0_pay10 (k0_pay1 v0) (k0_pay2 v2) (k0_pay3 v4) k0_pay4 acc.1 (arg3.view.read (Elt F) f) := by
  unfold tripL_k0_t1 trip_k0_t1
  dsimp only
  sl_unfold_words
  rw [List.singleton_append]
  refine (View.read_writes_full (s := S32x64x128) arg3.view g inb_S32x64x128_S32x64x128_0_0_0 _ L).trans ?_
  simp only [View.readAt_eq_ld, View.ld_unit_zero (S := S32x64x128) zero3]
  unfold k0_pay11
  rw [shapeCast_self]

theorem st0_eq (G : BufTy.Contents (Elt F) arg3.view.ty) (hG : arg3.view.read (Elt F) G = k0_pay5) : ∀ k, k ≤ k0_t1_loop.trips →
    (st_k0_t1 𝒱 c bd i arg1 harg1 arg2 harg2 arg3 harg3 v0 v2 v4 (iota .tc S32x128x1 32 [1] iota_S32x128x1_d1_w32) G (k0_pay6, k0_pay7) k).1
        = (rounds0 (k0_pay1 v0) (k0_pay2 v2) (k0_pay3 v4) k).1
      ∧ arg3.view.read (Elt F) (arg3.view.writes (Elt F) G
          (st_k0_t1 𝒱 c bd i arg1 harg1 arg2 harg2 arg3 harg3 v0 v2 v4 (iota .tc S32x128x1 32 [1] iota_S32x128x1_d1_w32) G (k0_pay6, k0_pay7) k).2)
        = (rounds0 (k0_pay1 v0) (k0_pay2 v2) (k0_pay3 v4) k).2
  | 0, _ => ⟨rfl, hG⟩
  | k + 1, h => by
    obtain ⟨h1, h2⟩ := st0_eq G hG k (Nat.le_of_succ_le h)
    rw [st_k0_t1_succ _ _ _ _ _ _ _ _ _ _ _ _ _ _ _ _ ⟨k, h⟩]
    rw [rounds0, dif_pos (Nat.lt_of_succ_le h)]
    constructor
    · show tripR_k0_t1 .. = _
      rw [tripR0_eq, h1, h2]; rfl
    · show arg3.view.read (Elt F) (arg3.view.writes (Elt F) G (tripL_k0_t1 .. ++ _)) = _
      rw [tripL0_eq, h1, h2]; rfl
end

/-- The three coordinate planes of the transposed cloud. -/
abbrev plane0 (x0 : Vec F S32x3x64x128 .f32) : FVec F S32x64x128 .f32 :=
  k0_pay1 (View.ld x0 (Rect.unit (s := S32x3x64x128) ![0, 0, 0, 0] S32x1x64x128.size inb_S32x3x64x128_S32x1x64x128_0_0_0_0))
abbrev plane1 (x0 : Vec F S32x3x64x128 .f32) : FVec F S32x64x128 .f32 :=
  k0_pay2 (View.ld x0 (Rect.unit (s := S32x3x64x128) ![0, 1, 0, 0] S32x1x64x128.size inb_S32x3x64x128_S32x1x64x128_0_1_0_0))
abbrev plane2 (x0 : Vec F S32x3x64x128 .f32) : FVec F S32x64x128 .f32 :=
  k0_pay3 (View.ld x0 (Rect.unit (s := S32x3x64x128) ![0, 2, 0, 0] S32x1x64x128.size inb_S32x3x64x128_S32x1x64x128_0_2_0_0))

/-- What the sampling call leaves: the index list after all rounds. -/
theorem out0_eq (c : Dev nD) (i : grid0.Coords) (arg1 : Memref sig .tc .vmem S32x3x64x128 .f32) (harg1 : arg1.IsWhole) (arg2 : Memref sig .tc .vmem S32x128x1 .i32) (harg2 : arg2.IsWhole) (arg3 : Memref sig .tc .vmem S32x64x128 .f32) (harg3 : arg3.IsWhole) (x0 : Vec F S32x3x64x128 .f32) :
    out0_A_1 c i arg1 harg1 arg2 harg2 arg3 harg3 x0 = (rounds0 (plane0 x0) (plane1 x0) (plane2 x0) k0_t1_loop.trips).1.2 := by
  unfold out0_A_1
  rw [View.read_writes_eq_canon _ _ _ (cover0_A_1 c i arg1 harg1 arg2 harg2 arg3 harg3 x0)]
  unfold kernelRun0_A
  dsimp only
  sl_unfold_words
  rw [View.canon_unit_zero zero3]
  simp only [View.readAt_eq_ld, harg1.read_unread]
  exact congrArg Prod.snd (st0_eq _ _ _ _ _ _ _ _ _ _ _ _ _ _
    (View.read_writes_full (s := S32x64x128) arg3.view _ inb_S32x64x128_S32x64x128_0_0_0 _ []) k0_t1_loop.trips le_rfl).1

end Cert.KernelIdeal.Val
-- ==== Proof.Pick.lean ====
/- The first index of a least value, and the two ways the programs find it: a least index word among those
   whose value is not above the minimum, and a fold of pairs that keeps the better pair. -/
module

public import Idealize.ShloMosaic.Lib.Pointwise
public import Idealize.ShloMosaic.PureOps.Ideal.Laws
public import Idealize.ShloMosaic.PureOps.Reduce

@[expose] public section

noncomputable section

namespace Cert.Pick

open Idealize.ShloMosaic

/-- `i` is the first index at which `f` is least. -/
def IsFirst {n : ℕ} (f : Fin n → EReal) (i : Fin n) : Prop := (∀ j, f i ≤ f j) ∧ ∀ j, j < i → f i < f j

theorem exists_isFirst {n : ℕ} [NeZero n] (f : Fin n → EReal) : ∃ i, IsFirst f i := by
  classical
  obtain ⟨i0, -, h0⟩ := Finset.exists_min_image (Finset.univ : Finset (Fin n)) f ⟨0, Finset.mem_univ _⟩
  have hne : (Finset.univ.filter fun i : Fin n => ∀ j, f i ≤ f j).Nonempty :=
    ⟨i0, Finset.mem_filter.2 ⟨Finset.mem_univ _, fun j => h0 j (Finset.mem_univ _)⟩⟩
  obtain ⟨i, hi, hm⟩ := Finset.exists_min_image _ id hne
  have hi' := (Finset.mem_filter.1 hi).2
  refine ⟨i, hi', fun j hj => lt_of_le_of_ne (hi' j) fun he => ?_⟩
  have : j ∈ Finset.univ.filter fun i : Fin n => ∀ j, f i ≤ f j :=
    Finset.mem_filter.2 ⟨Finset.mem_univ _, fun k => he ▸ hi' k⟩
  exact absurd (hm j this) (not_le.2 hj)

theorem IsFirst.unique {n : ℕ} {f : Fin n → EReal} {i j : Fin n} (hi : IsFirst f i) (hj : IsFirst f j) : i = j := by
  rcases lt_trichotomy i j with h | h | h
  · exact absurd (hi.1 j) (not_le.2 (hj.2 i h))
  · exact h
  · exact absurd (hj.1 i) (not_le.2 (hi.2 j h))

/-- The first index at which `f` is least. -/
def firstMin {n : ℕ} [NeZero n] (f : Fin n → EReal) : Fin n := Classical.choose (exists_isFirst f)

theorem firstMin_isFirst {n : ℕ} [NeZero n] (f : Fin n → EReal) : IsFirst f (firstMin f) := Classical.choose_spec (exists_isFirst f)

theorem eq_firstMin {n : ℕ} [NeZero n] {f : Fin n → EReal} {i : Fin n} (h : IsFirst f i) : i = firstMin f :=
  h.unique (firstMin_isFirst f)

/-- The first index at which `f` is greatest. -/
def firstMax {n : ℕ} [NeZero n] (f : Fin n → EReal) : Fin n := firstMin fun i => -f i

/-! ## The least word of a family -/

/-- A fold of the signed minimum is the start word or a member, and is not above any of them. -/
theorem fold_minsi {ι : Type} (s : Finset ι) (g : ι → BitVec 32) (init : BitVec 32) :
    (s.fold IntOp.minsi init g = init ∨ ∃ k ∈ s, s.fold IntOp.minsi init g = g k)
      ∧ (s.fold IntOp.minsi init g).toInt ≤ init.toInt ∧ ∀ k ∈ s, (s.fold IntOp.minsi init g).toInt ≤ (g k).toInt := by
  classical
  induction s using Finset.induction_on with
  | empty => simp
  | insert a s ha ih =>
    obtain ⟨h1, h2, h3⟩ := ih
    rw [Finset.fold_insert ha]
    generalize hr : s.fold IntOp.minsi init g = r at h1 h2 h3
    have hm : IntOp.minsi (g a) r = if (g a).toInt < r.toInt then g a else r := by
      unfold IntOp.minsi; simp only [BitVec.slt_iff_toInt_lt]
    rw [hm]
    by_cases hlt : (g a).toInt < r.toInt
    · rw [if_pos hlt]
      refine ⟨Or.inr ⟨a, Finset.mem_insert_self _ _, rfl⟩, by omega, fun k hk => ?_⟩
      rcases Finset.mem_insert.1 hk with rfl | hk
      · exact le_rfl
      · have := h3 k hk; omega
    · rw [if_neg hlt]
      refine ⟨h1.imp_right fun ⟨k, hk, he⟩ => ⟨k, Finset.mem_insert_of_mem hk, he⟩, h2, fun k hk => ?_⟩
      rcases Finset.mem_insert.1 hk with rfl | hk
      · omega
      · exact h3 k hk

theorem toInt_ofNat {a : ℕ} (h : a < 2 ^ 31) : (BitVec.ofNat 32 a).toInt = (a : ℤ) := by
  rw [BitVec.toInt_eq_toNat_of_lt, BitVec.toNat_ofNat, Nat.mod_eq_of_lt]
  · omega
  · rw [BitVec.toNat_ofNat, Nat.mod_eq_of_lt] <;> omega

/-- If `r` is the start word or one of the words "the index where `P` holds, else `N`", and is not above any of
    them, it is the least index at which `P` holds. -/
theorem word_of_least {N : ℕ} (hN : N < 2 ^ 31 - 1) (P : Fin N → Prop) [DecidablePred P] (i : Fin N) (hi : P i) (hmin : ∀ j, P j → i ≤ j)
    (r : BitVec 32) (hr : r = 2147483647#32 ∨ ∃ k : Fin N, r = if P k then BitVec.ofNat 32 k.val else BitVec.ofNat 32 N)
    (hle : r.toInt ≤ (if P i then BitVec.ofNat 32 i.val else BitVec.ofNat 32 N).toInt) : r = BitVec.ofNat 32 i.val := by
  have hiN := i.isLt
  rw [if_pos hi, toInt_ofNat (by omega)] at hle
  rcases hr with rfl | ⟨k, rfl⟩
  · have : (2147483647#32 : BitVec 32).toInt = 2147483647 := by decide
    omega
  · have hk := k.isLt
    by_cases hP : P k
    · rw [if_pos hP, toInt_ofNat (by omega)] at hle
      have := hmin k hP
      have : k = i := le_antisymm (Fin.le_def.2 (by omega)) this
      rw [if_pos hP, this]
    · rw [if_neg hP, toInt_ofNat (by omega)] at hle
      omega

/-- The least over one axis: the fold of the index words at which `P` holds. -/
theorem fold_word {N : ℕ} [NeZero N] (hN : N < 2 ^ 31 - 1) (f : Fin N → EReal) (P : Fin N → Prop) [DecidablePred P]
    (hP : ∀ i, P i ↔ ∀ j, f i ≤ f j) :
    Finset.univ.fold IntOp.minsi 2147483647#32 (fun k : Fin N => if P k then BitVec.ofNat 32 k.val else BitVec.ofNat 32 N)
      = BitVec.ofNat 32 (firstMin f).val := by
  obtain ⟨h1, -, h3⟩ := fold_minsi Finset.univ (fun k : Fin N => if P k then BitVec.ofNat 32 k.val else BitVec.ofNat 32 N) 2147483647#32
  have hf := firstMin_isFirst f
  refine word_of_least hN P (firstMin f) ((hP _).2 hf.1) (fun j hj => ?_) _ (h1.imp_right fun ⟨k, _, h⟩ => ⟨k, h⟩) (h3 _ (Finset.mem_univ _))
  by_contra hlt
  exact absurd ((hP j).1 hj (firstMin f)) (not_le.2 (hf.2 j (not_le.1 hlt)))

/-- The position of row `r`, column `l` in rows of `B`. -/
def flat {A B N : ℕ} (h : A * B = N) (r : Fin A) (l : Fin B) : Fin N :=
  ⟨r.val * B + l.val, by
    have := r.isLt; have := l.isLt
    calc r.val * B + l.val < r.val * B + B := by omega
      _ = (r.val + 1) * B := by ring
      _ ≤ A * B := Nat.mul_le_mul_right _ (by omega)
      _ = N := h⟩

theorem flat_surj {A B N : ℕ} (h : A * B = N) (n : Fin N) : ∃ r l, flat h r l = n := by
  have hn := n.isLt
  have hB : 0 < B := by
    rcases Nat.eq_zero_or_pos B with h0 | h0
    · subst h0; omega
    · exact h0
  refine ⟨⟨n.val / B, Nat.div_lt_of_lt_mul (by rw [mul_comm, h]; exact hn)⟩, ⟨n.val % B, Nat.mod_lt _ hB⟩, Fin.ext ?_⟩
  show n.val / B * B + n.val % B = n.val
  rw [mul_comm]; exact Nat.div_add_mod _ _

theorem flat_inj {A B N : ℕ} (h : A * B = N) {r r' : Fin A} {l l' : Fin B} (he : flat h r l = flat h r' l') : r = r' ∧ l = l' := by
  have e : r.val * B + l.val = r'.val * B + l'.val := congrArg Fin.val he
  have hl := l.isLt; have hl' := l'.isLt
  have hB : 0 < B := by omega
  have h1 : (r.val * B + l.val) / B = r.val := by
    rw [mul_comm, Nat.mul_add_div hB, Nat.div_eq_of_lt hl, add_zero]
  have h2 : (r'.val * B + l'.val) / B = r'.val := by
    rw [mul_comm, Nat.mul_add_div hB, Nat.div_eq_of_lt hl', add_zero]
  have hr : r.val = r'.val := by rw [← h1, ← h2, e]
  refine ⟨Fin.ext hr, Fin.ext ?_⟩
  rw [hr] at e; omega

/-- The least over two axes, rows then columns: the same fold, nested. -/
theorem fold_word2 {A B N : ℕ} [NeZero N] (h : A * B = N) (hN : N < 2 ^ 31 - 1) (f : Fin N → EReal) (P : Fin N → Prop) [DecidablePred P]
    (hP : ∀ i, P i ↔ ∀ j, f i ≤ f j) :
    Finset.univ.fold IntOp.minsi 2147483647#32 (fun r : Fin A => Finset.univ.fold IntOp.minsi 2147483647#32 (fun l : Fin B =>
        if P (flat h r l) then BitVec.ofNat 32 (flat h r l).val else BitVec.ofNat 32 N))
      = BitVec.ofNat 32 (firstMin f).val := by
  have hf := firstMin_isFirst f
  have hin := fun r : Fin A => fold_minsi Finset.univ (fun l : Fin B =>
        if P (flat h r l) then BitVec.ofNat 32 (flat h r l).val else BitVec.ofNat 32 N) 2147483647#32
  have hout := fold_minsi Finset.univ (fun r : Fin A => Finset.univ.fold IntOp.minsi 2147483647#32 (fun l : Fin B =>
        if P (flat h r l) then BitVec.ofNat 32 (flat h r l).val else BitVec.ofNat 32 N)) 2147483647#32
  obtain ⟨h1, -, h3⟩ := hout
  refine word_of_least hN P (firstMin f) ((hP _).2 hf.1) (fun j hj => ?_) _ ?_ ?_
  · by_contra hlt
    exact absurd ((hP j).1 hj (firstMin f)) (not_le.2 (hf.2 j (not_le.1 hlt)))
  · rcases h1 with h1 | ⟨r, -, h1⟩
    · exact Or.inl h1
    · rcases (hin r).1 with h2 | ⟨l, -, h2⟩
      · exact Or.inl (h1.trans h2)
      · exact Or.inr ⟨flat h r l, h1.trans h2⟩
  · obtain ⟨r, l, hrl⟩ := flat_surj h (firstMin f)
    have := h3 r (Finset.mem_univ _)
    have h4 := (hin r).2.2 l (Finset.mem_univ _)
    rw [hrl] at h4
    exact this.trans h4

/-! ## The least value of a family -/

/-- A fold of `min` from the top is below every member, and a value is below it when below every member. -/
theorem le_fold_min {ι : Type} (s : Finset ι) (g : ι → EReal) (b : EReal) (c : EReal) :
    c ≤ s.fold min b g ↔ c ≤ b ∧ ∀ k ∈ s, c ≤ g k := Finset.le_fold_min c

theorem fold_max_le {ι : Type} (s : Finset ι) (g : ι → EReal) (b : EReal) (c : EReal) :
    s.fold max b g ≤ c ↔ b ≤ c ∧ ∀ k ∈ s, g k ≤ c := Finset.fold_max_le c

/-! ## The fold of pairs -/

/-- The fold of pairs that keeps the one with the lesser key, at equal keys the lesser index: over a list holding
    exactly the pairs `(f k, k)`, from a pair with the top key and index 0, its index is the first one at which the
    key is least. -/
theorem foldl_pairs {n : ℕ} (hn : n < 2 ^ 31) (κ : EReal → EReal) (f : Fin n → EReal)
    (step : EReal × BitVec 32 → EReal × BitVec 32 → EReal × BitVec 32)
    (hstep : ∀ a b, step a b = a ∧ (κ a.1 < κ b.1 ∨ (κ a.1 = κ b.1 ∧ a.2.toInt ≤ b.2.toInt))
      ∨ step a b = b ∧ (κ b.1 < κ a.1 ∨ (κ b.1 = κ a.1 ∧ b.2.toInt ≤ a.2.toInt)))
    (L : List (EReal × BitVec 32)) (hmem : ∀ p ∈ L, ∃ k : Fin n, p = (f k, BitVec.ofNat 32 k.val))
    (hall : ∀ k : Fin n, (f k, BitVec.ofNat 32 k.val) ∈ L)
    (init : EReal × BitVec 32) (h1 : κ init.1 = ⊤) (h2 : init.2 = 0#32) (i : Fin n) (hi : IsFirst (fun k => κ (f k)) i) :
    (L.foldl step init).2 = BitVec.ofNat 32 i.val := by
  have key : ∀ (L : List (EReal × BitVec 32)) (init : EReal × BitVec 32),
      (L.foldl step init = init ∨ L.foldl step init ∈ L)
        ∧ ∀ p, (p = init ∨ p ∈ L) → κ (L.foldl step init).1 < κ p.1
          ∨ (κ (L.foldl step init).1 = κ p.1 ∧ (L.foldl step init).2.toInt ≤ p.2.toInt) := by
    intro L
    induction L with
    | nil => intro init; exact ⟨Or.inl rfl, fun p hp => by simp at hp; subst hp; exact Or.inr ⟨rfl, le_rfl⟩⟩
    | cons q L ih =>
      intro init
      obtain ⟨g1, g2⟩ := ih (step init q)
      rw [List.foldl_cons]
      generalize L.foldl step (step init q) = r at g1 g2
      have hs := hstep init q
      have trans : ∀ a b c : EReal × BitVec 32, (κ a.1 < κ b.1 ∨ (κ a.1 = κ b.1 ∧ a.2.toInt ≤ b.2.toInt)) →
          (κ b.1 < κ c.1 ∨ (κ b.1 = κ c.1 ∧ b.2.toInt ≤ c.2.toInt)) → (κ a.1 < κ c.1 ∨ (κ a.1 = κ c.1 ∧ a.2.toInt ≤ c.2.toInt)) := by
        rintro a b c (h | ⟨h, h'⟩) (g | ⟨g, g'⟩)
        · exact Or.inl (h.trans g)
        · exact Or.inl (g ▸ h)
        · exact Or.inl (h ▸ g)
        · exact Or.inr ⟨h.trans g, h'.trans g'⟩
      have hr := g2 _ (Or.inl rfl)
      rcases hs with ⟨e, hle⟩ | ⟨e, hle⟩
      · rw [e] at g1 hr
        refine ⟨g1.imp_right fun h => List.mem_cons_of_mem _ h, fun p hp => ?_⟩
        rcases hp with rfl | hp
        · exact hr
        · rcases List.mem_cons.1 hp with rfl | hp
          · exact trans _ _ _ hr hle
          · exact g2 p (Or.inr hp)
      · rw [e] at g1 hr
        refine ⟨Or.inr (g1.elim (fun h => h ▸ List.mem_cons_self) fun h => List.mem_cons_of_mem _ h), fun p hp => ?_⟩
        rcases hp with rfl | hp
        · exact trans _ _ _ hr hle
        · rcases List.mem_cons.1 hp with rfl | hp
          · exact hr
          · exact g2 p (Or.inr hp)
  obtain ⟨g1, g2⟩ := key L init
  have hle := g2 _ (Or.inr (hall i))
  rcases g1 with g | g
  · rw [g] at hle ⊢
    rw [h1] at hle
    have htop : κ (f i) = ⊤ := by
      rcases hle with h | h
      · exact absurd h not_top_lt
      · exact h.1.symm
    have hz : i.val = 0 := by
      by_contra hz
      have := hi.2 ⟨0, by omega⟩ (Fin.lt_def.2 (by show 0 < i.val; omega))
      simp only [htop] at this
      exact absurd this not_top_lt
    rw [h2, hz]
  · obtain ⟨k, hk⟩ := hmem _ g
    rw [hk] at hle ⊢
    have hik := hi.1 k
    have hiv := i.isLt
    have hkv := k.isLt
    rcases hle with h | ⟨h, h'⟩
    · exact absurd hik (not_le.2 h)
    · simp only [toInt_ofNat (show k.val < 2 ^ 31 by omega), toInt_ofNat (show i.val < 2 ^ 31 by omega)] at h'
      have : i = k := by
        rcases lt_or_eq_of_le (Fin.le_def.2 (by omega) : k ≤ i) with hlt | he
        · have := hi.2 k hlt
          simp only at this h
          rw [h] at this
          exact absurd this (lt_irrefl _)
        · exact he.symm
      rw [this]

/-! ## Words as indicators -/

theorem ofNat_inj {a b : ℕ} (ha : a < 2 ^ 32) (hb : b < 2 ^ 32) : BitVec.ofNat 32 a = BitVec.ofNat 32 b ↔ a = b := by
  refine ⟨fun h => ?_, fun h => h ▸ rfl⟩
  have := congrArg BitVec.toNat h
  rwa [BitVec.toNat_ofNat, BitVec.toNat_ofNat, Nat.mod_eq_of_lt ha, Nat.mod_eq_of_lt hb] at this

/-- The position word of row `r`, column `l` in rows of 128. -/
theorem flat_word (r l : ℕ) : IntOp.addi (IntOp.muli (BitVec.ofNat 32 r) 128#32) (BitVec.ofNat 32 l) = BitVec.ofNat 32 (r * 128 + l) := by
  simp only [IntOp.addi, IntOp.muli]
  rw [show (128#32 : BitVec 32) = BitVec.ofNat 32 128 from rfl, ← BitVec.ofNat_mul, ← BitVec.ofNat_add]

/-- A comparison of words widened and converted is the indicator of their equality. -/
theorem indicator (a b : BitVec 32) :
    (FloatOps.sitofp FTy.f32 (BitVec.setWidth 32 (IntOp.cmpi .eq a b)) : Ideal FTy.f32) = if a = b then (1 : EReal) else 0 := by
  by_cases h : a = b
  · subst h; rw [if_pos rfl]; simp [IntOp.cmpi, FloatOps.sitofp]
  · rw [if_neg h]; simp [IntOp.cmpi, beq_false_of_ne h, FloatOps.sitofp]

/-- A sum weighted by the indicator of one index is the value at that index. -/
theorem sum_indicator {N : ℕ} (hN : N < 2 ^ 32) (x : Fin N → EReal) (i : Fin N) :
    (∑ k : Fin N, x k * (FloatOps.sitofp FTy.f32 (BitVec.setWidth 32 (IntOp.cmpi .eq (BitVec.ofNat 32 k.val) (BitVec.ofNat 32 i.val))) : Ideal FTy.f32))
      = x i := by
  rw [Finset.sum_eq_single i]
  · rw [indicator, if_pos rfl]; exact mul_one _
  · intro k _ hk
    have h1 := k.isLt; have h2 := i.isLt
    rw [indicator, if_neg (fun h => hk (Fin.ext ((ofNat_inj (by omega) (by omega)).1 h)))]; exact mul_zero _
  · intro h; exact absurd (Finset.mem_univ _) h

/-- The same over rows and columns of 128. -/
theorem sum_indicator2 {A N : ℕ} (h : A * 128 = N) (hN : N < 2 ^ 32) (x : Fin A → Fin 128 → EReal) (y : Fin N → EReal)
    (hxy : ∀ r l, x r l = y (flat h r l)) (i : Fin N) :
    (∑ r : Fin A, ∑ l : Fin 128, x r l * (FloatOps.sitofp FTy.f32 (BitVec.setWidth 32
        (IntOp.cmpi .eq (IntOp.addi (IntOp.muli (BitVec.ofNat 32 r.val) 128#32) (BitVec.ofNat 32 l.val)) (BitVec.ofNat 32 i.val))) : Ideal FTy.f32))
      = y i := by
  obtain ⟨r0, l0, h0⟩ := flat_surj h i
  have hz : ∀ r l, ¬ (r = r0 ∧ l = l0) → ¬ BitVec.ofNat 32 (r.val * 128 + l.val) = BitVec.ofNat 32 i.val := by
    intro r l hrl he
    have h1 := (flat h r l).isLt; have h2 := i.isLt
    have he' := (ofNat_inj (show r.val * 128 + l.val < 2 ^ 32 from by show (flat h r l).val < _; omega) (by omega)).1 he
    exact hrl (flat_inj h (Fin.ext (he'.trans (congrArg Fin.val h0).symm) : flat h r l = flat h r0 l0))
  rw [Finset.sum_eq_single r0, Finset.sum_eq_single l0]
  · rw [flat_word, indicator, if_pos (show BitVec.ofNat 32 (r0.val * 128 + l0.val) = _ from congrArg (BitVec.ofNat 32) (congrArg Fin.val h0)), hxy, h0]; exact mul_one _
  · intro l _ hl
    rw [flat_word, indicator, if_neg (hz _ _ fun hh => hl hh.2)]; exact mul_zero _
  · intro hh; exact absurd (Finset.mem_univ _) hh
  · intro r _ hr
    refine Finset.sum_eq_zero fun l _ => ?_
    rw [flat_word, indicator, if_neg (hz _ _ fun hh => hr hh.1)]; exact mul_zero _
  · intro hh; exact absurd (Finset.mem_univ _) hh

end Cert.Pick
-- ==== Proof.Search.lean ====
/- The calls' searches on their words: a least index word among the entries at the extreme value, and words of
   counters. -/
module

public import proofs.«01_k».proof.Proof.Pick

@[expose] public section

noncomputable section

namespace Cert.Pick

open Idealize.ShloMosaic

theorem select_eq {α : Type} (c : BitVec 1) (a b : α) : Scalar.select c a b = if c = 1#1 then a else b := rfl

theorem ofBits_inf : Ideal.ofBits FTy.f32 2139095040#32 = ⊤ := by rfl
theorem ofBits_ninf : Ideal.ofBits FTy.f32 4286578688#32 = ⊥ := by rfl

theorem cmpi_eq_one (a b : BitVec 32) : IntOp.cmpi .eq a b = 1#1 ↔ a = b := by
  by_cases h : a = b
  · subst h; simp [IntOp.cmpi]
  · simp [IntOp.cmpi, h, beq_false_of_ne h]

theorem cmp_ole (a b : EReal) : FloatOps.cmpf (F := Ideal) (φ := FTy.f32) CmpFPredicate.ole a b = 1#1 ↔ a ≤ b := by
  show Ideal.cmp .ole a b = 1#1 ↔ _
  unfold Ideal.cmp
  by_cases h : a ≤ b <;> simp [h]

theorem cmp_oge (a b : EReal) : FloatOps.cmpf (F := Ideal) (φ := FTy.f32) CmpFPredicate.oge a b = 1#1 ↔ b ≤ a := by
  show Ideal.cmp .oge a b = 1#1 ↔ _
  unfold Ideal.cmp
  by_cases h : b ≤ a <;> simp [h]

theorem cmp_ogt (a b : EReal) : FloatOps.cmpf (F := Ideal) (φ := FTy.f32) CmpFPredicate.ogt a b = 1#1 ↔ b < a := by
  show Ideal.cmp .ogt a b = 1#1 ↔ _
  unfold Ideal.cmp
  by_cases h : b < a <;> simp [h]

/-- A counter's word. -/
theorem iv_zero (k : ℕ) : Scf.iv 0#32 1#32 k = BitVec.ofNat 32 k := by
  simp [Scf.iv]
theorem iv_one (k : ℕ) : Scf.iv 1#32 1#32 k = BitVec.ofNat 32 (1 + k) := by
  simp [Scf.iv, BitVec.ofNat_add]

/-- A selection by an index's word is a selection by the index. -/
theorem select_index {α : Type} {a b : ℕ} (ha : a < 2 ^ 32) (hb : b < 2 ^ 32) (x y : α) :
    Scalar.select (IntOp.cmpi .eq (BitVec.ofNat 32 a) (BitVec.ofNat 32 b)) x y = if a = b then x else y := by
  rw [select_eq]
  by_cases h : a = b
  · rw [if_pos h, if_pos ((cmpi_eq_one _ _).2 (congrArg _ h))]
  · rw [if_neg h, if_neg fun hh => h ((ofNat_inj ha hb).1 ((cmpi_eq_one _ _).1 hh))]

/-- The search for the least along one axis finds its first index. -/
theorem search_min {N : ℕ} [NeZero N] (hN : N < 2 ^ 31 - 1) (f : Fin N → EReal) :
    Finset.fold IntOp.minsi 2147483647#32 (fun x : Fin N => Scalar.select
        (FloatOps.cmpf (F := Ideal) (φ := FTy.f32) CmpFPredicate.ole (f x) (Finset.fold min (Ideal.ofBits FTy.f32 2139095040#32) f Finset.univ : Ideal FTy.f32))
        (BitVec.ofNat 32 x.val) (BitVec.ofNat 32 N)) Finset.univ = BitVec.ofNat 32 (firstMin f).val := by
  classical
  rw [← fold_word hN f (fun i => ∀ j, f i ≤ f j) (fun i => Iff.rfl)]
  refine Finset.fold_congr fun i _ => ?_
  rw [select_eq]
  refine if_congr ?_ rfl rfl
  rw [cmp_ole, le_fold_min, ofBits_inf]
  simp

/-- The search for the greatest over rows and columns of 128 finds its first position. -/
theorem search_max {A N : ℕ} [NeZero N] (h : A * 128 = N) (hN : N < 2 ^ 31 - 1) (d : Fin A → Fin 128 → EReal) (f : Fin N → EReal)
    (hd : ∀ r l, d r l = f (flat h r l)) :
    Finset.fold IntOp.minsi 2147483647#32 (fun r : Fin A => Finset.fold IntOp.minsi 2147483647#32 (fun l : Fin 128 => Scalar.select
        (FloatOps.cmpf (F := Ideal) (φ := FTy.f32) CmpFPredicate.oge (d r l) (Finset.fold max (Ideal.ofBits FTy.f32 4286578688#32) (fun r' : Fin A =>
            Finset.fold max (Ideal.ofBits FTy.f32 4286578688#32) (fun l' : Fin 128 => d r' l') Finset.univ) Finset.univ : Ideal FTy.f32))
        (IntOp.addi (IntOp.muli (BitVec.ofNat 32 r.val) 128#32) (BitVec.ofNat 32 l.val)) (BitVec.ofNat 32 N)) Finset.univ) Finset.univ
      = BitVec.ofNat 32 (firstMax f).val := by
  classical
  unfold firstMax
  rw [← fold_word2 h hN (fun n => -f n) (fun i => ∀ j, -f i ≤ -f j) (fun i => Iff.rfl)]
  refine Finset.fold_congr fun r _ => Finset.fold_congr fun l _ => ?_
  rw [select_eq, flat_word]
  refine if_congr ?_ rfl rfl
  rw [cmp_oge, fold_max_le, ofBits_ninf]
  simp only [bot_le, true_and, Finset.mem_univ, true_imp_iff, fold_max_le, EReal.neg_le_neg_iff, hd]
  constructor
  · intro hh j
    obtain ⟨r', l', rfl⟩ := flat_surj h j
    exact hh r' l'
  · intro hh r' l'
    exact hh _

/-- A sum weighted the other way round. -/
theorem sum_indicator_left {N : ℕ} (hN : N < 2 ^ 32) (x : Fin N → EReal) (i : Fin N) :
    (∑ k : Fin N, (FloatOps.sitofp FTy.f32 (BitVec.setWidth 32 (IntOp.cmpi .eq (BitVec.ofNat 32 k.val) (BitVec.ofNat 32 i.val))) : Ideal FTy.f32) * x k)
      = x i := by
  rw [← sum_indicator hN x i]
  exact Finset.sum_congr rfl fun k _ => mul_comm _ _

end Cert.Pick
-- ==== Proof.Spec.lean ====
/- What both programs compute, written on one cloud of 8192 points: the sampled points, their nearest points, and
   the greedy path through the sampled points. -/
module

public import proofs.«01_k».proof.Proof.Pick

@[expose] public section

noncomputable section

namespace Cert.Spec

open Idealize.ShloMosaic Cert.Pick

/-- A cloud: 8192 points of three coordinates. -/
abbrev Cloud := Fin 8192 → Fin 3 → EReal

/-- The value that stands in for infinity in the calls. -/
def big : EReal := Ideal.ofBits FTy.f32 2137108966#32

/-- The squared distance, coordinate by coordinate. -/
def sq (a b : Fin 3 → EReal) : EReal :=
  (a 0 - b 0) * (a 0 - b 0) + (a 1 - b 1) * (a 1 - b 1) + (a 2 - b 2) * (a 2 - b 2)

/-- One sampling round: distances shrink to the current point, the next point is the first farthest one. -/
def sampleStep (p : Cloud) (s : (Fin 8192 → EReal) × Fin 8192) : (Fin 8192 → EReal) × Fin 8192 :=
  (fun n => min (s.1 n) (sq (p n) (p s.2)), firstMax fun n => min (s.1 n) (sq (p n) (p s.2)))

/-- The sampling rounds from the point 0. -/
def sample (p : Cloud) : ℕ → (Fin 8192 → EReal) × Fin 8192
  | 0 => (fun _ => Ideal.ofBits FTy.f32 1343554297#32, 0)
  | k + 1 => sampleStep p (sample p k)

/-- The `g`-th sampled point. -/
def centre (p : Cloud) (g : ℕ) : Fin 3 → EReal := p (sample p g).2

/-- The distance by the expanded square. -/
def dist (a b : Fin 3 → EReal) : EReal :=
  Ideal.sqrt (max ((∑ k, a k * a k) + (∑ k, b k * b k) - Ideal.ofBits FTy.f32 1073741824#32 * ∑ k, a k * b k) 0)

/-- One round of taking the nearest: the first nearest index is set to the stand-in value. -/
def nearStep {n : ℕ} [NeZero n] (d : Fin n → EReal) : Fin n → EReal := fun i => if i = firstMin d then big else d i

/-- The rounds of taking the nearest. -/
def near {n : ℕ} [NeZero n] (d : Fin n → EReal) : ℕ → Fin n → EReal
  | 0 => d
  | r + 1 => nearStep (near d r)

/-- The `r`-th nearest point to the `g`-th sampled one. -/
def nearest (p : Cloud) (g r : ℕ) : Fin 8192 := firstMin (near (fun n => dist (centre p g) (p n)) r)

/-- Coordinate `k` of the `r`-th neighbour, relative to the sampled point. -/
def rel (p : Cloud) (g r : ℕ) (k : Fin 3) : EReal := p (nearest p g r) k - centre p g k

/-- Distances among the sampled points, the diagonal masked by `M`. -/
def among (M : EReal) (p : Cloud) (i j : Fin 128) : EReal := if i = j then M else dist (centre p i.val) (centre p j.val)

/-- The next point of the path: the first nearest one to the last, those visited masked by `M`. -/
def next (M : EReal) (d : Fin 128 → Fin 128 → EReal) (s : (Fin 128 → Prop) × Fin 128) : Fin 128 :=
  open scoped Classical in firstMin fun j => if s.1 j then M else d s.2 j

/-- One path round. -/
def pathStep (M : EReal) (d : Fin 128 → Fin 128 → EReal) (s : (Fin 128 → Prop) × Fin 128) : (Fin 128 → Prop) × Fin 128 :=
  (fun j => s.1 j ∨ j = next M d s, next M d s)

/-- The path rounds from the point 0. -/
def path (M : EReal) (d : Fin 128 → Fin 128 → EReal) : ℕ → (Fin 128 → Prop) × Fin 128
  | 0 => (fun j => j = 0, 0)
  | k + 1 => pathStep M d (path M d k)

/-- The `s`-th point of the path. -/
def order (p : Cloud) (s : ℕ) : Fin 128 := (path big (among big p) s).2

/-! ## The masks agree with infinity -/

theorem path_last_visited (M : EReal) (d : Fin 128 → Fin 128 → EReal) (k : ℕ) : (path M d k).1 (path M d k).2 := by
  cases k with
  | zero => rfl
  | succ k => exact Or.inr rfl

/-- At most `k + 1` points are visited after `k` rounds. -/
theorem path_count (M : EReal) (d : Fin 128 → Fin 128 → EReal) (k : ℕ) :
    ∃ S : Finset (Fin 128), S.card ≤ k + 1 ∧ ∀ j, (path M d k).1 j ↔ j ∈ S := by
  classical
  induction k with
  | zero => exact ⟨{0}, by simp, fun j => by simp [path]⟩
  | succ k ih =>
    obtain ⟨S, hS, hj⟩ := ih
    refine ⟨insert (next M d (path M d k)) S, (Finset.card_insert_le _ _).trans (by omega), fun j => ?_⟩
    rw [Finset.mem_insert, ← hj]
    exact or_comm

/-- While a point is unvisited, two masks above every distance pick the same next point. -/
theorem next_congr {M M' : EReal} {d d' : Fin 128 → Fin 128 → EReal} (v : Fin 128 → Prop) (l : Fin 128)
    (hu : ∃ j, ¬ v j) (hl : v l) (hd : ∀ i j, i ≠ j → d i j = d' i j) (hM : ∀ i j, i ≠ j → d i j < M) (hM' : ∀ i j, i ≠ j → d i j < M') :
    next M d (v, l) = next M' d' (v, l) := by
  classical
  unfold next
  have h := firstMin_isFirst (fun j => if v j then M else d l j)
  set i := firstMin (fun j => if v j then M else d l j) with hi
  have hne : ∀ j, ¬ v j → l ≠ j := fun j hj he => hj (he ▸ hl)
  have hiv : ¬ v i := by
    intro hv
    obtain ⟨j, hj⟩ := hu
    have := h.1 j
    simp only [if_pos hv, if_neg hj] at this
    exact absurd (hM l j (hne j hj)) (not_lt.2 this)
  refine eq_firstMin ⟨fun j => ?_, fun j hj => ?_⟩
  · by_cases hv : v j
    · simp only [if_neg hiv, if_pos hv, ← hd _ _ (hne i hiv)]; exact (hM' _ _ (hne i hiv)).le
    · have := h.1 j
      simp only [if_neg hiv, if_neg hv] at this ⊢
      rwa [← hd _ _ (hne i hiv), ← hd _ _ (hne j hv)]
  · by_cases hv : v j
    · simp only [if_neg hiv, if_pos hv, ← hd _ _ (hne i hiv)]; exact hM' _ _ (hne i hiv)
    · have := h.2 j hj
      simp only [if_neg hiv, if_neg hv] at this ⊢
      rwa [← hd _ _ (hne i hiv), ← hd _ _ (hne j hv)]

/-- So the whole path is the same for the two masks. -/
theorem path_congr {M M' : EReal} {d d' : Fin 128 → Fin 128 → EReal} (hd : ∀ i j, i ≠ j → d i j = d' i j)
    (hM : ∀ i j, i ≠ j → d i j < M) (hM' : ∀ i j, i ≠ j → d i j < M') : ∀ k, k ≤ 127 → path M d k = path M' d' k
  | 0, _ => rfl
  | k + 1, hk => by
    have ih := path_congr hd hM hM' k (by omega)
    have hn : next M d (path M d k) = next M' d' (path M d k) := by
      refine next_congr (path M d k).1 (path M d k).2 ?_ (path_last_visited M d k) hd hM hM'
      obtain ⟨S, hS, hj⟩ := path_count M d k
      by_contra hall
      push Not at hall
      have : S = Finset.univ := Finset.eq_univ_iff_forall.2 fun j => (hj j).1 (hall j)
      rw [this, Finset.card_univ, Fintype.card_fin] at hS
      omega
    show pathStep M d (path M d k) = pathStep M' d' (path M' d' k)
    rw [← ih]
    unfold pathStep
    rw [hn]

end Cert.Spec
-- ==== Proof.Val0.lean ====
/- The sampling call's words are the sampling rounds of each cloud. -/
module

public import proofs.«01_k».proof.Proof.Words0
public import proofs.«01_k».proof.Proof.Search
public import proofs.«01_k».proof.Proof.Spec

@[expose] public section

set_option maxRecDepth 16384

noncomputable section

namespace Cert.KernelIdeal.Val

open Cert.KernelIdeal Cert.KernelIdeal.Gen Cert.Pick Cert.Spec
open Idealize.ShloMosaic Idealize.ShloMosaic.TcCoe Idealize.SL.Sem Idealize.ShloMosaic.Tactic

theorem trips0 : k0_t1_loop.trips = 128 := by decide

/-- The position of row `r`, lane `l` of a plane of 64 rows. -/
abbrev pos (r : Fin 64) (l : Fin 128) : Fin 8192 := flat (A := 64) (B := 128) (N := 8192) (by decide) r l

theorem pay12_at (x y z : FVec Ideal S32x64x128 .f32) (w : IVec S32x64x128 32) (cur : IVec S32x1x1 32) (d : FVec Ideal S32x64x128 .f32) (b : Fin 32) :
    k0_pay12 x y z w cur d (ix3 b 0 0) = Finset.fold max (Ideal.ofBits FTy.f32 4286578688#32) (fun r' : Fin 64 =>
      Finset.fold max (Ideal.ofBits FTy.f32 4286578688#32) (fun l' : Fin 128 => k0_pay10 x y z w cur d (ix3 b r' l')) Finset.univ) Finset.univ := by
  pointwise [k0_pay12]

theorem pay8_at (d : FVec Ideal S32x64x128 .f32) (m : FVec Ideal S32x1x1 .f32) (b : Fin 32) :
    k0_pay8 d m (ix3 b 0 0) = Finset.fold IntOp.minsi 2147483647#32 (fun r : Fin 64 => Finset.fold IntOp.minsi 2147483647#32 (fun l : Fin 128 =>
      Scalar.select (FloatOps.cmpf (F := Ideal) (φ := FTy.f32) CmpFPredicate.oge (d (ix3 b r l)) (m (ix3 b 0 0)))
        (IntOp.addi (IntOp.muli (BitVec.ofNat 32 r.val) 128#32) (BitVec.ofNat 32 l.val)) 8192#32) Finset.univ) Finset.univ := by
  pointwise [k0_pay8, k0_pay4]

/-- The sampling states on the words are those of the clouds. -/
theorem rounds0_spec (x y z : FVec Ideal S32x64x128 .f32) (p : Fin 32 → Cloud)
    (hx : ∀ b r l, x (ix3 b r l) = p b (pos r l) 0) (hy : ∀ b r l, y (ix3 b r l) = p b (pos r l) 1)
    (hz : ∀ b r l, z (ix3 b r l) = p b (pos r l) 2) : ∀ k, k ≤ 128 →
    (∀ b, (rounds0 x y z k).1.1 (ix3 b 0 0) = BitVec.ofNat 32 (sample (p b) k).2.val)
      ∧ (∀ b (g : Fin 128), g.val < k → (rounds0 x y z k).1.2 (ix3 b g 0) = BitVec.ofNat 32 (sample (p b) g.val).2.val)
      ∧ ∀ b r l, (rounds0 x y z k).2 (ix3 b r l) = (sample (p b) k).1 (pos r l)
  | 0, _ => by
    refine ⟨fun b => ?_, fun b g hg => absurd hg (Nat.not_lt_zero _), fun b r l => ?_⟩
    · show k0_pay6 (ix3 b 0 0) = _
      pointwise [k0_pay6]
      rfl
    · show k0_pay5 (F := Ideal) (ix3 b r l) = _
      pointwise [k0_pay5]
      rfl
  | k + 1, hk => by
    obtain ⟨h1, h2, h3⟩ := rounds0_spec x y z p hx hy hz k (by omega)
    have hlt : k < k0_t1_loop.trips := by rw [trips0]; omega
    have e : rounds0 x y z (k + 1) = round0 x y z ⟨k, hlt⟩ (rounds0 x y z k) := dif_pos hlt
    rw [e]
    generalize rounds0 x y z k = s at h1 h2 h3
    have hd : ∀ b r l, k0_pay10 x y z k0_pay4 s.1.1 s.2 (ix3 b r l) = (sample (p b) (k + 1)).1 (pos r l) := by
      intro b r l
      pointwise [k0_pay10, k0_pay4]
      rw [h1, h3, sum_indicator2 (by decide) (by norm_num) _ (fun n => p b n 0) (fun r l => hx b r l),
        sum_indicator2 (by decide) (by norm_num) _ (fun n => p b n 1) (fun r l => hy b r l),
        sum_indicator2 (by decide) (by norm_num) _ (fun n => p b n 2) (fun r l => hz b r l), hx, hy, hz]
      rfl
    refine ⟨fun b => ?_, fun b g hg => ?_, hd⟩
    · show k0_pay8 (k0_pay10 x y z k0_pay4 s.1.1 s.2) (k0_pay12 x y z k0_pay4 s.1.1 s.2) (ix3 b 0 0) = _
      rw [pay8_at, pay12_at]
      exact search_max (by decide) (by norm_num) _ _ (hd b)
    · show k0_pay9 (iota .tc S32x128x1 32 [1] iota_S32x128x1_d1_w32) 0#32 1#32 ⟨k, hlt⟩ s.1.1 s.1.2 (ix3 b g 0) = _
      pointwise [k0_pay9]
      have hg' := g.isLt
      rw [iv_zero, select_index (by omega) (by omega), h1]
      by_cases he : g.val = k
      · rw [if_pos he, he]
      · rw [if_neg he, h2 b g (by omega)]

end Cert.KernelIdeal.Val
-- ==== Proof.Arrays0.lean ====
/- The arrays between the calls: what the sampling call leaves. -/
module

public import proofs.«01_k».proof.Proof.Val0
public import Idealize.ShloMosaic.Lib.Pipeline.ValueKit

@[expose] public section

set_option maxRecDepth 16384

noncomputable section

namespace Cert.KernelIdeal.Val

open Cert.KernelIdeal Cert.KernelIdeal.Gen Cert.Pick Cert.Spec
open Idealize.ShloMosaic Idealize.ShloMosaic.TcCoe Idealize.SL.Sem Idealize.ShloMosaic.Tactic

variable (m : (l : Loc nD τ sig) → Buf (Elt Ideal) l) (ρ : Dev nD → PrngReg)

/-- Cloud `b` of the argument. -/
def cloud (c : Dev nD) (b : Fin 32) : Cloud := fun n k => m ((c : Thread nD τ).loc main_arg0) (ix3 b n k)

theorem W1_v0 (c : Dev nD) (b : Fin 32) (k : Fin 3) (n : Fin 8192) :
    W1 m ρ c (Proc.devRef .tc main_v0) (ix3 b k n) = cloud m c b n k := by
  have e : W1 m ρ c (Proc.devRef .tc main_v0) = transpose S32x3x8192 [0, 2, 1] (m ((c : Thread nD τ).loc main_arg0)) transposes_S32x8192x3_S32x3x8192_0_2_1 := by
    unfold W1 hostOps0
    after_results
    try rfl
  rw [e]
  pointwise [cloud]

theorem W1_v1 (c : Dev nD) (b : Fin 32) (k : Fin 3) (r : Fin 64) (l : Fin 128) :
    W1 m ρ c (Proc.devRef .tc main_v1) (ix4 b k r l) = cloud m c b (pos r l) k := by
  have e : W1 m ρ c (Proc.devRef .tc main_v1) = shapeCast S32x3x64x128 (transpose S32x3x8192 [0, 2, 1] (m ((c : Thread nD τ).loc main_arg0)) transposes_S32x8192x3_S32x3x8192_0_2_1) shapeCasts_S32x3x8192_S32x3x64x128 := by
    unfold W1 hostOps0
    after_results
    try rfl
  rw [e]
  pointwise [cloud]
  rfl

theorem W2_v2 (c : Dev nD) (b : Fin 32) (g : Fin 128) :
    W2 m ρ c (Proc.devRef .tc main_v2) (ix3 b g 0) = BitVec.ofNat 32 (sample (cloud m c b) g.val).2.val := by
  have e1 : ∀ t : Fin cfg0.N, win0_1.index t = ![0, 0, 0] := (by decide +kernel : ∀ t : Fin grid0.N, _)
  have e0 : ∀ t : Fin cfg0.N, win0_0.index t = ![0, 0, 0, 0] := (by decide +kernel : ∀ t : Fin grid0.N, _)
  have hA : (dat0 (V1 m ρ) c).arrAt 1 cfg0.N = fun i => BitVec.ofNat 32 (sample (cloud m c (i 0)) (i 1).val).2.val := by
    refine (dat0 (V1 m ρ) c).arrAt_eq_of_covers 1 _ (by decide +kernel) fun t hf y => ?_
    blk_simp [e1]
    rw [after0_1]
    unfold outsAt0
    rw [out0_eq]
    have hx : ∀ b k r l, iblk0 (V1 m ρ) c 0 t (ix4 b k r l) = cloud m c b (pos r l) k := by
      intro b k r l
      refine Eq.trans ?_ (W1_v1 m ρ c b k r l)
      blk_simp [iblk0]
      refine congrArg (W1 m ρ c (Proc.devRef .tc main_v1)) ?_
      blk_ext [e0]
    have hy0 : (win0_1.blk t).view.emb y = y := by blk_ext [e1]
    obtain ⟨b', g', u, rfl⟩ : ∃ (b' : Fin 32) (g' : Fin 128) (u : Fin 1), y = ix3 b' g' u := ⟨y 0, y 1, y 2, by idx_vars y⟩
    rw [hy0]
    rw [Subsingleton.elim u 0]
    have hs := (rounds0_spec (plane0 (iblk0 (V1 m ρ) c 0 t)) (plane1 (iblk0 (V1 m ρ) c 0 t)) (plane2 (iblk0 (V1 m ρ) c 0 t)) (cloud m c)
      (fun b r l => ?_) (fun b r l => ?_) (fun b r l => ?_) 128 le_rfl).2.1 b' g' g'.isLt
    · rw [show k0_t1_loop.trips = 128 from trips0]
      exact hs
    · refine Eq.trans ?_ (hx b 0 r l)
      pointwise [plane0, k0_pay1]
    · refine Eq.trans ?_ (hx b 1 r l)
      pointwise [plane1, k0_pay2]
    · refine Eq.trans ?_ (hx b 2 r l)
      pointwise [plane2, k0_pay3]
  exact congrFun ((W2_arr m ρ c 1).trans hA) (ix3 b g 0)

end Cert.KernelIdeal.Val
-- ==== Proof.Words1.lean ====
module

public import proofs.«01_k».proof.Proof.Words0
public import Idealize.ShloMosaic.Lib.Pipeline.Value
public import Idealize.ShloMosaic.Lib.Tactic
public import Idealize.ShloMosaic.Lib.VecWindow

@[expose] public section

set_option maxRecDepth 16384

noncomputable section

namespace Cert.KernelIdeal.Val

open Cert.KernelIdeal Cert.KernelIdeal.Gen
open Idealize.ShloMosaic Idealize.ShloMosaic.TcCoe Idealize.SL.Sem Idealize.ShloMosaic.Tactic

variable {F : FTy → Type} [FloatOps F]

theorem zero2 : (![0, 0] : Fin 2 → ℕ) = fun _ => 0 := funext fun a => by fin_cases a <;> rfl

/-- One round of the neighbour loop on its words: three coordinate arrays and the distances found. -/
def round1 (p : FVec F S8192x3 .f32) (ctr : FVec F S128x3 .f32) (k : Fin k1_t1_loop.trips)
    (s : (FVec F S128x32 .f32 × FVec F S128x32 .f32 × FVec F S128x32 .f32) × FVec F S128x8192 .f32) : (FVec F S128x32 .f32 × FVec F S128x32 .f32 × FVec F S128x32 .f32) × FVec F S128x8192 .f32 :=
  ((k1_pay5 p (iota .tc S128x8192 32 [1] iota_S128x8192_d1_w32) (iota .tc S128x32 32 [1] iota_S128x32_d1_w32) ctr k s.1.1 s.2,
    k1_pay6 p (iota .tc S128x8192 32 [1] iota_S128x8192_d1_w32) (iota .tc S128x32 32 [1] iota_S128x32_d1_w32) ctr k s.1.2.1 s.2,
    k1_pay7 p (iota .tc S128x8192 32 [1] iota_S128x8192_d1_w32) (iota .tc S128x32 32 [1] iota_S128x32_d1_w32) ctr k s.1.2.2 s.2),
   k1_pay8 (iota .tc S128x8192 32 [1] iota_S128x8192_d1_w32) s.2)

/-- The rounds' states from the distances `d`. -/
def rounds1 (p : FVec F S8192x3 .f32) (ctr : FVec F S128x3 .f32) (d : FVec F S128x8192 .f32) :
    ℕ → (FVec F S128x32 .f32 × FVec F S128x32 .f32 × FVec F S128x32 .f32) × FVec F S128x8192 .f32
  | 0 => ((k1_pay2, k1_pay2, k1_pay2), d)
  | k + 1 => if h : k < k1_t1_loop.trips then round1 p ctr ⟨k, h⟩ (rounds1 p ctr d k) else rounds1 p ctr d k

section
variable (𝒱 : Variants) (c : Dev nD) (bd : Option 𝒱.V) (i : grid1.Coords) (arg1 : Memref sig .tc .vmem S1x3x8192 .f32) (harg1 : arg1.IsWhole) (arg2 : Memref sig .tc .vmem S1x8192x3 .f32) (harg2 : arg2.IsWhole) (arg3 : Memref sig .tc .vmem S1x128x1 .i32) (harg3 : arg3.IsWhole) (arg4 : Memref sig .tc .vmem S1x128x32 .f32) (harg4 : arg4.IsWhole) (arg5 : Memref sig .tc .vmem S1x128x32 .f32) (harg5 : arg5.IsWhole) (arg6 : Memref sig .tc .vmem S1x128x32 .f32) (harg6 : arg6.IsWhole) (arg7 : Memref sig .tc .vmem S1x128x3 .f32) (harg7 : arg7.IsWhole) (arg8 : Memref sig .tc .vmem S1x128x128 .f32) (harg8 : arg8.IsWhole) (arg9 : Memref sig .tc .vmem S128x8192 .f32) (harg9 : arg9.IsWhole)

theorem tripR1_eq (v3 : FVec F S8192x3 .f32) (v4 : IVec S128x8192 32) (v5 : IVec S128x32 32) (v44 : FVec F S128x3 .f32) (k : Fin k1_t1_loop.trips) (acc : FVec F S128x32 .f32 × FVec F S128x32 .f32 × FVec F S128x32 .f32) (f : BufTy.Contents (Elt F) arg9.view.ty) :
    tripR_k1_t1 𝒱 c bd i arg1 harg1 arg2 harg2 arg3 harg3 arg4 harg4 arg5 harg5 arg6 harg6 arg7 harg7 arg8 harg8 arg9 harg9 v3 v4 v5 v44 k acc f
      = (k1_pay5 v3 v4 v5 v44 k acc.1 (arg9.view.read (Elt F) f), k1_pay6 v3 v4 v5 v44 k acc.2.1 (arg9.view.read (Elt F) f),
         k1_pay7 v3 v4 v5 v44 k acc.2.2 (arg9.view.read (Elt F) f)) := by
  unfold tripR_k1_t1 trip_k1_t1
  dsimp only
  sl_unfold_words
  simp only [View.readAt_eq_ld, View.ld_unit_zero (S := S128x8192) zero2]

theorem tripL1_eq (v3 : FVec F S8192x3 .f32) (v4 : IVec S128x8192 32) (v5 : IVec S128x32 32) (v44 : FVec F S128x3 .f32) (k : Fin k1_t1_loop.trips) (acc : FVec F S128x32 .f32 × FVec F S128x32 .f32 × FVec F S128x32 .f32) (f g : BufTy.Contents (Elt F) arg9.view.ty)
    (L : List (View.Piece (Elt F) S128x8192 .f32)) :
    arg9.view.read (Elt F) (arg9.view.writes (Elt F) g (tripL_k1_t1 𝒱 c bd i arg1 harg1 arg2 harg2 arg3 harg3 arg4 harg4 arg5 harg5 arg6 harg6 arg7 harg7 arg8 harg8 arg9 harg9 v3 v4 v5 v44 k acc f ++ L))
      = k1_pay8 v4 (arg9.view.read (Elt F) f) := by
  unfold tripL_k1_t1 trip_k1_t1
  dsimp only
  sl_unfold_words
  rw [List.singleton_append]
  refine (View.read_writes_full (s := S128x8192) arg9.view g inb_S128x8192_S128x8192_0_0 _ L).trans ?_
  simp only [View.readAt_eq_ld, View.ld_unit_zero (S := S128x8192) zero2]

theorem st1_eq (v3 : FVec F S8192x3 .f32) (v44 : FVec F S128x3 .f32) (d : FVec F S128x8192 .f32) (G : BufTy.Contents (Elt F) arg9.view.ty) (hG : arg9.view.read (Elt F) G = d) : ∀ k, k ≤ k1_t1_loop.trips →
    (st_k1_t1 𝒱 c bd i arg1 harg1 arg2 harg2 arg3 harg3 arg4 harg4 arg5 harg5 arg6 harg6 arg7 harg7 arg8 harg8 arg9 harg9 v3 (iota .tc S128x8192 32 [1] iota_S128x8192_d1_w32) (iota .tc S128x32 32 [1] iota_S128x32_d1_w32) v44 G (k1_pay2, k1_pay2, k1_pay2) k).1
        = (rounds1 v3 v44 d k).1
      ∧ arg9.view.read (Elt F) (arg9.view.writes (Elt F) G
          (st_k1_t1 𝒱 c bd i arg1 harg1 arg2 harg2 arg3 harg3 arg4 harg4 arg5 harg5 arg6 harg6 arg7 harg7 arg8 harg8 arg9 harg9 v3 (iota .tc S128x8192 32 [1] iota_S128x8192_d1_w32) (iota .tc S128x32 32 [1] iota_S128x32_d1_w32) v44 G (k1_pay2, k1_pay2, k1_pay2) k).2)
        = (rounds1 v3 v44 d k).2
  | 0, _ => ⟨rfl, hG⟩
  | k + 1, h => by
    obtain ⟨h1, h2⟩ := st1_eq v3 v44 d G hG k (Nat.le_of_succ_le h)
    have e := st_k1_t1_succ 𝒱 c bd i arg1 harg1 arg2 harg2 arg3 harg3 arg4 harg4 arg5 harg5 arg6 harg6 arg7 harg7 arg8 harg8 arg9 harg9 v3 (iota .tc S128x8192 32 [1] iota_S128x8192_d1_w32) (iota .tc S128x32 32 [1] iota_S128x32_d1_w32) v44 G (k1_pay2, k1_pay2, k1_pay2) ⟨k, h⟩
    dsimp only at e
    rw [e]
    rw [rounds1, dif_pos (Nat.lt_of_succ_le h)]
    constructor
    · show tripR_k1_t1 .. = _
      rw [tripR1_eq, h1, h2, round1]
    · show arg9.view.read (Elt F) (arg9.view.writes (Elt F) G (tripL_k1_t1 .. ++ _)) = _
      rw [tripL1_eq, h2, round1]
end

/-- The centres as the call forms them: a one-hot sum per coordinate, placed in the first three columns. -/
def ctr1 (x0 : Vec F S1x3x8192 .f32) (x2 : Vec F S1x128x1 .i32) : FVec F S128x3 .f32 :=
  k1_pay19 k1_pay15 (k1_pay16 x0 x2) (k1_pay17 x0 x2)
/-- The distances from the centres to the cloud. -/
def dist1 (x0 : Vec F S1x3x8192 .f32) (x2 : Vec F S1x128x1 .i32) : FVec F S128x8192 .f32 :=
  k1_pay22 (k1_pay12 x0) k1_pay15 (k1_pay16 x0 x2) (k1_pay17 x0 x2)

section
variable (c : Dev nD) (i : grid1.Coords) (arg1 : Memref sig .tc .vmem S1x3x8192 .f32) (harg1 : arg1.IsWhole) (arg2 : Memref sig .tc .vmem S1x8192x3 .f32) (harg2 : arg2.IsWhole) (arg3 : Memref sig .tc .vmem S1x128x1 .i32) (harg3 : arg3.IsWhole) (arg4 : Memref sig .tc .vmem S1x128x32 .f32) (harg4 : arg4.IsWhole) (arg5 : Memref sig .tc .vmem S1x128x32 .f32) (harg5 : arg5.IsWhole) (arg6 : Memref sig .tc .vmem S1x128x32 .f32) (harg6 : arg6.IsWhole) (arg7 : Memref sig .tc .vmem S1x128x3 .f32) (harg7 : arg7.IsWhole) (arg8 : Memref sig .tc .vmem S1x128x128 .f32) (harg8 : arg8.IsWhole) (arg9 : Memref sig .tc .vmem S128x8192 .f32) (harg9 : arg9.IsWhole) (x0 : Vec F S1x3x8192 .f32) (x1 : Vec F S1x8192x3 .f32) (x2 : Vec F S1x128x1 .i32)

theorem out1_3_eq : out1_A_3 c i arg1 harg1 arg2 harg2 arg3 harg3 arg4 harg4 arg5 harg5 arg6 harg6 arg7 harg7 arg8 harg8 arg9 harg9 x0 x1 x2 = k1_pay9 (rounds1 (k1_pay13 x1) (ctr1 x0 x2) (dist1 x0 x2) k1_t1_loop.trips).1.1 := by
  unfold out1_A_3
  rw [View.read_writes_eq_canon _ _ _ (cover1_A_3 c i arg1 harg1 arg2 harg2 arg3 harg3 arg4 harg4 arg5 harg5 arg6 harg6 arg7 harg7 arg8 harg8 arg9 harg9 x0 x1 x2)]
  unfold kernelRun1_A
  dsimp only
  sl_unfold_words
  rw [View.canon_unit_zero zero3]
  simp only [View.readAt_eq_ld, harg1.read_unread, harg2.read_unread, harg3.read_unread, View.ld_unit_zero (S := S1x3x8192) zero3, View.ld_unit_zero (S := S1x8192x3) zero3, View.ld_unit_zero (S := S1x128x1) zero3]
  exact congrArg (fun r : FVec F S128x32 .f32 × FVec F S128x32 .f32 × FVec F S128x32 .f32 => k1_pay9 r.1) (st1_eq _ _ _ _ _ _ _ _ _ _ _ _ _ _ _ _ _ _ _ _ _ _  _ _ _ _
    (View.read_writes_full (s := S128x8192) arg9.view _ inb_S128x8192_S128x8192_0_0 _ []) k1_t1_loop.trips le_rfl).1

theorem out1_4_eq : out1_A_4 c i arg1 harg1 arg2 harg2 arg3 harg3 arg4 harg4 arg5 harg5 arg6 harg6 arg7 harg7 arg8 harg8 arg9 harg9 x0 x1 x2 = k1_pay10 (rounds1 (k1_pay13 x1) (ctr1 x0 x2) (dist1 x0 x2) k1_t1_loop.trips).1.2.1 := by
  unfold out1_A_4
  rw [View.read_writes_eq_canon _ _ _ (cover1_A_4 c i arg1 harg1 arg2 harg2 arg3 harg3 arg4 harg4 arg5 harg5 arg6 harg6 arg7 harg7 arg8 harg8 arg9 harg9 x0 x1 x2)]
  unfold kernelRun1_A
  dsimp only
  sl_unfold_words
  rw [View.canon_unit_zero zero3]
  simp only [View.readAt_eq_ld, harg1.read_unread, harg2.read_unread, harg3.read_unread, View.ld_unit_zero (S := S1x3x8192) zero3, View.ld_unit_zero (S := S1x8192x3) zero3, View.ld_unit_zero (S := S1x128x1) zero3]
  exact congrArg (fun r : FVec F S128x32 .f32 × FVec F S128x32 .f32 × FVec F S128x32 .f32 => k1_pay10 r.2.1) (st1_eq _ _ _ _ _ _ _ _ _ _ _ _ _ _ _ _ _ _ _ _ _ _  _ _ _ _
    (View.read_writes_full (s := S128x8192) arg9.view _ inb_S128x8192_S128x8192_0_0 _ []) k1_t1_loop.trips le_rfl).1

theorem out1_5_eq : out1_A_5 c i arg1 harg1 arg2 harg2 arg3 harg3 arg4 harg4 arg5 harg5 arg6 harg6 arg7 harg7 arg8 harg8 arg9 harg9 x0 x1 x2 = k1_pay11 (rounds1 (k1_pay13 x1) (ctr1 x0 x2) (dist1 x0 x2) k1_t1_loop.trips).1.2.2 := by
  unfold out1_A_5
  rw [View.read_writes_eq_canon _ _ _ (cover1_A_5 c i arg1 harg1 arg2 harg2 arg3 harg3 arg4 harg4 arg5 harg5 arg6 harg6 arg7 harg7 arg8 harg8 arg9 harg9 x0 x1 x2)]
  unfold kernelRun1_A
  dsimp only
  sl_unfold_words
  rw [View.canon_unit_zero zero3]
  simp only [View.readAt_eq_ld, harg1.read_unread, harg2.read_unread, harg3.read_unread, View.ld_unit_zero (S := S1x3x8192) zero3, View.ld_unit_zero (S := S1x8192x3) zero3, View.ld_unit_zero (S := S1x128x1) zero3]
  exact congrArg (fun r : FVec F S128x32 .f32 × FVec F S128x32 .f32 × FVec F S128x32 .f32 => k1_pay11 r.2.2) (st1_eq _ _ _ _ _ _ _ _ _ _ _ _ _ _ _ _ _ _ _ _ _ _  _ _ _ _
    (View.read_writes_full (s := S128x8192) arg9.view _ inb_S128x8192_S128x8192_0_0 _ []) k1_t1_loop.trips le_rfl).1

theorem out1_6_eq : out1_A_6 c i arg1 harg1 arg2 harg2 arg3 harg3 arg4 harg4 arg5 harg5 arg6 harg6 arg7 harg7 arg8 harg8 arg9 harg9 x0 x1 x2 = k1_pay20 k1_pay15 (k1_pay16 x0 x2) (k1_pay17 x0 x2) := by
  unfold out1_A_6
  rw [View.read_writes_eq_canon _ _ _ (cover1_A_6 c i arg1 harg1 arg2 harg2 arg3 harg3 arg4 harg4 arg5 harg5 arg6 harg6 arg7 harg7 arg8 harg8 arg9 harg9 x0 x1 x2)]
  unfold kernelRun1_A
  dsimp only
  sl_unfold_words
  rw [View.canon_unit_zero zero3]
  simp only [View.readAt_eq_ld, harg1.read_unread, harg2.read_unread, harg3.read_unread, View.ld_unit_zero (S := S1x3x8192) zero3, View.ld_unit_zero (S := S1x8192x3) zero3, View.ld_unit_zero (S := S1x128x1) zero3]

theorem out1_7_eq : out1_A_7 c i arg1 harg1 arg2 harg2 arg3 harg3 arg4 harg4 arg5 harg5 arg6 harg6 arg7 harg7 arg8 harg8 arg9 harg9 x0 x1 x2 = k1_pay1 (k1_pay23 k1_pay15 (k1_pay16 x0 x2) (k1_pay17 x0 x2)) k1_pay24 k1_pay25 := by
  unfold out1_A_7
  rw [View.read_writes_eq_canon _ _ _ (cover1_A_7 c i arg1 harg1 arg2 harg2 arg3 harg3 arg4 harg4 arg5 harg5 arg6 harg6 arg7 harg7 arg8 harg8 arg9 harg9 x0 x1 x2)]
  unfold kernelRun1_A
  dsimp only
  sl_unfold_words
  rw [View.canon_unit_zero zero3]
  simp only [View.readAt_eq_ld, harg1.read_unread, harg2.read_unread, harg3.read_unread, View.ld_unit_zero (S := S1x3x8192) zero3, View.ld_unit_zero (S := S1x8192x3) zero3, View.ld_unit_zero (S := S1x128x1) zero3]
end

end Cert.KernelIdeal.Val
-- ==== Proof.Val1.lean ====
/- The neighbour call's words are the nearest-point rounds of one cloud. -/
module

public import proofs.«01_k».proof.Proof.Words1
public import proofs.«01_k».proof.Proof.Search
public import proofs.«01_k».proof.Proof.Spec

@[expose] public section

set_option maxRecDepth 16384

noncomputable section

namespace Cert.KernelIdeal.Val

open Cert.KernelIdeal Cert.KernelIdeal.Gen Cert.Pick Cert.Spec
open Idealize.ShloMosaic Idealize.ShloMosaic.TcCoe Idealize.SL.Sem Idealize.ShloMosaic.Tactic

theorem trips1 : k1_t1_loop.trips = 32 := by decide

section Centres
variable (x0 : Vec Ideal S1x3x8192 .f32) (x2 : Vec Ideal S1x128x1 .i32) (p : Cloud) (idx : Fin 128 → Fin 8192)
  (h0 : ∀ k n, x0 (ix3 0 k n) = p n k) (h2 : ∀ g, x2 (ix3 0 g 0) = BitVec.ofNat 32 (idx g).val)
include h0 h2

theorem pay17_at (g n : Fin 128) : k1_pay17 (F := Ideal) x0 x2 (ix2 g n) = p (idx g) 0 := by
  pointwise [k1_pay17, k1_pay14, k1_pay12]
  rw [h2]
  refine (sum_indicator_left (by norm_num) (fun n => x0 (ix3 0 0 n)) (idx g)).trans (h0 _ _)

theorem pay16_at (g n : Fin 128) : k1_pay16 (F := Ideal) x0 x2 (ix2 g n) = if n.val = 1 then p (idx g) 1 else if n.val = 2 then p (idx g) 2 else 0 := by
  have hn := n.isLt
  pointwise [k1_pay16, k1_pay14, k1_pay12]
  rw [h2, sum_indicator_left (by norm_num) (fun n => x0 (ix3 0 1 n)) (idx g), sum_indicator_left (by norm_num) (fun n => x0 (ix3 0 2 n)) (idx g), h0, h0]
  rw [show (1#32 : BitVec 32) = BitVec.ofNat 32 1 from rfl, show (2#32 : BitVec 32) = BitVec.ofNat 32 2 from rfl,
    select_index (by omega) (by omega), select_index (by omega) (by omega)]

/-- The padded centres hold the sampled points in their first three columns. -/
theorem pay18_at (g : Fin 128) (k : Fin 3) (hk : k.val < 128) :
    k1_pay18 (F := Ideal) k1_pay15 (k1_pay16 x0 x2) (k1_pay17 x0 x2) (ix2 g ⟨k.val, hk⟩) = p (idx g) k := by
  pointwise [k1_pay18, k1_pay15]
  rw [pay17_at x0 x2 p idx h0 h2, pay16_at x0 x2 p idx h0 h2]
  rw [show (0#32 : BitVec 32) = BitVec.ofNat 32 0 from rfl, select_index (by omega) (by omega)]
  fin_cases k <;> rfl

theorem ctr1_at (g : Fin 128) (k : Fin 3) : ctr1 (F := Ideal) x0 x2 (ix2 g k) = p (idx g) k := by
  unfold ctr1
  pointwise [k1_pay19]
  exact pay18_at x0 x2 p idx h0 h2 g k _

theorem dist1_at (g : Fin 128) (n : Fin 8192) : dist1 (F := Ideal) x0 x2 (ix2 g n) = dist (p (idx g)) (p n) := by
  have hc := ctr1_at x0 x2 p idx h0 h2
  unfold ctr1 at hc
  unfold dist1
  pointwise [k1_pay22, k1_pay21, k1_pay12]
  simp only [hc, h0]
  rfl

/-- The distances among the sampled points, the diagonal masked. -/
theorem out1_7_at (g n : Fin 128) :
    k1_pay1 (F := Ideal) (k1_pay23 k1_pay15 (k1_pay16 x0 x2) (k1_pay17 x0 x2)) k1_pay24 k1_pay25 (ix3 0 g n)
      = if g = n then big else dist (p (idx g)) (p (idx n)) := by
  have hg := g.isLt
  have hn := n.isLt
  have hc := ctr1_at x0 x2 p idx h0 h2
  unfold ctr1 at hc
  pointwise [k1_pay1, k1_pay23, k1_pay21, k1_pay24, k1_pay25]
  simp only [hc, pay18_at x0 x2 p idx h0 h2]
  rw [select_index (by omega) (by omega)]
  exact if_congr Fin.ext_iff.symm rfl rfl

theorem out1_6_at (g : Fin 128) (k : Fin 3) :
    k1_pay20 (F := Ideal) k1_pay15 (k1_pay16 x0 x2) (k1_pay17 x0 x2) (ix3 0 g k) = p (idx g) k := by
  have hc := ctr1_at x0 x2 p idx h0 h2
  unfold ctr1 at hc
  pointwise [k1_pay20]
  exact hc g k
end Centres

section Rounds

theorem pay3_raw (d : FVec Ideal S128x8192 .f32) (g : Fin 128) (n : Fin 8192) :
    k1_pay3 (F := Ideal) (iota .tc S128x8192 32 [1] iota_S128x8192_d1_w32) (d : Vec Ideal S128x8192 .f32) (ix2 g n)
      = IntOp.cmpi .eq (BitVec.ofNat 32 n.val) (Finset.fold IntOp.minsi 2147483647#32 (fun x : Fin 8192 => Scalar.select
        (FloatOps.cmpf (F := Ideal) (φ := FTy.f32) CmpFPredicate.ole (d (ix2 g x)) (Finset.fold min (Ideal.ofBits FTy.f32 2139095040#32) (fun n => d (ix2 g n)) Finset.univ : Ideal FTy.f32))
        (BitVec.ofNat 32 x.val) 8192#32) Finset.univ) := by
  pointwise [k1_pay3]

theorem pay3_at (d : FVec Ideal S128x8192 .f32) (g : Fin 128) (n : Fin 8192) :
    k1_pay3 (F := Ideal) (iota .tc S128x8192 32 [1] iota_S128x8192_d1_w32) (d : Vec Ideal S128x8192 .f32) (ix2 g n)
      = IntOp.cmpi .eq (BitVec.ofNat 32 n.val) (BitVec.ofNat 32 (firstMin fun n => d (ix2 g n)).val) :=
  (pay3_raw d g n).trans (congrArg _ (search_min (by norm_num) fun n => d (ix2 g n)))

/-- A sum weighted by the mask of the pick is the value at the pick. -/
theorem sum_mask (d : FVec Ideal S128x8192 .f32) (g : Fin 128) (q : Fin 8192 → EReal) :
    (∑ x : Fin 8192, (FloatOps.sitofp FTy.f32 (BitVec.setWidth 32 (k1_pay3 (F := Ideal) (iota .tc S128x8192 32 [1] iota_S128x8192_d1_w32) (d : Vec Ideal S128x8192 .f32) (ix2 g x))) : Ideal FTy.f32) * q x)
      = q (firstMin fun n => d (ix2 g n)) :=
  (Finset.sum_congr rfl fun x _ => by rw [pay3_at]).trans (sum_indicator_left (by norm_num) q _)

theorem pay8_at1 (d : FVec Ideal S128x8192 .f32) (g : Fin 128) (n : Fin 8192) :
    k1_pay8 (F := Ideal) (iota .tc S128x8192 32 [1] iota_S128x8192_d1_w32) (d : Vec Ideal S128x8192 .f32) (ix2 g n)
      = nearStep (fun n => d (ix2 g n)) n := by
  have hn := n.isLt
  have hf := (firstMin fun n => d (ix2 g n)).isLt
  pointwise [k1_pay8]
  rw [pay3_at, select_index (by omega) (by omega)]
  exact if_congr Fin.ext_iff.symm rfl rfl

variable (q : FVec Ideal S8192x3 .f32) (ctr : FVec Ideal S128x3 .f32) (d : FVec Ideal S128x8192 .f32)

theorem pay5_at (k : Fin k1_t1_loop.trips) (acc : FVec Ideal S128x32 .f32) (g : Fin 128) (j : Fin 32) :
    k1_pay5 (F := Ideal) q (iota .tc S128x8192 32 [1] iota_S128x8192_d1_w32) (iota .tc S128x32 32 [1] iota_S128x32_d1_w32) ctr k acc (d : Vec Ideal S128x8192 .f32) (ix2 g j)
      = if j.val = k.val then q (ix2 (firstMin fun n => d (ix2 g n)) 0) - ctr (ix2 g 0) else acc (ix2 g j) := by
  have hj := j.isLt
  have hk : k.val < 32 := lt_of_lt_of_eq k.isLt trips1
  pointwise [k1_pay5, k1_pay4]
  refine (congrArg (fun z : EReal => Scalar.select _ (z - _) _) (sum_mask d g fun n => q (ix2 n 0))).trans ?_
  rw [iv_zero, select_index (by omega) (by omega)]

theorem pay6_at (k : Fin k1_t1_loop.trips) (acc : FVec Ideal S128x32 .f32) (g : Fin 128) (j : Fin 32) :
    k1_pay6 (F := Ideal) q (iota .tc S128x8192 32 [1] iota_S128x8192_d1_w32) (iota .tc S128x32 32 [1] iota_S128x32_d1_w32) ctr k acc (d : Vec Ideal S128x8192 .f32) (ix2 g j)
      = if j.val = k.val then q (ix2 (firstMin fun n => d (ix2 g n)) 1) - ctr (ix2 g 1) else acc (ix2 g j) := by
  have hj := j.isLt
  have hk : k.val < 32 := lt_of_lt_of_eq k.isLt trips1
  pointwise [k1_pay6, k1_pay4]
  refine (congrArg (fun z : EReal => Scalar.select _ (z - _) _) (sum_mask d g fun n => q (ix2 n 1))).trans ?_
  rw [iv_zero, select_index (by omega) (by omega)]

theorem pay7_at (k : Fin k1_t1_loop.trips) (acc : FVec Ideal S128x32 .f32) (g : Fin 128) (j : Fin 32) :
    k1_pay7 (F := Ideal) q (iota .tc S128x8192 32 [1] iota_S128x8192_d1_w32) (iota .tc S128x32 32 [1] iota_S128x32_d1_w32) ctr k acc (d : Vec Ideal S128x8192 .f32) (ix2 g j)
      = if j.val = k.val then q (ix2 (firstMin fun n => d (ix2 g n)) 2) - ctr (ix2 g 2) else acc (ix2 g j) := by
  have hj := j.isLt
  have hk : k.val < 32 := lt_of_lt_of_eq k.isLt trips1
  pointwise [k1_pay7, k1_pay4]
  refine (congrArg (fun z : EReal => Scalar.select _ (z - _) _) (sum_mask d g fun n => q (ix2 n 2))).trans ?_
  rw [iv_zero, select_index (by omega) (by omega)]

/-- The neighbour states on the words are the nearest-point rounds. -/
theorem rounds1_spec : ∀ k, k ≤ 32 →
    (∀ g (j : Fin 32), j.val < k → (rounds1 q ctr d k).1.1 (ix2 g j) = q (ix2 (firstMin (near (fun n => d (ix2 g n)) j.val)) 0) - ctr (ix2 g 0))
      ∧ (∀ g (j : Fin 32), j.val < k → (rounds1 q ctr d k).1.2.1 (ix2 g j) = q (ix2 (firstMin (near (fun n => d (ix2 g n)) j.val)) 1) - ctr (ix2 g 1))
      ∧ (∀ g (j : Fin 32), j.val < k → (rounds1 q ctr d k).1.2.2 (ix2 g j) = q (ix2 (firstMin (near (fun n => d (ix2 g n)) j.val)) 2) - ctr (ix2 g 2))
      ∧ ∀ g n, (rounds1 q ctr d k).2 (ix2 g n) = near (fun n => d (ix2 g n)) k n
  | 0, _ => ⟨fun _ _ h => absurd h (Nat.not_lt_zero _), fun _ _ h => absurd h (Nat.not_lt_zero _), fun _ _ h => absurd h (Nat.not_lt_zero _), fun _ _ => rfl⟩
  | k + 1, hk => by
    obtain ⟨h1, h2, h3, h4⟩ := rounds1_spec k (by omega)
    have hlt : k < k1_t1_loop.trips := by rw [trips1]; omega
    have e : rounds1 q ctr d (k + 1) = round1 q ctr ⟨k, hlt⟩ (rounds1 q ctr d k) := dif_pos hlt
    rw [e]
    generalize rounds1 q ctr d k = s at h1 h2 h3 h4
    have hs : ∀ g, (fun n => s.2 (ix2 g n)) = near (fun n => d (ix2 g n)) k := fun g => funext (h4 g)
    refine ⟨fun g j hj => ?_, fun g j hj => ?_, fun g j hj => ?_, fun g n => ?_⟩
    · refine (pay5_at q ctr s.2 ⟨k, hlt⟩ s.1.1 g j).trans ?_
      rw [hs]
      by_cases he : j.val = k
      · rw [if_pos he, he]
      · rw [if_neg he, h1 g j (by omega)]
    · refine (pay6_at q ctr s.2 ⟨k, hlt⟩ s.1.2.1 g j).trans ?_
      rw [hs]
      by_cases he : j.val = k
      · rw [if_pos he, he]
      · rw [if_neg he, h2 g j (by omega)]
    · refine (pay7_at q ctr s.2 ⟨k, hlt⟩ s.1.2.2 g j).trans ?_
      rw [hs]
      by_cases he : j.val = k
      · rw [if_pos he, he]
      · rw [if_neg he, h3 g j (by omega)]
    · unfold round1
      dsimp only
      rw [pay8_at1, hs]
      rfl
end Rounds

end Cert.KernelIdeal.Val
-- ==== Proof.Arrays1.lean ====
/- The arrays between the calls: what the neighbour call leaves. -/
module

public import proofs.«01_k».proof.Proof.Arrays0
public import proofs.«01_k».proof.Proof.Val1

@[expose] public section

set_option maxRecDepth 16384

noncomputable section

namespace Cert.KernelIdeal.Val

open Cert.KernelIdeal Cert.KernelIdeal.Gen Cert.Pick Cert.Spec
open Idealize.ShloMosaic Idealize.ShloMosaic.TcCoe Idealize.SL.Sem Idealize.ShloMosaic.Tactic

variable (m : (l : Loc nD τ sig) → Buf (Elt Ideal) l) (ρ : Dev nD → PrngReg)

theorem W2_v0 (c : Dev nD) (b : Fin 32) (k : Fin 3) (n : Fin 8192) :
    W2 m ρ c (Proc.devRef .tc main_v0) (ix3 b k n) = cloud m c b n k := by
  rw [W2_of m ρ c main_v0 (by decide)]
  exact W1_v0 m ρ c b k n

theorem W2_arg (c : Dev nD) (b : Fin 32) (n : Fin 8192) (k : Fin 3) :
    W2 m ρ c (Proc.devRef .tc main_arg0) (ix3 b n k) = cloud m c b n k :=
  congrFun (W2_args m ρ c main_arg0 (by decide)) _

theorem N1 : cfg1.N = 32 := by decide +kernel

/-- The cloud a grid point of the neighbour call works on. -/
def bat1 (t : Fin cfg1.N) : Fin 32 := ⟨t.val, lt_of_lt_of_eq t.isLt N1⟩

theorem in1_0 (c : Dev nD) (t : Fin cfg1.N) (k : Fin 3) (n : Fin 8192) :
    iblk1 (V2 m ρ) c 0 t (ix3 0 k n) = cloud m c (bat1 t) n k := by
  have e : ∀ t : Fin cfg1.N, win1_0.index t = ![t.val, 0, 0] := (by decide +kernel : ∀ t : Fin grid1.N, _)
  refine Eq.trans ?_ (W2_v0 m ρ c (bat1 t) k n)
  blk_simp [iblk1]
  refine congrArg (W2 m ρ c (Proc.devRef .tc main_v0)) ?_
  blk_ext [e, bat1]

theorem in1_1 (c : Dev nD) (t : Fin cfg1.N) (n : Fin 8192) (k : Fin 3) :
    iblk1 (V2 m ρ) c 1 t (ix3 0 n k) = cloud m c (bat1 t) n k := by
  have e : ∀ t : Fin cfg1.N, win1_1.index t = ![t.val, 0, 0] := (by decide +kernel : ∀ t : Fin grid1.N, _)
  refine Eq.trans ?_ (W2_arg m ρ c (bat1 t) n k)
  blk_simp [iblk1]
  refine congrArg (W2 m ρ c (Proc.devRef .tc main_arg0)) ?_
  blk_ext [e, bat1]

theorem in1_2 (c : Dev nD) (t : Fin cfg1.N) (g : Fin 128) :
    iblk1 (V2 m ρ) c 2 t (ix3 0 g 0) = BitVec.ofNat 32 (sample (cloud m c (bat1 t)) g.val).2.val := by
  have e : ∀ t : Fin cfg1.N, win1_2.index t = ![t.val, 0, 0] := (by decide +kernel : ∀ t : Fin grid1.N, _)
  refine Eq.trans ?_ (W2_v2 m ρ c (bat1 t) g)
  blk_simp [iblk1]
  refine congrArg (W2 m ρ c (Proc.devRef .tc main_v2)) ?_
  blk_ext [e, bat1]

theorem W3_v3_0 (c : Dev nD) (b : Fin 32) (g : Fin 128) (r : Fin 32) :
    W3 m ρ c (Proc.devRef .tc main_v3_0) (ix3 b g r) = rel (cloud m c b) g r.val 0 := by
  have e : ∀ t : Fin cfg1.N, win1_3.index t = ![t.val, 0, 0] := (by decide +kernel : ∀ t : Fin grid1.N, _)
  have hA : (dat1 (V2 m ρ) c).arrAt 3 cfg1.N = fun i => rel (cloud m c (i 0)) (i 1) (i 2).val 0 := by
    refine (dat1 (V2 m ρ) c).arrAt_eq_of_covers 3 _ (by decide +kernel) fun t hf y => ?_
    blk_simp [e]
    rw [after1_3]
    unfold outsAt1
    dsimp only
    rw [out1_3_eq]
    obtain ⟨u, g', r', rfl⟩ : ∃ (u : Fin 1) (g' : Fin 128) (r' : Fin 32), y = ix3 u g' r' := ⟨y 0, y 1, y 2, by idx_vars y⟩
    have hy0 : (win1_3.blk t).view.emb (ix3 u g' r') = ix3 (bat1 t) g' r' := by blk_ext [e, bat1]
    rw [hy0, Subsingleton.elim u 0]
    have hs := (rounds1_spec (k1_pay13 (iblk1 (V2 m ρ) c 1 t)) (ctr1 (iblk1 (V2 m ρ) c 0 t) (iblk1 (V2 m ρ) c 2 t))
      (dist1 (iblk1 (V2 m ρ) c 0 t) (iblk1 (V2 m ρ) c 2 t)) 32 le_rfl).1 g' r' r'.isLt
    rw [show k1_t1_loop.trips = 32 from trips1]
    have hd : (fun n => dist1 (F := Ideal) (iblk1 (V2 m ρ) c 0 t) (iblk1 (V2 m ρ) c 2 t) (ix2 g' n)) = fun n => dist (centre (cloud m c (bat1 t)) g') (cloud m c (bat1 t) n) :=
      funext fun n => dist1_at _ _ (cloud m c (bat1 t)) (fun g => (sample (cloud m c (bat1 t)) g.val).2) (in1_0 m ρ c t) (in1_2 m ρ c t) g' n
    have hc := ctr1_at _ _ (cloud m c (bat1 t)) (fun g => (sample (cloud m c (bat1 t)) g.val).2) (in1_0 m ρ c t) (in1_2 m ρ c t) g' 0
    have hq : ∀ n : Fin 8192, k1_pay13 (F := Ideal) (iblk1 (V2 m ρ) c 1 t) (ix2 n 0) = cloud m c (bat1 t) n 0 := fun n => by
      refine Eq.trans ?_ (in1_1 m ρ c t n 0)
      pointwise [k1_pay13]
    rw [hd, hc, hq] at hs
    refine Eq.trans ?_ hs
    pointwise [k1_pay9]
  exact congrFun ((W3_arr m ρ c 3).trans hA) (ix3 b g r)

theorem W3_v3_1 (c : Dev nD) (b : Fin 32) (g : Fin 128) (r : Fin 32) :
    W3 m ρ c (Proc.devRef .tc main_v3_1) (ix3 b g r) = rel (cloud m c b) g r.val 1 := by
  have e : ∀ t : Fin cfg1.N, win1_4.index t = ![t.val, 0, 0] := (by decide +kernel : ∀ t : Fin grid1.N, _)
  have hA : (dat1 (V2 m ρ) c).arrAt 4 cfg1.N = fun i => rel (cloud m c (i 0)) (i 1) (i 2).val 1 := by
    refine (dat1 (V2 m ρ) c).arrAt_eq_of_covers 4 _ (by decide +kernel) fun t hf y => ?_
    blk_simp [e]
    rw [after1_4]
    unfold outsAt1
    dsimp only
    rw [out1_4_eq]
    obtain ⟨u, g', r', rfl⟩ : ∃ (u : Fin 1) (g' : Fin 128) (r' : Fin 32), y = ix3 u g' r' := ⟨y 0, y 1, y 2, by idx_vars y⟩
    have hy0 : (win1_4.blk t).view.emb (ix3 u g' r') = ix3 (bat1 t) g' r' := by blk_ext [e, bat1]
    rw [hy0, Subsingleton.elim u 0]
    have hs := (rounds1_spec (k1_pay13 (iblk1 (V2 m ρ) c 1 t)) (ctr1 (iblk1 (V2 m ρ) c 0 t) (iblk1 (V2 m ρ) c 2 t))
      (dist1 (iblk1 (V2 m ρ) c 0 t) (iblk1 (V2 m ρ) c 2 t)) 32 le_rfl).2.1 g' r' r'.isLt
    rw [show k1_t1_loop.trips = 32 from trips1]
    have hd : (fun n => dist1 (F := Ideal) (iblk1 (V2 m ρ) c 0 t) (iblk1 (V2 m ρ) c 2 t) (ix2 g' n)) = fun n => dist (centre (cloud m c (bat1 t)) g') (cloud m c (bat1 t) n) :=
      funext fun n => dist1_at _ _ (cloud m c (bat1 t)) (fun g => (sample (cloud m c (bat1 t)) g.val).2) (in1_0 m ρ c t) (in1_2 m ρ c t) g' n
    have hc := ctr1_at _ _ (cloud m c (bat1 t)) (fun g => (sample (cloud m c (bat1 t)) g.val).2) (in1_0 m ρ c t) (in1_2 m ρ c t) g' 1
    have hq : ∀ n : Fin 8192, k1_pay13 (F := Ideal) (iblk1 (V2 m ρ) c 1 t) (ix2 n 1) = cloud m c (bat1 t) n 1 := fun n => by
      refine Eq.trans ?_ (in1_1 m ρ c t n 1)
      pointwise [k1_pay13]
    rw [hd, hc, hq] at hs
    refine Eq.trans ?_ hs
    pointwise [k1_pay10]
  exact congrFun ((W3_arr m ρ c 4).trans hA) (ix3 b g r)

theorem W3_v3_2 (c : Dev nD) (b : Fin 32) (g : Fin 128) (r : Fin 32) :
    W3 m ρ c (Proc.devRef .tc main_v3_2) (ix3 b g r) = rel (cloud m c b) g r.val 2 := by
  have e : ∀ t : Fin cfg1.N, win1_5.index t = ![t.val, 0, 0] := (by decide +kernel : ∀ t : Fin grid1.N, _)
  have hA : (dat1 (V2 m ρ) c).arrAt 5 cfg1.N = fun i => rel (cloud m c (i 0)) (i 1) (i 2).val 2 := by
    refine (dat1 (V2 m ρ) c).arrAt_eq_of_covers 5 _ (by decide +kernel) fun t hf y => ?_
    blk_simp [e]
    rw [after1_5]
    unfold outsAt1
    dsimp only
    rw [out1_5_eq]
    obtain ⟨u, g', r', rfl⟩ : ∃ (u : Fin 1) (g' : Fin 128) (r' : Fin 32), y = ix3 u g' r' := ⟨y 0, y 1, y 2, by idx_vars y⟩
    have hy0 : (win1_5.blk t).view.emb (ix3 u g' r') = ix3 (bat1 t) g' r' := by blk_ext [e, bat1]
    rw [hy0, Subsingleton.elim u 0]
    have hs := (rounds1_spec (k1_pay13 (iblk1 (V2 m ρ) c 1 t)) (ctr1 (iblk1 (V2 m ρ) c 0 t) (iblk1 (V2 m ρ) c 2 t))
      (dist1 (iblk1 (V2 m ρ) c 0 t) (iblk1 (V2 m ρ) c 2 t)) 32 le_rfl).2.2.1 g' r' r'.isLt
    rw [show k1_t1_loop.trips = 32 from trips1]
    have hd : (fun n => dist1 (F := Ideal) (iblk1 (V2 m ρ) c 0 t) (iblk1 (V2 m ρ) c 2 t) (ix2 g' n)) = fun n => dist (centre (cloud m c (bat1 t)) g') (cloud m c (bat1 t) n) :=
      funext fun n => dist1_at _ _ (cloud m c (bat1 t)) (fun g => (sample (cloud m c (bat1 t)) g.val).2) (in1_0 m ρ c t) (in1_2 m ρ c t) g' n
    have hc := ctr1_at _ _ (cloud m c (bat1 t)) (fun g => (sample (cloud m c (bat1 t)) g.val).2) (in1_0 m ρ c t) (in1_2 m ρ c t) g' 2
    have hq : ∀ n : Fin 8192, k1_pay13 (F := Ideal) (iblk1 (V2 m ρ) c 1 t) (ix2 n 2) = cloud m c (bat1 t) n 2 := fun n => by
      refine Eq.trans ?_ (in1_1 m ρ c t n 2)
      pointwise [k1_pay13]
    rw [hd, hc, hq] at hs
    refine Eq.trans ?_ hs
    pointwise [k1_pay11]
  exact congrFun ((W3_arr m ρ c 5).trans hA) (ix3 b g r)

theorem W3_v3_3 (c : Dev nD) (b : Fin 32) (g : Fin 128) (k : Fin 3) :
    W3 m ρ c (Proc.devRef .tc main_v3_3) (ix3 b g k) = centre (cloud m c b) g k := by
  have e : ∀ t : Fin cfg1.N, win1_6.index t = ![t.val, 0, 0] := (by decide +kernel : ∀ t : Fin grid1.N, _)
  have hA : (dat1 (V2 m ρ) c).arrAt 6 cfg1.N = fun i => centre (cloud m c (i 0)) (i 1) (i 2) := by
    refine (dat1 (V2 m ρ) c).arrAt_eq_of_covers 6 _ (by decide +kernel) fun t hf y => ?_
    blk_simp [e]
    rw [after1_6]
    unfold outsAt1
    dsimp only
    rw [out1_6_eq]
    obtain ⟨u, g', r', rfl⟩ : ∃ (u : Fin 1) (g' : Fin 128) (r' : Fin 3), y = ix3 u g' r' := ⟨y 0, y 1, y 2, by idx_vars y⟩
    have hy0 : (win1_6.blk t).view.emb (ix3 u g' r') = ix3 (bat1 t) g' r' := by blk_ext [e, bat1]
    rw [hy0, Subsingleton.elim u 0]
    exact out1_6_at _ _ (cloud m c (bat1 t)) (fun g => (sample (cloud m c (bat1 t)) g.val).2) (in1_0 m ρ c t) (in1_2 m ρ c t) g' r'
  exact congrFun ((W3_arr m ρ c 6).trans hA) (ix3 b g k)

theorem W3_v3_4 (c : Dev nD) (b : Fin 32) (g h : Fin 128) :
    W3 m ρ c (Proc.devRef .tc main_v3_4) (ix3 b g h) = among big (cloud m c b) g h := by
  have e : ∀ t : Fin cfg1.N, win1_7.index t = ![t.val, 0, 0] := (by decide +kernel : ∀ t : Fin grid1.N, _)
  have hA : (dat1 (V2 m ρ) c).arrAt 7 cfg1.N = fun i => among big (cloud m c (i 0)) (i 1) (i 2) := by
    refine (dat1 (V2 m ρ) c).arrAt_eq_of_covers 7 _ (by decide +kernel) fun t hf y => ?_
    blk_simp [e]
    rw [after1_7]
    unfold outsAt1
    dsimp only
    rw [out1_7_eq]
    obtain ⟨u, g', r', rfl⟩ : ∃ (u : Fin 1) (g' : Fin 128) (r' : Fin 128), y = ix3 u g' r' := ⟨y 0, y 1, y 2, by idx_vars y⟩
    have hy0 : (win1_7.blk t).view.emb (ix3 u g' r') = ix3 (bat1 t) g' r' := by blk_ext [e, bat1]
    rw [hy0, Subsingleton.elim u 0]
    exact out1_7_at _ _ (cloud m c (bat1 t)) (fun g => (sample (cloud m c (bat1 t)) g.val).2) (in1_0 m ρ c t) (in1_2 m ρ c t) g' r'
  exact congrFun ((W3_arr m ρ c 7).trans hA) (ix3 b g h)

end Cert.KernelIdeal.Val
-- ==== Proof.Words2.lean ====
module

public import proofs.«01_k».proof.Proof.Words0
public import Idealize.ShloMosaic.Lib.Pipeline.Value
public import Idealize.ShloMosaic.Lib.Tactic
public import Idealize.ShloMosaic.Lib.VecWindow

@[expose] public section

set_option maxRecDepth 16384

noncomputable section

namespace Cert.KernelIdeal.Val

open Cert.KernelIdeal Cert.KernelIdeal.Gen
open Idealize.ShloMosaic Idealize.ShloMosaic.TcCoe Idealize.SL.Sem Idealize.ShloMosaic.Tactic

variable {F : FTy → Type} [FloatOps F]

/-- One round of the path loop on its words. -/
def round2 (d : Vec F S32x128x128 .f32) (k : Fin k2_t1_loop.trips) (s : FVec F S32x1x128 .f32 × IVec S32x1x1 32 × IVec S32x128x1 32) : FVec F S32x1x128 .f32 × IVec S32x1x1 32 × IVec S32x128x1 32 :=
  (k2_pay5 s.1 s.2.1 d, k2_pay4 s.1 s.2.1 d, k2_pay6 k s.1 s.2.1 s.2.2 d)

/-- The rounds' states. -/
def rounds2 (d : Vec F S32x128x128 .f32) : ℕ → FVec F S32x1x128 .f32 × IVec S32x1x1 32 × IVec S32x128x1 32
  | 0 => (k2_pay1, k2_pay2, k2_pay3)
  | k + 1 => if h : k < k2_t1_loop.trips then round2 d ⟨k, h⟩ (rounds2 d k) else rounds2 d k

section
variable (𝒱 : Variants) (c : Dev nD) (bd : Option 𝒱.V) (i : grid2.Coords) (arg1 : Memref sig .tc .vmem S32x128x128 .f32) (harg1 : arg1.IsWhole) (arg2 : Memref sig .tc .vmem S32x128x1 .i32) (harg2 : arg2.IsWhole)

theorem tripR2_eq (f : BufTy.Contents (Elt F) arg1.view.ty) (k : Fin k2_t1_loop.trips) (s : FVec F S32x1x128 .f32 × IVec S32x1x1 32 × IVec S32x128x1 32) :
    tripR_k2_t1 𝒱 c bd i arg1 harg1 arg2 harg2 f k s = round2 (arg1.view.read (Elt F) f) k s := by
  unfold tripR_k2_t1 trip_k2_t1
  dsimp only
  sl_unfold_words
  simp only [View.readAt_eq_ld, View.ld_unit_zero (S := S32x128x128) zero3, round2]

theorem st2_eq (f : BufTy.Contents (Elt F) arg1.view.ty) : ∀ k, k ≤ k2_t1_loop.trips →
    st_k2_t1 𝒱 c bd i arg1 harg1 arg2 harg2 f (k2_pay1, k2_pay2, k2_pay3) k = rounds2 (arg1.view.read (Elt F) f) k
  | 0, _ => rfl
  | k + 1, h => by
    have e := st_k2_t1_succ 𝒱 c bd i arg1 harg1 arg2 harg2 f (k2_pay1, k2_pay2, k2_pay3) ⟨k, h⟩
    dsimp only at e
    rw [e, st2_eq f k (Nat.le_of_succ_le h), rounds2, dif_pos (Nat.lt_of_succ_le h), tripR2_eq]
end

/-- What the path call leaves: the order list after all rounds. -/
theorem out2_eq (c : Dev nD) (i : grid2.Coords) (arg1 : Memref sig .tc .vmem S32x128x128 .f32) (harg1 : arg1.IsWhole) (arg2 : Memref sig .tc .vmem S32x128x1 .i32) (harg2 : arg2.IsWhole) (x0 : Vec F S32x128x128 .f32) :
    out2_A_1 c i arg1 harg1 arg2 harg2 x0 = (rounds2 x0 k2_t1_loop.trips).2.2 := by
  unfold out2_A_1
  rw [View.read_writes_eq_canon _ _ _ (cover2_A_1 c i arg1 harg1 arg2 harg2 x0)]
  unfold kernelRun2_A
  dsimp only
  sl_unfold_words
  rw [View.canon_unit_zero zero3]
  refine (congrArg (fun r : FVec F S32x1x128 .f32 × IVec S32x1x1 32 × IVec S32x128x1 32 => r.2.2)
    (st2_eq _ _ _ _ _ harg1 _ harg2 (harg1.unread x0) k2_t1_loop.trips le_rfl)).trans ?_
  rw [harg1.read_unread]

end Cert.KernelIdeal.Val
-- ==== Proof.Val2.lean ====
/- The path call's words are the path rounds of each cloud. -/
module

public import proofs.«01_k».proof.Proof.Words2
public import proofs.«01_k».proof.Proof.Search
public import proofs.«01_k».proof.Proof.Spec

@[expose] public section

set_option maxRecDepth 16384

noncomputable section

namespace Cert.KernelIdeal.Val

open Cert.KernelIdeal Cert.KernelIdeal.Gen Cert.Pick Cert.Spec
open Idealize.ShloMosaic Idealize.ShloMosaic.TcCoe Idealize.SL.Sem Idealize.ShloMosaic.Tactic

theorem trips2 : k2_t1_loop.trips = 127 := by decide

section
variable (d : FVec Ideal S32x128x128 .f32) (a : FVec Ideal S32x1x128 .f32) (cur : IVec S32x1x1 32) (b : Fin 32)
  (v : Fin 128 → Prop) (l : Fin 128) (D : Fin 128 → Fin 128 → EReal)
  (hd : ∀ i j, d (ix3 b i j) = D i j) (hsym : ∀ i j, D i j = D j i)
  (ha : ∀ j, 0 < (a (ix3 b 0 j) : EReal) ↔ v j) (hc : cur (ix3 b 0 0) = BitVec.ofNat 32 l.val)
include hd hsym ha hc

/-- The search of a round finds the next point. -/
theorem pay4_at : k2_pay4 a cur d (ix3 b 0 0) = BitVec.ofNat 32 (next big D (v, l)).val := by
  classical
  have hv : ∀ x : Fin 128, Scalar.select (FloatOps.cmpf (F := Ideal) (φ := FTy.f32) CmpFPredicate.ogt (a (ix3 b 0 x)) 0) (Ideal.ofBits FTy.f32 2137108966#32)
      (∑ x_1 : Fin 128, (d (ix3 b x_1 x) * (FloatOps.sitofp FTy.f32
        (BitVec.setWidth 32 (IntOp.cmpi CmpIPredicate.eq (BitVec.ofNat 32 x_1.val) (BitVec.ofNat 32 l.val))) : Ideal FTy.f32) : EReal)) = if v x then big else D l x := by
    intro x
    rw [sum_indicator (by norm_num) (fun i => d (ix3 b i x)) l, select_eq, hd]
    exact if_congr ((cmp_ogt _ _).trans (ha x)) rfl rfl
  have h : k2_pay4 a cur d (ix3 b 0 0) = Finset.fold IntOp.minsi 2147483647#32 (fun x : Fin 128 => Scalar.select
        (FloatOps.cmpf (F := Ideal) (φ := FTy.f32) CmpFPredicate.ole (if v x then big else D l x)
          (Finset.fold min (Ideal.ofBits FTy.f32 2139095040#32) (fun x => if v x then big else D l x) Finset.univ : Ideal FTy.f32))
        (BitVec.ofNat 32 x.val) 128#32) Finset.univ := by
    simp only [← hv, ← hc]
    pointwise [k2_pay4]
  rw [h, search_min (by norm_num)]
  rfl
end

theorem pay1_at (b : Fin 32) (j : Fin 128) : (0 < (k2_pay1 (F := Ideal) (ix3 b 0 j) : EReal)) ↔ j = 0 := by
  have e : k2_pay1 (F := Ideal) (ix3 b 0 j) = (FloatOps.sitofp FTy.f32 (BitVec.setWidth 32 (IntOp.cmpi .eq (BitVec.ofNat 32 j.val) 0#32)) : Ideal FTy.f32) := by
    pointwise [k2_pay1]
  have hj := j.isLt
  rw [e, indicator]
  by_cases h : j = 0
  · subst h
    rw [if_pos (show BitVec.ofNat 32 (0 : Fin 128).val = 0#32 from rfl)]
    simp
  · rw [if_neg fun hh => h (Fin.ext ((ofNat_inj (by omega) (by norm_num)).1 (hh : _ = BitVec.ofNat 32 0)))]
    simp [h]

theorem pay5_at2 (a : FVec Ideal S32x1x128 .f32) (cur : IVec S32x1x1 32) (d : FVec Ideal S32x128x128 .f32) (b : Fin 32) (j : Fin 128) :
    k2_pay5 (F := Ideal) a cur d (ix3 b 0 j) = Scalar.select (IntOp.cmpi .eq (BitVec.ofNat 32 j.val) (k2_pay4 a cur d (ix3 b 0 0))) (1 : EReal) (a (ix3 b 0 j)) := by
  pointwise [k2_pay5]

theorem pay6_at2 (k : Fin k2_t1_loop.trips) (a : FVec Ideal S32x1x128 .f32) (cur : IVec S32x1x1 32) (o : IVec S32x128x1 32) (d : FVec Ideal S32x128x128 .f32) (b : Fin 32) (g : Fin 128) :
    k2_pay6 k a cur o d (ix3 b g 0) = Scalar.select (IntOp.cmpi .eq (BitVec.ofNat 32 g.val) (Scf.iv 1#32 1#32 k.val)) (k2_pay4 a cur d (ix3 b 0 0)) (o (ix3 b g 0)) := by
  pointwise [k2_pay6]

/-- The path states on the words are the path rounds. -/
theorem rounds2_spec (d : FVec Ideal S32x128x128 .f32) (D : Fin 32 → Fin 128 → Fin 128 → EReal)
    (hd : ∀ b i j, d (ix3 b i j) = D b i j) (hsym : ∀ b i j, D b i j = D b j i) : ∀ k, k ≤ 127 →
    (∀ b (j : Fin 128), 0 < ((rounds2 (F := Ideal) d k).1 (ix3 b 0 j) : EReal) ↔ (path big (D b) k).1 j)
      ∧ (∀ b, (rounds2 (F := Ideal) d k).2.1 (ix3 b 0 0) = BitVec.ofNat 32 (path big (D b) k).2.val)
      ∧ ∀ b (g : Fin 128), g.val ≤ k → (rounds2 (F := Ideal) d k).2.2 (ix3 b g 0) = BitVec.ofNat 32 (path big (D b) g.val).2.val
  | 0, _ => by
    refine ⟨fun b j => pay1_at b j, fun b => ?_, fun b g hg => ?_⟩
    · show k2_pay2 (ix3 b 0 0) = _
      pointwise [k2_pay2]
      rfl
    · have hg0 : g.val = 0 := by omega
      show k2_pay3 (ix3 b g 0) = _
      pointwise [k2_pay3]
      rw [hg0]
      rfl
  | k + 1, hk => by
    obtain ⟨h1, h2, h3⟩ := rounds2_spec d D hd hsym k (by omega)
    have hlt : k < k2_t1_loop.trips := by rw [trips2]; omega
    have e : rounds2 (F := Ideal) d (k + 1) = round2 (F := Ideal) d ⟨k, hlt⟩ (rounds2 (F := Ideal) d k) := dif_pos hlt
    rw [e]
    generalize rounds2 (F := Ideal) d k = s at h1 h2 h3
    have hn : ∀ b, k2_pay4 s.1 s.2.1 d (ix3 b 0 0) = BitVec.ofNat 32 (path big (D b) (k + 1)).2.val := fun b =>
      pay4_at d s.1 s.2.1 b (path big (D b) k).1 (path big (D b) k).2 (D b) (hd b) (hsym b) (h1 b) (h2 b)
    refine ⟨fun b j => ?_, fun b => hn b, fun b g hg => ?_⟩
    · have hj := j.isLt
      have hl := (path big (D b) (k + 1)).2.isLt
      have e2 : (round2 (F := Ideal) d ⟨k, hlt⟩ s).1 = k2_pay5 s.1 s.2.1 d := rfl
      rw [e2, pay5_at2, hn, select_index (by omega) (by omega)]
      show _ ↔ (path big (D b) k).1 j ∨ j = (path big (D b) (k + 1)).2
      by_cases he : j = (path big (D b) (k + 1)).2
      · rw [if_pos (congrArg Fin.val he)]
        simp [he]
      · rw [if_neg fun hh => he (Fin.ext hh)]
        simp only [he, or_false]
        exact h1 b j
    · have hg' := g.isLt
      have e2 : (round2 (F := Ideal) d ⟨k, hlt⟩ s).2.2 = k2_pay6 ⟨k, hlt⟩ s.1 s.2.1 s.2.2 d := rfl
      rw [e2, pay6_at2, hn]
      dsimp only
      rw [iv_one, select_index (by omega) (by omega)]
      by_cases he : g.val = 1 + k
      · rw [if_pos he, he, Nat.add_comm]
      · rw [if_neg he, h3 b g (by omega)]

end Cert.KernelIdeal.Val
-- ==== Proof.Val3.lean ====
/- The reordering call's words: every row is the row of its input named by the order list. -/
module

public import proofs.«01_k».proof.Proof.Words0
public import proofs.«01_k».proof.Proof.Search

@[expose] public section

set_option maxRecDepth 16384

noncomputable section

namespace Cert.KernelIdeal.Val

open Cert.KernelIdeal Cert.KernelIdeal.Gen Cert.Pick
open Idealize.ShloMosaic Idealize.ShloMosaic.TcCoe Idealize.SL.Sem Idealize.ShloMosaic.Tactic

variable (x0 : Vec Ideal S1x128x1 .i32) (o : Fin 128 → Fin 128) (h0 : ∀ g, x0 (ix3 0 g 0) = BitVec.ofNat 32 (o g).val)
include h0

theorem pay3_at3 (x : Vec Ideal S1x128x32 .f32) (g : Fin 128) (r : Fin 32) : k3_pay3 (F := Ideal) x0 x (ix3 0 g r) = x (ix3 0 (o g) r) := by
  pointwise [k3_pay3, k3_pay2]
  rw [h0]
  exact sum_indicator_left (by norm_num) (fun n => x (ix3 0 n r)) (o g)

theorem pay4_at3 (x : Vec Ideal S1x128x32 .f32) (g : Fin 128) (r : Fin 32) : k3_pay4 (F := Ideal) x0 x (ix3 0 g r) = x (ix3 0 (o g) r) := by
  pointwise [k3_pay4, k3_pay2]
  rw [h0]
  exact sum_indicator_left (by norm_num) (fun n => x (ix3 0 n r)) (o g)

theorem pay5_at3 (x : Vec Ideal S1x128x32 .f32) (g : Fin 128) (r : Fin 32) : k3_pay5 (F := Ideal) x0 x (ix3 0 g r) = x (ix3 0 (o g) r) := by
  pointwise [k3_pay5, k3_pay2]
  rw [h0]
  exact sum_indicator_left (by norm_num) (fun n => x (ix3 0 n r)) (o g)

theorem pay6_at3 (x : Vec Ideal S1x128x3 .f32) (g : Fin 128) (r : Fin 3) : k3_pay1 (F := Ideal) (k3_pay6 x0 x) (ix3 0 g r) = x (ix3 0 (o g) r) := by
  pointwise [k3_pay1, k3_pay6, k3_pay2]
  rw [h0]
  exact sum_indicator_left (by norm_num) (fun n => x (ix3 0 n r)) (o g)

end Cert.KernelIdeal.Val
-- ==== Proof.Arrays2.lean ====
/- The arrays between the calls: the walk, its application, and the results. -/
module

public import proofs.«01_k».proof.Proof.Arrays1
public import proofs.«01_k».proof.Proof.Val2
public import proofs.«01_k».proof.Proof.Val3

@[expose] public section

set_option maxRecDepth 16384

noncomputable section

namespace Cert.KernelIdeal.Val

open Cert.KernelIdeal Cert.KernelIdeal.Gen Cert.Pick Cert.Spec
open Idealize.ShloMosaic Idealize.ShloMosaic.TcCoe Idealize.SL.Sem Idealize.ShloMosaic.Tactic

variable (m : (l : Loc nD τ sig) → Buf (Elt Ideal) l) (ρ : Dev nD → PrngReg)

theorem among_symm (M : EReal) (p : Cloud) (i j : Fin 128) : among M p i j = among M p j i := by
  unfold among
  by_cases h : i = j
  · rw [if_pos h, if_pos h.symm]
  · rw [if_neg h, if_neg (Ne.symm h)]
    unfold Cert.Spec.dist
    rw [add_comm, Finset.sum_congr rfl fun k _ => mul_comm (centre p i k) (centre p j k)]

theorem W4_v4 (c : Dev nD) (b : Fin 32) (g : Fin 128) :
    W4 m ρ c (Proc.devRef .tc main_v4) (ix3 b g 0) = BitVec.ofNat 32 (order (cloud m c b) g.val).val := by
  have e1 : ∀ t : Fin cfg2.N, win2_1.index t = ![0, 0, 0] := (by decide +kernel : ∀ t : Fin grid2.N, _)
  have e0 : ∀ t : Fin cfg2.N, win2_0.index t = ![0, 0, 0] := (by decide +kernel : ∀ t : Fin grid2.N, _)
  have hA : (dat2 (V3 m ρ) c).arrAt 1 cfg2.N = fun i => BitVec.ofNat 32 (order (cloud m c (i 0)) (i 1).val).val := by
    refine (dat2 (V3 m ρ) c).arrAt_eq_of_covers 1 _ (by decide +kernel) fun t hf y => ?_
    blk_simp [e1]
    rw [after2_1]
    unfold outsAt2
    rw [out2_eq]
    have hx : ∀ b i j, iblk2 (V3 m ρ) c 0 t (ix3 b i j) = among big (cloud m c b) i j := by
      intro b i j
      refine Eq.trans ?_ (W3_v3_4 m ρ c b i j)
      blk_simp [iblk2]
      refine congrArg (W3 m ρ c (Proc.devRef .tc main_v3_4)) ?_
      blk_ext [e0]
    obtain ⟨b', g', u, rfl⟩ : ∃ (b' : Fin 32) (g' : Fin 128) (u : Fin 1), y = ix3 b' g' u := ⟨y 0, y 1, y 2, by idx_vars y⟩
    have hy0 : (win2_1.blk t).view.emb (ix3 b' g' u) = ix3 b' g' u := by blk_ext [e1]
    rw [hy0, Subsingleton.elim u 0, show k2_t1_loop.trips = 127 from trips2]
    exact (rounds2_spec (iblk2 (V3 m ρ) c 0 t) (fun b => among big (cloud m c b)) hx (fun b i j => among_symm _ _ i j) 127 le_rfl).2.2 b' g' (by omega)
  exact congrFun ((W4_arr m ρ c 1).trans hA) (ix3 b g 0)

theorem W4_v3_0 (c : Dev nD) (b : Fin 32) (g : Fin 128) (r : Fin 32) :
    W4 m ρ c (Proc.devRef .tc main_v3_0) (ix3 b g r) = rel (cloud m c b) g r.val 0 := by
  rw [W4_of_ne m ρ c main_v3_0 (by decide)]
  exact W3_v3_0 m ρ c b g r

theorem W4_v3_1 (c : Dev nD) (b : Fin 32) (g : Fin 128) (r : Fin 32) :
    W4 m ρ c (Proc.devRef .tc main_v3_1) (ix3 b g r) = rel (cloud m c b) g r.val 1 := by
  rw [W4_of_ne m ρ c main_v3_1 (by decide)]
  exact W3_v3_1 m ρ c b g r

theorem W4_v3_2 (c : Dev nD) (b : Fin 32) (g : Fin 128) (r : Fin 32) :
    W4 m ρ c (Proc.devRef .tc main_v3_2) (ix3 b g r) = rel (cloud m c b) g r.val 2 := by
  rw [W4_of_ne m ρ c main_v3_2 (by decide)]
  exact W3_v3_2 m ρ c b g r

theorem W4_v3_3 (c : Dev nD) (b : Fin 32) (g : Fin 128) (k : Fin 3) :
    W4 m ρ c (Proc.devRef .tc main_v3_3) (ix3 b g k) = centre (cloud m c b) g k := by
  rw [W4_of_ne m ρ c main_v3_3 (by decide)]
  exact W3_v3_3 m ρ c b g k

theorem N3 : cfg3.N = 32 := by decide +kernel

/-- The cloud a grid point of the last call works on. -/
def bat3 (t : Fin cfg3.N) : Fin 32 := ⟨t.val, lt_of_lt_of_eq t.isLt N3⟩

theorem in3_0 (c : Dev nD) (t : Fin cfg3.N) (g : Fin 128) :
    iblk3 (V4 m ρ) c 0 t (ix3 0 g 0) = BitVec.ofNat 32 (order (cloud m c (bat3 t)) g.val).val := by
  have e : ∀ t : Fin cfg3.N, win3_0.index t = ![t.val, 0, 0] := (by decide +kernel : ∀ t : Fin grid3.N, _)
  refine Eq.trans ?_ (W4_v4 m ρ c (bat3 t) g)
  blk_simp [iblk3]
  refine congrArg (W4 m ρ c (Proc.devRef .tc main_v4)) ?_
  blk_ext [e, bat3]

theorem in3_1 (c : Dev nD) (t : Fin cfg3.N) (g : Fin 128) (r : Fin 32) :
    iblk3 (V4 m ρ) c 1 t (ix3 0 g r) = rel (cloud m c (bat3 t)) g r.val 0 := by
  have e : ∀ t : Fin cfg3.N, win3_1.index t = ![t.val, 0, 0] := (by decide +kernel : ∀ t : Fin grid3.N, _)
  refine Eq.trans ?_ (W4_v3_0 m ρ c (bat3 t) g r)
  blk_simp [iblk3]
  refine congrArg (W4 m ρ c (Proc.devRef .tc main_v3_0)) ?_
  blk_ext [e, bat3]

theorem W5_v5_0 (c : Dev nD) (b : Fin 32) (g : Fin 128) (r : Fin 32) :
    W5 m ρ c (Proc.devRef .tc main_v5_0) (ix3 b g r) = rel (cloud m c b) (order (cloud m c b) g.val) r.val 0 := by
  have e : ∀ t : Fin cfg3.N, win3_5.index t = ![t.val, 0, 0] := (by decide +kernel : ∀ t : Fin grid3.N, _)
  have hA : (dat3 (V4 m ρ) c).arrAt 5 cfg3.N = fun i => rel (cloud m c (i 0)) (order (cloud m c (i 0)) (i 1).val) (i 2).val 0 := by
    refine (dat3 (V4 m ρ) c).arrAt_eq_of_covers 5 _ (by decide +kernel) fun t hf y => ?_
    blk_simp [e]
    rw [after3_5]
    unfold out3_5
    rw [View.canon_unit_zero (by decide), View.ld_unit_zero (by decide), View.ld_unit_zero (by decide)]
    obtain ⟨u, g', r', rfl⟩ : ∃ (u : Fin 1) (g' : Fin 128) (r' : Fin 32), y = ix3 u g' r' := ⟨y 0, y 1, y 2, by idx_vars y⟩
    have hy0 : (win3_5.blk t).view.emb (ix3 u g' r') = ix3 (bat3 t) g' r' := by blk_ext [e, bat3]
    rw [hy0, Subsingleton.elim u 0]
    exact (pay3_at3 _ (fun g => order (cloud m c (bat3 t)) g.val) (in3_0 m ρ c t) _ g' r').trans (in3_1 m ρ c t _ r')
  exact congrFun ((W5_arr m ρ c 5).trans hA) (ix3 b g r)

theorem in3_2 (c : Dev nD) (t : Fin cfg3.N) (g : Fin 128) (r : Fin 32) :
    iblk3 (V4 m ρ) c 2 t (ix3 0 g r) = rel (cloud m c (bat3 t)) g r.val 1 := by
  have e : ∀ t : Fin cfg3.N, win3_2.index t = ![t.val, 0, 0] := (by decide +kernel : ∀ t : Fin grid3.N, _)
  refine Eq.trans ?_ (W4_v3_1 m ρ c (bat3 t) g r)
  blk_simp [iblk3]
  refine congrArg (W4 m ρ c (Proc.devRef .tc main_v3_1)) ?_
  blk_ext [e, bat3]

theorem W5_v5_1 (c : Dev nD) (b : Fin 32) (g : Fin 128) (r : Fin 32) :
    W5 m ρ c (Proc.devRef .tc main_v5_1) (ix3 b g r) = rel (cloud m c b) (order (cloud m c b) g.val) r.val 1 := by
  have e : ∀ t : Fin cfg3.N, win3_6.index t = ![t.val, 0, 0] := (by decide +kernel : ∀ t : Fin grid3.N, _)
  have hA : (dat3 (V4 m ρ) c).arrAt 6 cfg3.N = fun i => rel (cloud m c (i 0)) (order (cloud m c (i 0)) (i 1).val) (i 2).val 1 := by
    refine (dat3 (V4 m ρ) c).arrAt_eq_of_covers 6 _ (by decide +kernel) fun t hf y => ?_
    blk_simp [e]
    rw [after3_6]
    unfold out3_6
    rw [View.canon_unit_zero (by decide), View.ld_unit_zero (by decide), View.ld_unit_zero (by decide)]
    obtain ⟨u, g', r', rfl⟩ : ∃ (u : Fin 1) (g' : Fin 128) (r' : Fin 32), y = ix3 u g' r' := ⟨y 0, y 1, y 2, by idx_vars y⟩
    have hy0 : (win3_6.blk t).view.emb (ix3 u g' r') = ix3 (bat3 t) g' r' := by blk_ext [e, bat3]
    rw [hy0, Subsingleton.elim u 0]
    exact (pay4_at3 _ (fun g => order (cloud m c (bat3 t)) g.val) (in3_0 m ρ c t) _ g' r').trans (in3_2 m ρ c t _ r')
  exact congrFun ((W5_arr m ρ c 6).trans hA) (ix3 b g r)

theorem in3_3 (c : Dev nD) (t : Fin cfg3.N) (g : Fin 128) (r : Fin 32) :
    iblk3 (V4 m ρ) c 3 t (ix3 0 g r) = rel (cloud m c (bat3 t)) g r.val 2 := by
  have e : ∀ t : Fin cfg3.N, win3_3.index t = ![t.val, 0, 0] := (by decide +kernel : ∀ t : Fin grid3.N, _)
  refine Eq.trans ?_ (W4_v3_2 m ρ c (bat3 t) g r)
  blk_simp [iblk3]
  refine congrArg (W4 m ρ c (Proc.devRef .tc main_v3_2)) ?_
  blk_ext [e, bat3]

theorem W5_v5_2 (c : Dev nD) (b : Fin 32) (g : Fin 128) (r : Fin 32) :
    W5 m ρ c (Proc.devRef .tc main_v5_2) (ix3 b g r) = rel (cloud m c b) (order (cloud m c b) g.val) r.val 2 := by
  have e : ∀ t : Fin cfg3.N, win3_7.index t = ![t.val, 0, 0] := (by decide +kernel : ∀ t : Fin grid3.N, _)
  have hA : (dat3 (V4 m ρ) c).arrAt 7 cfg3.N = fun i => rel (cloud m c (i 0)) (order (cloud m c (i 0)) (i 1).val) (i 2).val 2 := by
    refine (dat3 (V4 m ρ) c).arrAt_eq_of_covers 7 _ (by decide +kernel) fun t hf y => ?_
    blk_simp [e]
    rw [after3_7]
    unfold out3_7
    rw [View.canon_unit_zero (by decide), View.ld_unit_zero (by decide), View.ld_unit_zero (by decide)]
    obtain ⟨u, g', r', rfl⟩ : ∃ (u : Fin 1) (g' : Fin 128) (r' : Fin 32), y = ix3 u g' r' := ⟨y 0, y 1, y 2, by idx_vars y⟩
    have hy0 : (win3_7.blk t).view.emb (ix3 u g' r') = ix3 (bat3 t) g' r' := by blk_ext [e, bat3]
    rw [hy0, Subsingleton.elim u 0]
    exact (pay5_at3 _ (fun g => order (cloud m c (bat3 t)) g.val) (in3_0 m ρ c t) _ g' r').trans (in3_3 m ρ c t _ r')
  exact congrFun ((W5_arr m ρ c 7).trans hA) (ix3 b g r)

theorem in3_4 (c : Dev nD) (t : Fin cfg3.N) (g : Fin 128) (r : Fin 3) :
    iblk3 (V4 m ρ) c 4 t (ix3 0 g r) = centre (cloud m c (bat3 t)) g r := by
  have e : ∀ t : Fin cfg3.N, win3_4.index t = ![t.val, 0, 0] := (by decide +kernel : ∀ t : Fin grid3.N, _)
  refine Eq.trans ?_ (W4_v3_3 m ρ c (bat3 t) g r)
  blk_simp [iblk3]
  refine congrArg (W4 m ρ c (Proc.devRef .tc main_v3_3)) ?_
  blk_ext [e, bat3]

theorem W5_v5_3 (c : Dev nD) (b : Fin 32) (g : Fin 128) (r : Fin 3) :
    W5 m ρ c (Proc.devRef .tc main_v5_3) (ix3 b g r) = centre (cloud m c b) (order (cloud m c b) g.val) r := by
  have e : ∀ t : Fin cfg3.N, win3_8.index t = ![t.val, 0, 0] := (by decide +kernel : ∀ t : Fin grid3.N, _)
  have hA : (dat3 (V4 m ρ) c).arrAt 8 cfg3.N = fun i => centre (cloud m c (i 0)) (order (cloud m c (i 0)) (i 1).val) (i 2) := by
    refine (dat3 (V4 m ρ) c).arrAt_eq_of_covers 8 _ (by decide +kernel) fun t hf y => ?_
    blk_simp [e]
    rw [after3_8]
    unfold out3_8
    rw [View.canon_unit_zero (by decide), View.ld_unit_zero (by decide), View.ld_unit_zero (by decide)]
    obtain ⟨u, g', r', rfl⟩ : ∃ (u : Fin 1) (g' : Fin 128) (r' : Fin 3), y = ix3 u g' r' := ⟨y 0, y 1, y 2, by idx_vars y⟩
    have hy0 : (win3_8.blk t).view.emb (ix3 u g' r') = ix3 (bat3 t) g' r' := by blk_ext [e, bat3]
    rw [hy0, Subsingleton.elim u 0]
    exact (pay6_at3 _ (fun g => order (cloud m c (bat3 t)) g.val) (in3_0 m ρ c t) _ g' r').trans (in3_4 m ρ c t _ r')
  exact congrFun ((W5_arr m ρ c 8).trans hA) (ix3 b g r)

/-- The second result: the centres in walking order. -/
theorem W6_v5_3 (c : Dev nD) (b : Fin 32) (g : Fin 128) (k : Fin 3) :
    W6 m ρ c (Proc.devRef .tc main_v5_3) (ix3 b g k) = centre (cloud m c b) (order (cloud m c b) g.val) k := by
  rw [W6_of m ρ c main_v5_3 (by decide)]
  exact W5_v5_3 m ρ c b g k

/-- The first result: the neighbourhoods, relative to their centres, in walking order. -/
theorem W6_v9 (c : Dev nD) (b : Fin 32) (g : Fin 128) (r : Fin 32) (k : Fin 3) :
    W6 m ρ c (Proc.devRef .tc main_v9) (ix4 b g r k) = rel (cloud m c b) (order (cloud m c b) g.val) r.val k := by
  have e : W6 m ρ c (Proc.devRef .tc main_v9) = concatenate S32x128x32x3 3
      [⟨S32x128x32x1, broadcastInDim S32x128x32x1 ![0, 1, 2] bcast_S32x128x32_S32x128x32x1_0_1_2 (W5 m ρ c (Proc.devRef .tc main_v5_0))⟩,
        ⟨S32x128x32x1, broadcastInDim S32x128x32x1 ![0, 1, 2] bcast_S32x128x32_S32x128x32x1_0_1_2 (W5 m ρ c (Proc.devRef .tc main_v5_1))⟩,
        ⟨S32x128x32x1, broadcastInDim S32x128x32x1 ![0, 1, 2] bcast_S32x128x32_S32x128x32x1_0_1_2 (W5 m ρ c (Proc.devRef .tc main_v5_2))⟩] concatenates_S32x128x32x1_S32x128x32x1_S32x128x32x1_S32x128x32x3_d3 := by
    unfold W6 hostOps4
    after_results
    try rfl
  rw [e]
  fin_cases k
  · refine Eq.trans ?_ (W5_v5_0 m ρ c b g r)
    pointwise []
  · refine Eq.trans ?_ (W5_v5_1 m ρ c b g r)
    pointwise []
  · refine Eq.trans ?_ (W5_v5_2 m ρ c b g r)
    pointwise []

end Cert.KernelIdeal.Val
-- ==== Proof.KernelRun.lean ====
/- The kernel's run, with the values its two results hold at the end. -/
module

public import proofs.«01_k».proof.Proof.Arrays2

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (l : Loc nD τ sig) → Buf (Elt Ideal) l) (ρ : Dev nD → PrngReg)

set_option backward.isDefEq.respectTransparency.types false in
/-- Every run of the kernel ends, the two results at the last boundary's contents and the argument as launched. -/
theorem run_values : θ_run defs (onTc (τ := τ) (main (F := Ideal))) ⟨m, fun _ => 0, ρ⟩ (fun r => ∀ c : Dev nD,
      r.2.mem ((c.tc : Thread nD τ).loc main_v9) = W6 m ρ c (Proc.devRef .tc main_v9)
      ∧ r.2.mem ((c.tc : Thread nD τ).loc main_v5_3) = W6 m ρ c (Proc.devRef .tc main_v5_3)
      ∧ r.2.mem ((c.tc : Thread nD τ).loc main_arg0) = m ((c.tc : Thread nD τ).loc main_arg0)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c => ⟨h c _ (mem_uc main_v9 (by decide)), h c _ (mem_uc main_v5_3 (by decide)),
      (h c _ (mem_uc main_arg0 (by decide))).trans (W6_main_arg0 m ρ c)⟩)

/-- The first result of a cloud array: the neighbourhoods of the sampled points, in walking order. -/
def nbhd (p : Fin 32 → Cert.Spec.Cloud) : Vec Ideal S32x128x32x3 .f32 := fun i =>
  Cert.Spec.rel (p (i 0)) (Cert.Spec.order (p (i 0)) (i 1).val) (i 2).val (i 3)

/-- The second result: the sampled points, in walking order. -/
def ctrs (p : Fin 32 → Cert.Spec.Cloud) : Vec Ideal S32x128x3 .f32 := fun i =>
  Cert.Spec.centre (p (i 0)) (Cert.Spec.order (p (i 0)) (i 1).val) (i 2)

theorem W6_nbhd (c : Dev nD) : W6 m ρ c (Proc.devRef .tc main_v9) = nbhd (cloud m c) := by
  funext i
  obtain ⟨b, g, r, k, rfl⟩ : ∃ (b : Fin 32) (g : Fin 128) (r : Fin 32) (k : Fin 3), i = ix4 b g r k := ⟨i 0, i 1, i 2, i 3, by idx_vars i⟩
  exact W6_v9 m ρ c b g r k

theorem W6_ctrs (c : Dev nD) : W6 m ρ c (Proc.devRef .tc main_v5_3) = ctrs (cloud m c) := by
  funext i
  obtain ⟨b, g, k, rfl⟩ : ∃ (b : Fin 32) (g : Fin 128) (k : Fin 3), i = ix3 b g k := ⟨i 0, i 1, i 2, by idx_vars i⟩
  exact W6_v5_3 m ρ c b g k

end Cert.KernelIdeal.Val
-- ==== Proof.RefStep.lean ====
/-
  The reference's stretches as functions of the arrays they read: the sampling round, the centres, the distances, the
  nearest neighbours, the round of the walk, and the two results.
-/
module

public import proofs.«01_k».proof.Proof.RefRun

@[expose] public section

set_option maxRecDepth 16384

noncomputable section

namespace Cert.Ref

open Cert.ReferenceIdeal Cert.ReferenceIdeal.Gen
open Idealize.ShloMosaic Idealize.ShloMosaic.TcCoe Idealize.ShloMosaic.Tactic
open Idealize.SL.Sem
open Idealize.ShloMosaic.StableHlo

variable {F : FTy → Type} [FloatOps F]

/-- The last sampled point of each cloud. -/
def pickedA (x : FVec F S32x8192x3 .f32) (i : IVec S32 32) : FVec F S32x1x3 .f32 :=
  Host.gather gather_S32x8192x3_S32x1x1_S32x1x3_2_1_0_0_1_2_113 x (broadcastInDim S32x1x1 ![0, 1] bcast_S32x1_S32x1x1_0_1 (broadcastInDim S32x1 ![0] bcast_S32_S32x1_0 i))
/-- The offsets of the points from the last sampled one. -/
def offsA (x : FVec F S32x8192x3 .f32) (i : IVec S32 32) : FVec F S32x8192x3 .f32 :=
  subf x (broadcastInDim S32x8192x3 ![0, 1, 2] bcast_S32x1x3_S32x8192x3_0_1_2 (pickedA x i))
/-- The distances to the sample after one more point. -/
def updA (x : FVec F S32x8192x3 .f32) (i : IVec S32 32) (d : FVec F S32x8192 .f32) : FVec F S32x8192 .f32 :=
  minimumf d (Host.reduceAdd (mulf (offsA x i) (offsA x i)) (constant S_ .f32 0x00000000#32) reducesTo_S32x8192x3_S32x8192_d2 h_S_)
/-- The farthest point of each cloud. -/
def farA (d : FVec F S32x8192 .f32) : IVec S32 32 := fun j =>
  (Host.argReduce reducer_argmax_f32_i32 d (iotaInDim S32x8192 32 1) (constant S_ .f32 0xFF800000#32) (constantI S_ 32 0#32) reducesTo_S32x8192_S32_d1 h_S_ j).2
/-- The list with one row written. -/
def listA (l : IVec S128x32 32) (i : IVec S32 32) (n : IVec S_ 32) : IVec S128x32 32 :=
  Host.dynamicUpdateSlice l (broadcastInDim S1x32 ![1] bcast_S32_S1x32_1 i)
    (fun k => (((![n, constantI S_ 32 0#32] : Fin 2 → IVec S_ 32)) k (Shape.Idx.first h_S_)).toInt) updateFits_S128x32_S1x32

theorem s0_v72 (X : Valuation τ sig (Elt F)) :
    rd (after while0Ops0 X) main_while0b_v72 = updA (rd X main_v3_0) (rd X main_v3_3) (rd X main_v3_2) := by
  show (after while0Ops0 X) (Proc.devRef .tc main_while0b_v72) = _
  after_reads_simp
  unfold updA offsA pickedA
  rfl
theorem s1_v73 (X : Valuation τ sig (Elt F)) : rd (after while0Ops0_1 X) main_while0b_v73 = farA (rd X main_while0b_v72) := by
  show (after while0Ops0_1 X) (Proc.devRef .tc main_while0b_v73) = _
  after_reads_simp
  unfold farA
  generalize @Host.argReduce _ _ _ _ _ _ _ _ (reducer_argmax_f32_i32 (F := F)) = G
  simp only [StableHlo.TRef.ofBuf_toBuf]
  rfl
theorem s2_v74 (X : Valuation τ sig (Elt F)) : rd (after while0Ops0_2 X) main_while0b_v74 = listA (rd X main_v3_4) (rd X main_v3_3) (rd X main_v3_1) := by
  show (after while0Ops0_2 X) (Proc.devRef .tc main_while0b_v74) = _
  after_reads_simp
  unfold listA
  simp only [StableHlo.TRef.ofBuf_toBuf]
  refine congrArg (fun z => Host.dynamicUpdateSlice (rd X main_v3_4) (broadcastInDim S1x32 ![1] bcast_S32_S1x32_1 (rd X main_v3_3)) z updateFits_S128x32_S1x32) (funext fun k => ?_)
  fin_cases k <;> rfl
theorem s3_v2 (X : Valuation τ sig (Elt F)) : rd (after while0Ops0_3 X) main_v3_2 = rd X main_while0b_v72 := by
  after_results
  rfl
theorem s3_v3 (X : Valuation τ sig (Elt F)) : rd (after while0Ops0_3 X) main_v3_3 = rd X main_while0b_v73 := by
  after_results
  rfl
theorem s3_v4 (X : Valuation τ sig (Elt F)) : rd (after while0Ops0_3 X) main_v3_4 = rd X main_while0b_v74 := by
  after_results
  rfl

theorem stepA_v72 (X : Valuation τ sig (Elt F)) :
    rd (after while0Ops0 (after condA X)) main_while0b_v72 = updA (rd X main_v3_0) (rd X main_v3_3) (rd X main_v3_2) := by
  rw [s0_v72, rd_keep condA condA_writes (by decide +kernel), rd_keep condA condA_writes (by decide +kernel), rd_keep condA condA_writes (by decide +kernel)]

theorem stepA_0 (X : Valuation τ sig (Elt F)) : rd (afterL bodyA (after condA X)) main_v3_0 = rd X main_v3_0 := by
  simp only [afterL_cons, afterL_nil]
  rw [rd_keep while0Ops0_3 while0Ops0_3_writes (by decide +kernel), rd_keep while0Ops0_2 while0Ops0_2_writes (by decide +kernel),
    rd_keep while0Ops0_1 while0Ops0_1_writes (by decide +kernel), rd_keep while0Ops0 while0Ops0_writes (by decide +kernel),
    rd_keep condA condA_writes (by decide +kernel)]
theorem stepA_2 (X : Valuation τ sig (Elt F)) :
    rd (afterL bodyA (after condA X)) main_v3_2 = updA (rd X main_v3_0) (rd X main_v3_3) (rd X main_v3_2) := by
  simp only [afterL_cons, afterL_nil]
  rw [s3_v2, rd_keep while0Ops0_2 while0Ops0_2_writes (by decide +kernel), rd_keep while0Ops0_1 while0Ops0_1_writes (by decide +kernel), stepA_v72]
theorem stepA_3 (X : Valuation τ sig (Elt F)) :
    rd (afterL bodyA (after condA X)) main_v3_3 = farA (updA (rd X main_v3_0) (rd X main_v3_3) (rd X main_v3_2)) := by
  simp only [afterL_cons, afterL_nil]
  rw [s3_v3, rd_keep while0Ops0_2 while0Ops0_2_writes (by decide +kernel), s1_v73, stepA_v72]
theorem stepA_4 (X : Valuation τ sig (Elt F)) :
    rd (afterL bodyA (after condA X)) main_v3_4 = listA (rd X main_v3_4) (rd X main_v3_3) (rd X main_v3_1) := by
  simp only [afterL_cons, afterL_nil]
  rw [s3_v4, s2_v74]
  simp only [rd_keep while0Ops0_1 while0Ops0_1_writes (r := main_v3_4) (by decide +kernel), rd_keep while0Ops0_1 while0Ops0_1_writes (r := main_v3_3) (by decide +kernel), rd_keep while0Ops0_1 while0Ops0_1_writes (r := main_v3_1) (by decide +kernel),
    rd_keep while0Ops0 while0Ops0_writes (r := main_v3_4) (by decide +kernel), rd_keep while0Ops0 while0Ops0_writes (r := main_v3_3) (by decide +kernel), rd_keep while0Ops0 while0Ops0_writes (r := main_v3_1) (by decide +kernel),
    rd_keep condA condA_writes (r := main_v3_4) (by decide +kernel), rd_keep condA condA_writes (r := main_v3_3) (by decide +kernel), rd_keep condA condA_writes (r := main_v3_1) (by decide +kernel)]

theorem startA_0 (V : Valuation τ sig (Elt F)) : rd (after hostOps0 V) main_v3_0 = rd V main_arg0 := by
  after_results
  rfl
theorem startA_2 (V : Valuation τ sig (Elt F)) : rd (after hostOps0 V) main_v3_2 = broadcastInDim S32x8192 ![] bcast_S_S32x8192 (constant S_ .f32 0x501502F9#32) := by
  after_results
  rfl
theorem startA_3 (V : Valuation τ sig (Elt F)) : rd (after hostOps0 V) main_v3_3 = broadcastInDim S32 ![] bcast_S_S32 (constantI S_ 32 0#32) := by
  after_results
  rfl

/-! ## Between the loops -/

/-- The sampled points. -/
def ctrR (x : FVec F S32x8192x3 .f32) (l : IVec S128x32 32) : FVec F S32x128x3 .f32 :=
  Host.gather gather_S32x8192x3_S32x128x1_S32x128x3_2_1_0_0_1_2_113 x (broadcastInDim S32x128x1 ![0, 1] bcast_S32x128_S32x128x1_0_1 (transpose S32x128 [1, 0] l transposes_S128x32_S32x128_1_0))
/-- Their distances to the cloud. -/
def distR (c : FVec F S32x128x3 .f32) (x : FVec F S32x8192x3 .f32) : FVec F S32x128x8192 .f32 :=
  Host.sqrt (maximumf (subf (addf
      (broadcastInDim S32x128x8192 ![0, 1, 2] bcast_S32x128x1_S32x128x8192_0_1_2 (broadcastInDim S32x128x1 ![0, 1] bcast_S32x128_S32x128x1_0_1 (Host.reduceAdd (mulf c c) (constant S_ .f32 0x00000000#32) reducesTo_S32x128x3_S32x128_d2 h_S_)))
      (broadcastInDim S32x128x8192 ![0, 1, 2] bcast_S32x1x8192_S32x128x8192_0_1_2 (broadcastInDim S32x1x8192 ![0, 2] bcast_S32x8192_S32x1x8192_0_2 (Host.reduceAdd (mulf x x) (constant S_ .f32 0x00000000#32) reducesTo_S32x8192x3_S32x8192_d2 h_S_))))
    (mulf (broadcastInDim S32x128x8192 ![] bcast_S_S32x128x8192 (constant S_ .f32 0x40000000#32)) (Host.dotGeneral dot_S32x128x3_S32x8192x3_S32x128x8192_2_2_1_1_0_0 none c x)))
    (broadcastInDim S32x128x8192 ![] bcast_S_S32x128x8192 (constant S_ .f32 0x00000000#32)))
/-- Their distances to each other. -/
def distC (c : FVec F S32x128x3 .f32) : FVec F S32x128x128 .f32 :=
  Host.sqrt (maximumf (subf (addf
      (broadcastInDim S32x128x128 ![0, 1, 2] bcast_S32x128x1_S32x128x128_0_1_2 (broadcastInDim S32x128x1 ![0, 1] bcast_S32x128_S32x128x1_0_1 (Host.reduceAdd (mulf c c) (constant S_ .f32 0x00000000#32) reducesTo_S32x128x3_S32x128_d2 h_S_)))
      (broadcastInDim S32x128x128 ![0, 1, 2] bcast_S32x1x128_S32x128x128_0_1_2 (broadcastInDim S32x1x128 ![0, 2] bcast_S32x128_S32x1x128_0_2 (Host.reduceAdd (mulf c c) (constant S_ .f32 0x00000000#32) reducesTo_S32x128x3_S32x128_d2 h_S_))))
    (mulf (broadcastInDim S32x128x128 ![] bcast_S_S32x128x128 (constant S_ .f32 0x40000000#32)) (Host.dotGeneral dot_S32x128x3_S32x128x3_S32x128x128_2_2_1_1_0_0 none c c)))
    (broadcastInDim S32x128x128 ![] bcast_S_S32x128x128 (constant S_ .f32 0x00000000#32)))
/-- The nearest points' indices. -/
def nearR (d : FVec F S32x128x8192 .f32) : IVec S32x128x32 32 :=
  (Host.topK S32x128x32 2 (FloatOps.cmpfTotal .gt) (Host.negf d) sliceFits_S32x128x8192_S32x128x32).2
/-- The neighbourhoods, relative to their centres. -/
def relR (x : FVec F S32x8192x3 .f32) (c : FVec F S32x128x3 .f32) (i : IVec S32x128x32 32) : FVec F S32x128x32x3 .f32 :=
  subf (Host.gather gather_S32x8192x3_S32x128x32x1_S32x128x32x3_3_1_0_0_1_3_113 x (broadcastInDim S32x128x32x1 ![0, 1, 2] bcast_S32x128x32_S32x128x32x1_0_1_2 i))
    (broadcastInDim S32x128x32x3 ![0, 1, 2, 3] bcast_S32x128x1x3_S32x128x32x3_0_1_2_3 (broadcastInDim S32x128x1x3 ![0, 1, 3] bcast_S32x128x3_S32x128x1x3_0_1_3 c))
/-- The diagonal. -/
def eyeR : IVec S128x128 1 :=
  cmpi .eq (addi (iotaInDim S128x128 32 0) (broadcastInDim S128x128 ![] bcast_S_S128x128 (constantI S_ 32 0#32))) (iotaInDim S128x128 32 1)
/-- The distances among the sampled points, infinite on the diagonal. -/
def maskR (d : FVec F S32x128x128 .f32) : FVec F S32x128x128 .f32 :=
  select (broadcastInDim S32x128x128 ![1, 2] bcast_S128x128_S32x128x128_1_2 eyeR) (broadcastInDim S32x128x128 ![] bcast_S_S32x128x128 (constant S_ .f32 0x7F800000#32)) d
/-- Point 0 visited. -/
def vis0 : IVec S32x128 1 :=
  broadcastInDim S32x128 ![1] bcast_S128_S32x128_1 (cmpi .eq (iotaInDim S128 32 0) (broadcastInDim S128 ![] bcast_S_S128 (constantI S_ 32 0#32)))

theorem mid_v6 (X : Valuation τ sig (Elt F)) : rd (after hostOps0_1 X) main_v6 = ctrR (rd X main_arg0) (rd X main_v3_4) := by
  after_results
  rfl
theorem mid_v28 (X : Valuation τ sig (Elt F)) : rd (after hostOps0_1 X) main_v28
    = relR (rd X main_arg0) (ctrR (rd X main_arg0) (rd X main_v3_4)) (nearR (distR (ctrR (rd X main_arg0) (rd X main_v3_4)) (rd X main_arg0))) := by
  after_results
  rfl
theorem mid_v33 (X : Valuation τ sig (Elt F)) : rd (after hostOps0_1 X) main_v33 = eyeR := by
  after_results
  rfl
theorem mid_cst (X : Valuation τ sig (Elt F)) : rd (after hostOps0_1 X) main_cst_11 = constant S_ .f32 0x7F800000#32 := by
  after_results
  rfl
theorem mid_v49 (X : Valuation τ sig (Elt F)) : rd (after hostOps0_1 X) main_v49 = distC (ctrR (rd X main_arg0) (rd X main_v3_4)) := by
  after_results
  rfl
theorem mid_v50 (X : Valuation τ sig (Elt F)) : rd (after hostOps0_2 (after hostOps0_1 X)) main_v50 = maskR (distC (ctrR (rd X main_arg0) (rd X main_v3_4))) := by
  have e : rd (after hostOps0_2 (after hostOps0_1 X)) main_v50 = select (broadcastInDim S32x128x128 ![1, 2] bcast_S128x128_S32x128x128_1_2 (rd (after hostOps0_1 X) main_v33)) (broadcastInDim S32x128x128 ![] bcast_S_S32x128x128 (rd (after hostOps0_1 X) main_cst_11)) (rd (after hostOps0_1 X) main_v49) := by
    generalize after hostOps0_1 X = Y
    after_results
    rfl
  rw [e, mid_v33, mid_cst, mid_v49]
  rfl
theorem mid3_0 (X : Valuation τ sig (Elt F)) : rd (after hostOps0_3 X) main_v57_0 = rd X main_v50 := by
  after_results
  rfl
theorem mid3_2 (X : Valuation τ sig (Elt F)) : rd (after hostOps0_3 X) main_v57_2 = vis0 := by
  after_results
  rfl
theorem mid3_3 (X : Valuation τ sig (Elt F)) : rd (after hostOps0_3 X) main_v57_3 = broadcastInDim S32 ![] bcast_S_S32 (constantI S_ 32 0#32) := by
  after_results
  rfl

/-! ## The walk -/

/-- The row of distances from the point last visited, infinite at the visited ones. -/
def rowB (d : FVec F S32x128x128 .f32) (v : IVec S32x128 1) (i : IVec S32 32) : FVec F S32x128 .f32 :=
  select v (broadcastInDim S32x128 ![] bcast_S_S32x128 (constant S_ .f32 0x7F800000#32))
    (shapeCast S32x128 (Host.gather gather_S32x128x128_S32x1x1_S32x1x128_2_1_0_0_1_2_11128 d (broadcastInDim S32x1x1 ![0, 1] bcast_S32x1_S32x1x1_0_1 (broadcastInDim S32x1 ![0] bcast_S32_S32x1_0 i))) shapeCasts_S32x1x128_S32x128)
/-- The nearest one. -/
def nearB (r : FVec F S32x128 .f32) : IVec S32 32 := fun j =>
  (Host.argReduce reducer_argmin_f32_i32 r (iotaInDim S32x128 32 1) (constant S_ .f32 0x7F800000#32) (constantI S_ 32 0#32) reducesTo_S32x128_S32_d1 h_S_ j).2
/-- The visited points with one more. -/
def visB (v : IVec S32x128 1) (i : IVec S32 32) : IVec S32x128 1 :=
  ori v (cmpi .eq (broadcastInDim S32x128 ![0, 1] bcast_S1x128_S32x128_0_1 (broadcastInDim S1x128 ![1] bcast_S128_S1x128_1 (iotaInDim S128 32 0)))
    (broadcastInDim S32x128 ![0, 1] bcast_S32x1_S32x128_0_1 (broadcastInDim S32x1 ![0] bcast_S32_S32x1_0 i)))
/-- The walk's list with one row written. -/
def listB (l : IVec S127x32 32) (i : IVec S32 32) (n : IVec S_ 32) : IVec S127x32 32 :=
  Host.dynamicUpdateSlice l (broadcastInDim S1x32 ![1] bcast_S32_S1x32_1 i)
    (fun k => (((![n, constantI S_ 32 0#32] : Fin 2 → IVec S_ 32)) k (Shape.Idx.first h_S_)).toInt) updateFits_S127x32_S1x32

theorem t0_v68 (X : Valuation τ sig (Elt F)) : rd (after while1Ops0 X) main_while1b_v68
    = shapeCast S32x128 (Host.gather gather_S32x128x128_S32x1x1_S32x1x128_2_1_0_0_1_2_11128 (rd X main_v57_0) (broadcastInDim S32x1x1 ![0, 1] bcast_S32x1_S32x1x1_0_1 (broadcastInDim S32x1 ![0] bcast_S32_S32x1_0 (rd X main_v57_3)))) shapeCasts_S32x1x128_S32x128 := by
  after_results
  rfl
theorem t0_cst (X : Valuation τ sig (Elt F)) : rd (after while1Ops0 X) main_while1b_cst_21 = constant S_ .f32 0x7F800000#32 := by
  after_results
  rfl
theorem t1_v69 (X : Valuation τ sig (Elt F)) : rd (after while1Ops0_1 X) main_while1b_v69
    = select (rd X main_v57_2) (broadcastInDim S32x128 ![] bcast_S_S32x128 (rd X main_while1b_cst_21)) (rd X main_while1b_v68) := by
  after_results
  rfl
theorem t2_v70 (X : Valuation τ sig (Elt F)) : rd (after while1Ops0_2 X) main_while1b_v70 = nearB (rd X main_while1b_v69) := by
  show (after while1Ops0_2 X) (Proc.devRef .tc main_while1b_v70) = _
  after_reads_simp
  unfold nearB
  generalize @Host.argReduce _ _ _ _ _ _ _ _ (reducer_argmin_f32_i32 (F := F)) = G
  simp only [StableHlo.TRef.ofBuf_toBuf]
  rfl
theorem t3_v77 (X : Valuation τ sig (Elt F)) : rd (after while1Ops0_3 X) main_while1b_v77 = visB (rd X main_v57_2) (rd X main_while1b_v70) := by
  after_results
  rfl
theorem t4_v78 (X : Valuation τ sig (Elt F)) : rd (after while1Ops0_4 X) main_while1b_v78 = listB (rd X main_v57_4) (rd X main_while1b_v70) (rd X main_v57_1) := by
  show (after while1Ops0_4 X) (Proc.devRef .tc main_while1b_v78) = _
  after_reads_simp
  unfold listB
  simp only [StableHlo.TRef.ofBuf_toBuf]
  refine congrArg (fun z => Host.dynamicUpdateSlice (rd X main_v57_4) (broadcastInDim S1x32 ![1] bcast_S32_S1x32_1 (rd X main_while1b_v70)) z updateFits_S127x32_S1x32) (funext fun k => ?_)
  fin_cases k <;> rfl
theorem t5_2 (X : Valuation τ sig (Elt F)) : rd (after while1Ops0_5 X) main_v57_2 = rd X main_while1b_v77 := by
  after_results
  rfl
theorem t5_3 (X : Valuation τ sig (Elt F)) : rd (after while1Ops0_5 X) main_v57_3 = rd X main_while1b_v70 := by
  after_results
  rfl
theorem t5_4 (X : Valuation τ sig (Elt F)) : rd (after while1Ops0_5 X) main_v57_4 = rd X main_while1b_v78 := by
  after_results
  rfl

/-- What a buffer no operation before the third stretch writes holds there. -/
theorem keepB3 (X : Valuation τ sig (Elt F)) (r : Ref sig .tc) (h : r ∉ condB_W ∧ r ∉ while1Ops0_W ∧ r ∉ while1Ops0_1_W ∧ r ∉ while1Ops0_2_W) :
    rd (after while1Ops0_2 (after while1Ops0_1 (after while1Ops0 (after condB X)))) r = rd X r := by
  rw [rd_keep while1Ops0_2 while1Ops0_2_writes h.2.2.2, rd_keep while1Ops0_1 while1Ops0_1_writes h.2.2.1, rd_keep while1Ops0 while1Ops0_writes h.2.1, rd_keep condB condB_writes h.1]

theorem stepB_v70 (X : Valuation τ sig (Elt F)) : rd (after while1Ops0_2 (after while1Ops0_1 (after while1Ops0 (after condB X)))) main_while1b_v70
    = nearB (rowB (rd X main_v57_0) (rd X main_v57_2) (rd X main_v57_3)) := by
  rw [t2_v70, t1_v69, t0_cst, t0_v68, rd_keep while1Ops0 while1Ops0_writes (r := main_v57_2) (by decide +kernel), rd_keep condB condB_writes (r := main_v57_2) (by decide +kernel),
    rd_keep condB condB_writes (r := main_v57_0) (by decide +kernel), rd_keep condB condB_writes (r := main_v57_3) (by decide +kernel)]
  rfl
theorem stepB_0 (X : Valuation τ sig (Elt F)) : rd (afterL bodyB (after condB X)) main_v57_0 = rd X main_v57_0 :=
  stepB_keep X main_v57_0 (by decide +kernel)
theorem stepB_2 (X : Valuation τ sig (Elt F)) : rd (afterL bodyB (after condB X)) main_v57_2
    = visB (rd X main_v57_2) (nearB (rowB (rd X main_v57_0) (rd X main_v57_2) (rd X main_v57_3))) := by
  simp only [afterL_cons, afterL_nil]
  rw [t5_2, rd_keep while1Ops0_4 while1Ops0_4_writes (by decide +kernel), t3_v77, stepB_v70, keepB3 X main_v57_2 (by decide +kernel)]
theorem stepB_3 (X : Valuation τ sig (Elt F)) : rd (afterL bodyB (after condB X)) main_v57_3
    = nearB (rowB (rd X main_v57_0) (rd X main_v57_2) (rd X main_v57_3)) := by
  simp only [afterL_cons, afterL_nil]
  rw [t5_3, rd_keep while1Ops0_4 while1Ops0_4_writes (by decide +kernel), rd_keep while1Ops0_3 while1Ops0_3_writes (by decide +kernel), stepB_v70]
theorem stepB_4 (X : Valuation τ sig (Elt F)) : rd (afterL bodyB (after condB X)) main_v57_4
    = listB (rd X main_v57_4) (nearB (rowB (rd X main_v57_0) (rd X main_v57_2) (rd X main_v57_3))) (rd X main_v57_1) := by
  simp only [afterL_cons, afterL_nil]
  rw [t5_4, t4_v78, rd_keep while1Ops0_3 while1Ops0_3_writes (r := main_while1b_v70) (by decide +kernel), stepB_v70,
    rd_keep while1Ops0_3 while1Ops0_3_writes (r := main_v57_4) (by decide +kernel), keepB3 X main_v57_4 (by decide +kernel),
    rd_keep while1Ops0_3 while1Ops0_3_writes (r := main_v57_1) (by decide +kernel), keepB3 X main_v57_1 (by decide +kernel)]

/-! ## The results -/

/-- The walk, point 0 first. -/
def orderR (l : IVec S127x32 32) : IVec S32x128x1 32 :=
  broadcastInDim S32x128x1 ![0, 1] bcast_S32x128_S32x128x1_0_1
    (concatenate S32x128 1 [⟨S32x1, broadcastInDim S32x1 ![] bcast_S_S32x1 (constantI S_ 32 0#32)⟩, ⟨S32x127, transpose S32x127 [1, 0] l transposes_S127x32_S32x127_1_0⟩] concatenates_S32x1_S32x127_S32x128_d1)

theorem post_v62 (X : Valuation τ sig (Elt F)) : rd (after hostOps0_4 X) main_v62
    = Host.gather gather_S32x128x32x3_S32x128x1_S32x128x32x3_23_1_0_0_1_2_11323 (rd X main_v28) (orderR (rd X main_v57_4)) := by
  after_results
  rfl
theorem post_v64 (X : Valuation τ sig (Elt F)) : rd (after hostOps0_4 X) main_v64
    = Host.gather gather_S32x128x3_S32x128x1_S32x128x3_2_1_0_0_1_2_113 (rd X main_v6) (orderR (rd X main_v57_4)) := by
  after_results
  rfl

end Cert.Ref

end
-- ==== Proof.RefGather.lean ====
/- The reference's row gathers, at coordinates. -/
module

public import proofs.«01_k».proof.Proof.RefStep
public import proofs.«01_k».proof.Proof.Search
public import proofs.«01_k».proof.Proof.Spec
public import Idealize.ShloMosaic.Lib.Pointwise
public import Idealize.ShloMosaic.PureOps.Ideal.Laws

@[expose] public section

set_option maxRecDepth 16384

noncomputable section

namespace Cert.Ref

open Cert.ReferenceIdeal Cert.ReferenceIdeal.Gen Cert.Pick Cert.Spec
open Idealize.ShloMosaic Idealize.ShloMosaic.TcCoe Idealize.ShloMosaic.Tactic
open Idealize.SL.Sem

/-- Row gathers: the row a word names. -/
theorem gather_picked {α : Type} (x : S32x8192x3.Idx → α) (idx : IVec S32x1x1 32) (b : Fin 32) (k : Fin 3) (a : Fin 8192) (h : idx (ix3 b 0 0) = BitVec.ofNat 32 a.val) :
    Host.gather gather_S32x8192x3_S32x1x1_S32x1x3_2_1_0_0_1_2_113 x idx (ix3 b 0 k) = x (ix3 b a k) := by
  have hs : gather_S32x8192x3_S32x1x1_S32x1x3_2_1_0_0_1_2_113.siIdx (ix3 b 0 k) ⟨0, by decide⟩ = ix3 b 0 0 := by
    funext c
    fin_cases c <;> rfl
  have ha : (BitVec.ofNat 32 a.val).toInt.toNat = a.val := by
    rw [toInt_ofNat (by omega)]
    exact Int.toNat_natCast _
  unfold Host.gather
  refine congrArg x (funext fun c => Fin.ext ?_)
  fin_cases c
  · show gather_S32x8192x3_S32x1x1_S32x1x3_2_1_0_0_1_2_113.start (ix3 b 0 k) idx 0 + gather_S32x8192x3_S32x1x1_S32x1x3_2_1_0_0_1_2_113.batchCoord (ix3 b 0 k) 0 + gather_S32x8192x3_S32x1x1_S32x1x3_2_1_0_0_1_2_113.offCoord (ix3 b 0 k) 0 = b.val
    rw [GatherDims.start_batching _ _ _ _ (by decide), GatherDims.offCoord_eq_zero _ _ _ (by decide), Nat.zero_add, Nat.add_zero]
    rfl
  · show gather_S32x8192x3_S32x1x1_S32x1x3_2_1_0_0_1_2_113.start (ix3 b 0 k) idx 1 + gather_S32x8192x3_S32x1x1_S32x1x3_2_1_0_0_1_2_113.batchCoord (ix3 b 0 k) 1 + gather_S32x8192x3_S32x1x1_S32x1x3_2_1_0_0_1_2_113.offCoord (ix3 b 0 k) 1 = a.val
    rw [GatherDims.batchCoord_eq_zero _ _ _ (by decide), GatherDims.offCoord_eq_zero _ _ _ (by decide), Nat.add_zero]
    show min (idx (gather_S32x8192x3_S32x1x1_S32x1x3_2_1_0_0_1_2_113.siIdx (ix3 b 0 k) ⟨0, by decide⟩)).toInt.toNat 8191 = a.val
    rw [hs, h, ha]
    omega
  · show gather_S32x8192x3_S32x1x1_S32x1x3_2_1_0_0_1_2_113.start (ix3 b 0 k) idx 2 + gather_S32x8192x3_S32x1x1_S32x1x3_2_1_0_0_1_2_113.batchCoord (ix3 b 0 k) 2 + gather_S32x8192x3_S32x1x1_S32x1x3_2_1_0_0_1_2_113.offCoord (ix3 b 0 k) 2 = k.val
    rw [GatherDims.batchCoord_eq_zero _ _ _ (by decide)]
    show 0 + 0 + k.val = k.val
    omega

theorem gather_centre {α : Type} (x : S32x8192x3.Idx → α) (idx : IVec S32x128x1 32) (b : Fin 32) (g : Fin 128) (k : Fin 3) (a : Fin 8192) (h : idx (ix3 b g 0) = BitVec.ofNat 32 a.val) :
    Host.gather gather_S32x8192x3_S32x128x1_S32x128x3_2_1_0_0_1_2_113 x idx (ix3 b g k) = x (ix3 b a k) := by
  have hs : gather_S32x8192x3_S32x128x1_S32x128x3_2_1_0_0_1_2_113.siIdx (ix3 b g k) ⟨0, by decide⟩ = ix3 b g 0 := by
    funext c
    fin_cases c <;> rfl
  have ha : (BitVec.ofNat 32 a.val).toInt.toNat = a.val := by
    rw [toInt_ofNat (by omega)]
    exact Int.toNat_natCast _
  unfold Host.gather
  refine congrArg x (funext fun c => Fin.ext ?_)
  fin_cases c
  · show gather_S32x8192x3_S32x128x1_S32x128x3_2_1_0_0_1_2_113.start (ix3 b g k) idx 0 + gather_S32x8192x3_S32x128x1_S32x128x3_2_1_0_0_1_2_113.batchCoord (ix3 b g k) 0 + gather_S32x8192x3_S32x128x1_S32x128x3_2_1_0_0_1_2_113.offCoord (ix3 b g k) 0 = b.val
    rw [GatherDims.start_batching _ _ _ _ (by decide), GatherDims.offCoord_eq_zero _ _ _ (by decide), Nat.zero_add, Nat.add_zero]
    rfl
  · show gather_S32x8192x3_S32x128x1_S32x128x3_2_1_0_0_1_2_113.start (ix3 b g k) idx 1 + gather_S32x8192x3_S32x128x1_S32x128x3_2_1_0_0_1_2_113.batchCoord (ix3 b g k) 1 + gather_S32x8192x3_S32x128x1_S32x128x3_2_1_0_0_1_2_113.offCoord (ix3 b g k) 1 = a.val
    rw [GatherDims.batchCoord_eq_zero _ _ _ (by decide), GatherDims.offCoord_eq_zero _ _ _ (by decide), Nat.add_zero]
    show min (idx (gather_S32x8192x3_S32x128x1_S32x128x3_2_1_0_0_1_2_113.siIdx (ix3 b g k) ⟨0, by decide⟩)).toInt.toNat 8191 = a.val
    rw [hs, h, ha]
    omega
  · show gather_S32x8192x3_S32x128x1_S32x128x3_2_1_0_0_1_2_113.start (ix3 b g k) idx 2 + gather_S32x8192x3_S32x128x1_S32x128x3_2_1_0_0_1_2_113.batchCoord (ix3 b g k) 2 + gather_S32x8192x3_S32x128x1_S32x128x3_2_1_0_0_1_2_113.offCoord (ix3 b g k) 2 = k.val
    rw [GatherDims.batchCoord_eq_zero _ _ _ (by decide)]
    show 0 + 0 + k.val = k.val
    omega

theorem gather_near {α : Type} (x : S32x8192x3.Idx → α) (idx : IVec S32x128x32x1 32) (b : Fin 32) (g : Fin 128) (r : Fin 32) (k : Fin 3) (a : Fin 8192) (h : idx (ix4 b g r 0) = BitVec.ofNat 32 a.val) :
    Host.gather gather_S32x8192x3_S32x128x32x1_S32x128x32x3_3_1_0_0_1_3_113 x idx (ix4 b g r k) = x (ix3 b a k) := by
  have hs : gather_S32x8192x3_S32x128x32x1_S32x128x32x3_3_1_0_0_1_3_113.siIdx (ix4 b g r k) ⟨0, by decide⟩ = ix4 b g r 0 := by
    funext c
    fin_cases c <;> rfl
  have ha : (BitVec.ofNat 32 a.val).toInt.toNat = a.val := by
    rw [toInt_ofNat (by omega)]
    exact Int.toNat_natCast _
  unfold Host.gather
  refine congrArg x (funext fun c => Fin.ext ?_)
  fin_cases c
  · show gather_S32x8192x3_S32x128x32x1_S32x128x32x3_3_1_0_0_1_3_113.start (ix4 b g r k) idx 0 + gather_S32x8192x3_S32x128x32x1_S32x128x32x3_3_1_0_0_1_3_113.batchCoord (ix4 b g r k) 0 + gather_S32x8192x3_S32x128x32x1_S32x128x32x3_3_1_0_0_1_3_113.offCoord (ix4 b g r k) 0 = b.val
    rw [GatherDims.start_batching _ _ _ _ (by decide), GatherDims.offCoord_eq_zero _ _ _ (by decide), Nat.zero_add, Nat.add_zero]
    rfl
  · show gather_S32x8192x3_S32x128x32x1_S32x128x32x3_3_1_0_0_1_3_113.start (ix4 b g r k) idx 1 + gather_S32x8192x3_S32x128x32x1_S32x128x32x3_3_1_0_0_1_3_113.batchCoord (ix4 b g r k) 1 + gather_S32x8192x3_S32x128x32x1_S32x128x32x3_3_1_0_0_1_3_113.offCoord (ix4 b g r k) 1 = a.val
    rw [GatherDims.batchCoord_eq_zero _ _ _ (by decide), GatherDims.offCoord_eq_zero _ _ _ (by decide), Nat.add_zero]
    show min (idx (gather_S32x8192x3_S32x128x32x1_S32x128x32x3_3_1_0_0_1_3_113.siIdx (ix4 b g r k) ⟨0, by decide⟩)).toInt.toNat 8191 = a.val
    rw [hs, h, ha]
    omega
  · show gather_S32x8192x3_S32x128x32x1_S32x128x32x3_3_1_0_0_1_3_113.start (ix4 b g r k) idx 2 + gather_S32x8192x3_S32x128x32x1_S32x128x32x3_3_1_0_0_1_3_113.batchCoord (ix4 b g r k) 2 + gather_S32x8192x3_S32x128x32x1_S32x128x32x3_3_1_0_0_1_3_113.offCoord (ix4 b g r k) 2 = k.val
    rw [GatherDims.batchCoord_eq_zero _ _ _ (by decide)]
    show 0 + 0 + k.val = k.val
    omega

theorem gather_row {α : Type} (x : S32x128x128.Idx → α) (idx : IVec S32x1x1 32) (b : Fin 32) (k : Fin 128) (a : Fin 128) (h : idx (ix3 b 0 0) = BitVec.ofNat 32 a.val) :
    Host.gather gather_S32x128x128_S32x1x1_S32x1x128_2_1_0_0_1_2_11128 x idx (ix3 b 0 k) = x (ix3 b a k) := by
  have hs : gather_S32x128x128_S32x1x1_S32x1x128_2_1_0_0_1_2_11128.siIdx (ix3 b 0 k) ⟨0, by decide⟩ = ix3 b 0 0 := by
    funext c
    fin_cases c <;> rfl
  have ha : (BitVec.ofNat 32 a.val).toInt.toNat = a.val := by
    rw [toInt_ofNat (by omega)]
    exact Int.toNat_natCast _
  unfold Host.gather
  refine congrArg x (funext fun c => Fin.ext ?_)
  fin_cases c
  · show gather_S32x128x128_S32x1x1_S32x1x128_2_1_0_0_1_2_11128.start (ix3 b 0 k) idx 0 + gather_S32x128x128_S32x1x1_S32x1x128_2_1_0_0_1_2_11128.batchCoord (ix3 b 0 k) 0 + gather_S32x128x128_S32x1x1_S32x1x128_2_1_0_0_1_2_11128.offCoord (ix3 b 0 k) 0 = b.val
    rw [GatherDims.start_batching _ _ _ _ (by decide), GatherDims.offCoord_eq_zero _ _ _ (by decide), Nat.zero_add, Nat.add_zero]
    rfl
  · show gather_S32x128x128_S32x1x1_S32x1x128_2_1_0_0_1_2_11128.start (ix3 b 0 k) idx 1 + gather_S32x128x128_S32x1x1_S32x1x128_2_1_0_0_1_2_11128.batchCoord (ix3 b 0 k) 1 + gather_S32x128x128_S32x1x1_S32x1x128_2_1_0_0_1_2_11128.offCoord (ix3 b 0 k) 1 = a.val
    rw [GatherDims.batchCoord_eq_zero _ _ _ (by decide), GatherDims.offCoord_eq_zero _ _ _ (by decide), Nat.add_zero]
    show min (idx (gather_S32x128x128_S32x1x1_S32x1x128_2_1_0_0_1_2_11128.siIdx (ix3 b 0 k) ⟨0, by decide⟩)).toInt.toNat 127 = a.val
    rw [hs, h, ha]
    omega
  · show gather_S32x128x128_S32x1x1_S32x1x128_2_1_0_0_1_2_11128.start (ix3 b 0 k) idx 2 + gather_S32x128x128_S32x1x1_S32x1x128_2_1_0_0_1_2_11128.batchCoord (ix3 b 0 k) 2 + gather_S32x128x128_S32x1x1_S32x1x128_2_1_0_0_1_2_11128.offCoord (ix3 b 0 k) 2 = k.val
    rw [GatherDims.batchCoord_eq_zero _ _ _ (by decide)]
    show 0 + 0 + k.val = k.val
    omega

theorem gather_nbhd {α : Type} (x : S32x128x32x3.Idx → α) (idx : IVec S32x128x1 32) (b : Fin 32) (g : Fin 128) (r : Fin 32) (k : Fin 3) (a : Fin 128) (h : idx (ix3 b g 0) = BitVec.ofNat 32 a.val) :
    Host.gather gather_S32x128x32x3_S32x128x1_S32x128x32x3_23_1_0_0_1_2_11323 x idx (ix4 b g r k) = x (ix4 b a r k) := by
  have hs : gather_S32x128x32x3_S32x128x1_S32x128x32x3_23_1_0_0_1_2_11323.siIdx (ix4 b g r k) ⟨0, by decide⟩ = ix3 b g 0 := by
    funext c
    fin_cases c <;> rfl
  have ha : (BitVec.ofNat 32 a.val).toInt.toNat = a.val := by
    rw [toInt_ofNat (by omega)]
    exact Int.toNat_natCast _
  unfold Host.gather
  refine congrArg x (funext fun c => Fin.ext ?_)
  fin_cases c
  · show gather_S32x128x32x3_S32x128x1_S32x128x32x3_23_1_0_0_1_2_11323.start (ix4 b g r k) idx 0 + gather_S32x128x32x3_S32x128x1_S32x128x32x3_23_1_0_0_1_2_11323.batchCoord (ix4 b g r k) 0 + gather_S32x128x32x3_S32x128x1_S32x128x32x3_23_1_0_0_1_2_11323.offCoord (ix4 b g r k) 0 = b.val
    rw [GatherDims.start_batching _ _ _ _ (by decide), GatherDims.offCoord_eq_zero _ _ _ (by decide), Nat.zero_add, Nat.add_zero]
    rfl
  · show gather_S32x128x32x3_S32x128x1_S32x128x32x3_23_1_0_0_1_2_11323.start (ix4 b g r k) idx 1 + gather_S32x128x32x3_S32x128x1_S32x128x32x3_23_1_0_0_1_2_11323.batchCoord (ix4 b g r k) 1 + gather_S32x128x32x3_S32x128x1_S32x128x32x3_23_1_0_0_1_2_11323.offCoord (ix4 b g r k) 1 = a.val
    rw [GatherDims.batchCoord_eq_zero _ _ _ (by decide), GatherDims.offCoord_eq_zero _ _ _ (by decide), Nat.add_zero]
    show min (idx (gather_S32x128x32x3_S32x128x1_S32x128x32x3_23_1_0_0_1_2_11323.siIdx (ix4 b g r k) ⟨0, by decide⟩)).toInt.toNat 127 = a.val
    rw [hs, h, ha]
    omega
  · show gather_S32x128x32x3_S32x128x1_S32x128x32x3_23_1_0_0_1_2_11323.start (ix4 b g r k) idx 2 + gather_S32x128x32x3_S32x128x1_S32x128x32x3_23_1_0_0_1_2_11323.batchCoord (ix4 b g r k) 2 + gather_S32x128x32x3_S32x128x1_S32x128x32x3_23_1_0_0_1_2_11323.offCoord (ix4 b g r k) 2 = r.val
    rw [GatherDims.batchCoord_eq_zero _ _ _ (by decide)]
    show 0 + 0 + r.val = r.val
    omega
  · show gather_S32x128x32x3_S32x128x1_S32x128x32x3_23_1_0_0_1_2_11323.start (ix4 b g r k) idx 3 + gather_S32x128x32x3_S32x128x1_S32x128x32x3_23_1_0_0_1_2_11323.batchCoord (ix4 b g r k) 3 + gather_S32x128x32x3_S32x128x1_S32x128x32x3_23_1_0_0_1_2_11323.offCoord (ix4 b g r k) 3 = k.val
    rw [GatherDims.batchCoord_eq_zero _ _ _ (by decide)]
    show 0 + 0 + k.val = k.val
    omega

theorem gather_ctr {α : Type} (x : S32x128x3.Idx → α) (idx : IVec S32x128x1 32) (b : Fin 32) (g : Fin 128) (k : Fin 3) (a : Fin 128) (h : idx (ix3 b g 0) = BitVec.ofNat 32 a.val) :
    Host.gather gather_S32x128x3_S32x128x1_S32x128x3_2_1_0_0_1_2_113 x idx (ix3 b g k) = x (ix3 b a k) := by
  have hs : gather_S32x128x3_S32x128x1_S32x128x3_2_1_0_0_1_2_113.siIdx (ix3 b g k) ⟨0, by decide⟩ = ix3 b g 0 := by
    funext c
    fin_cases c <;> rfl
  have ha : (BitVec.ofNat 32 a.val).toInt.toNat = a.val := by
    rw [toInt_ofNat (by omega)]
    exact Int.toNat_natCast _
  unfold Host.gather
  refine congrArg x (funext fun c => Fin.ext ?_)
  fin_cases c
  · show gather_S32x128x3_S32x128x1_S32x128x3_2_1_0_0_1_2_113.start (ix3 b g k) idx 0 + gather_S32x128x3_S32x128x1_S32x128x3_2_1_0_0_1_2_113.batchCoord (ix3 b g k) 0 + gather_S32x128x3_S32x128x1_S32x128x3_2_1_0_0_1_2_113.offCoord (ix3 b g k) 0 = b.val
    rw [GatherDims.start_batching _ _ _ _ (by decide), GatherDims.offCoord_eq_zero _ _ _ (by decide), Nat.zero_add, Nat.add_zero]
    rfl
  · show gather_S32x128x3_S32x128x1_S32x128x3_2_1_0_0_1_2_113.start (ix3 b g k) idx 1 + gather_S32x128x3_S32x128x1_S32x128x3_2_1_0_0_1_2_113.batchCoord (ix3 b g k) 1 + gather_S32x128x3_S32x128x1_S32x128x3_2_1_0_0_1_2_113.offCoord (ix3 b g k) 1 = a.val
    rw [GatherDims.batchCoord_eq_zero _ _ _ (by decide), GatherDims.offCoord_eq_zero _ _ _ (by decide), Nat.add_zero]
    show min (idx (gather_S32x128x3_S32x128x1_S32x128x3_2_1_0_0_1_2_113.siIdx (ix3 b g k) ⟨0, by decide⟩)).toInt.toNat 127 = a.val
    rw [hs, h, ha]
    omega
  · show gather_S32x128x3_S32x128x1_S32x128x3_2_1_0_0_1_2_113.start (ix3 b g k) idx 2 + gather_S32x128x3_S32x128x1_S32x128x3_2_1_0_0_1_2_113.batchCoord (ix3 b g k) 2 + gather_S32x128x3_S32x128x1_S32x128x3_2_1_0_0_1_2_113.offCoord (ix3 b g k) 2 = k.val
    rw [GatherDims.batchCoord_eq_zero _ _ _ (by decide)]
    show 0 + 0 + k.val = k.val
    omega

end Cert.Ref
-- ==== Proof.RefVal.lean ====
/- The reference's stretches at coordinates, on the extended reals. -/
module

public import proofs.«01_k».proof.Proof.RefGather
public import proofs.«01_k».proof.Proof.Search
public import proofs.«01_k».proof.Proof.Spec
public import Idealize.ShloMosaic.Lib.Pointwise
public import Idealize.ShloMosaic.PureOps.Ideal.Laws

@[expose] public section

set_option maxRecDepth 16384

noncomputable section

namespace Cert.Ref

open Cert.ReferenceIdeal Cert.ReferenceIdeal.Gen Cert.Pick Cert.Spec
open Idealize.ShloMosaic Idealize.ShloMosaic.TcCoe Idealize.ShloMosaic.Tactic
open Idealize.SL.Sem

/-- The last sampled point, at a coordinate. -/
theorem pickedA_at (x : FVec Ideal S32x8192x3 .f32) (i : IVec S32 32) (b : Fin 32) (a : Fin 8192) (h : i (ix1 b) = BitVec.ofNat 32 a.val) (k : Fin 3) :
    pickedA (F := Ideal) x i (ix3 b 0 k) = x (ix3 b a k) := by
  unfold pickedA
  refine gather_picked x _ b k a ?_
  pointwise []
  exact h

/-- The distances to the sample. -/
theorem updA_at (x : FVec Ideal S32x8192x3 .f32) (i : IVec S32 32) (d : FVec Ideal S32x8192 .f32) (b : Fin 32) (a : Fin 8192) (h : i (ix1 b) = BitVec.ofNat 32 a.val) (n : Fin 8192) :
    updA (F := Ideal) x i d (ix2 b n) = min (d (ix2 b n)) (Cert.Spec.sq (fun k => x (ix3 b n k)) (fun k => x (ix3 b a k))) := by
  have e : updA (F := Ideal) x i d (ix2 b n) = min (d (ix2 b n)) (∑ k : Fin 3, (x (ix3 b n k) - pickedA (F := Ideal) x i (ix3 b 0 k)) * (x (ix3 b n k) - pickedA (F := Ideal) x i (ix3 b 0 k))) := by
    pointwise [updA, offsA]
  rw [e, Fin.sum_univ_three, pickedA_at x i b a h, pickedA_at x i b a h, pickedA_at x i b a h]
  rfl

/-- The sampled points. -/
theorem ctrR_at (x : FVec Ideal S32x8192x3 .f32) (l : IVec S128x32 32) (b : Fin 32) (g : Fin 128) (a : Fin 8192) (h : l (ix2 g b) = BitVec.ofNat 32 a.val) (k : Fin 3) :
    ctrR (F := Ideal) x l (ix3 b g k) = x (ix3 b a k) := by
  unfold ctrR
  refine gather_centre x _ b g k a ?_
  pointwise []
  exact h

/-- Their distances to the cloud. -/
theorem distR_at (c : FVec Ideal S32x128x3 .f32) (x : FVec Ideal S32x8192x3 .f32) (b : Fin 32) (g : Fin 128) (n : Fin 8192) :
    distR (F := Ideal) c x (ix3 b g n) = Cert.Spec.dist (fun k => c (ix3 b g k)) (fun k => x (ix3 b n k)) := by
  pointwise [distR]
  rfl

/-- Their distances to each other. -/
theorem distC_at (c : FVec Ideal S32x128x3 .f32) (b : Fin 32) (i j : Fin 128) :
    distC (F := Ideal) c (ix3 b i j) = Cert.Spec.dist (fun k => c (ix3 b i k)) (fun k => c (ix3 b j k)) := by
  pointwise [distC]
  rfl

/-- The neighbourhoods. -/
theorem relR_at (x : FVec Ideal S32x8192x3 .f32) (c : FVec Ideal S32x128x3 .f32) (i : IVec S32x128x32 32) (b : Fin 32) (g : Fin 128) (r : Fin 32) (k : Fin 3) (a : Fin 8192) (h : i (ix3 b g r) = BitVec.ofNat 32 a.val) :
    relR (F := Ideal) x c i (ix4 b g r k) = x (ix3 b a k) - c (ix3 b g k) := by
  pointwise [relR]
  rw [gather_near x _ b g r k a (by pointwise []; exact h)]

/-- The diagonal infinite. -/
theorem maskR_at (d : FVec Ideal S32x128x128 .f32) (b : Fin 32) (i j : Fin 128) :
    maskR (F := Ideal) d (ix3 b i j) = if i = j then ⊤ else d (ix3 b i j) := by
  pointwise [maskR, eyeR]
  have e : IntOp.addi (BitVec.ofNat 32 i.val) 0#32 = BitVec.ofNat 32 i.val := by simp [IntOp.addi]
  rw [e, select_index (by omega) (by omega), ofBits_inf]
  simp only [Fin.ext_iff]

/-- A list's row written. -/
theorem listA_at (l : IVec S128x32 32) (i : IVec S32 32) (n : ℕ) (hn : n < 128) (w : IVec S_ 32) (hw : w = fun _ => BitVec.ofNat 32 n) (g : Fin 128) (b : Fin 32) :
    listA l i w (ix2 g b) = if g.val = n then i (ix1 b) else l (ix2 g b) := by
  subst hw
  have h0 : Host.clampedStart S128x32 S1x32 (updateFits_S128x32_S1x32).1 (fun k => (((![fun _ => BitVec.ofNat 32 n, constantI S_ 32 0#32] : Fin 2 → IVec S_ 32)) k (Shape.Idx.first h_S_)).toInt) 0 = n :=
    Host.clampedStart_of_le _ _ _ _ (toInt_ofNat (by omega)) (by show n + 1 ≤ 128; omega)
  have h1 : Host.clampedStart S128x32 S1x32 (updateFits_S128x32_S1x32).1 (fun k => (((![fun _ => BitVec.ofNat 32 n, constantI S_ 32 0#32] : Fin 2 → IVec S_ 32)) k (Shape.Idx.first h_S_)).toInt) 1 = 0 :=
    Host.clampedStart_of_le _ _ _ _ rfl (by show 0 + 32 ≤ 32; omega)
  unfold listA
  pointwise []
  by_cases h : g.val = n
  · rw [if_pos h, dif_pos ⟨⟨by rw [h0]; omega, by rw [h0]; omega⟩, by rw [h1]; omega⟩]
    refine congrArg (fun z => i (ix1 z)) (Fin.ext ?_)
    show b.val - _ = b.val
    rw [h1]
    rfl
  · rw [if_neg h, dif_neg]
    rintro ⟨⟨u, v⟩, _⟩
    rw [h0] at u v
    omega

/-- The walk's list, a row written. -/
theorem listB_at (l : IVec S127x32 32) (i : IVec S32 32) (n : ℕ) (hn : n < 127) (w : IVec S_ 32) (hw : w = fun _ => BitVec.ofNat 32 n) (g : Fin 127) (b : Fin 32) :
    listB l i w (ix2 g b) = if g.val = n then i (ix1 b) else l (ix2 g b) := by
  subst hw
  have h0 : Host.clampedStart S127x32 S1x32 (updateFits_S127x32_S1x32).1 (fun k => (((![fun _ => BitVec.ofNat 32 n, constantI S_ 32 0#32] : Fin 2 → IVec S_ 32)) k (Shape.Idx.first h_S_)).toInt) 0 = n :=
    Host.clampedStart_of_le _ _ _ _ (toInt_ofNat (by omega)) (by show n + 1 ≤ 127; omega)
  have h1 : Host.clampedStart S127x32 S1x32 (updateFits_S127x32_S1x32).1 (fun k => (((![fun _ => BitVec.ofNat 32 n, constantI S_ 32 0#32] : Fin 2 → IVec S_ 32)) k (Shape.Idx.first h_S_)).toInt) 1 = 0 :=
    Host.clampedStart_of_le _ _ _ _ rfl (by show 0 + 32 ≤ 32; omega)
  unfold listB
  pointwise []
  by_cases h : g.val = n
  · rw [if_pos h, dif_pos ⟨⟨by rw [h0]; omega, by rw [h0]; omega⟩, by rw [h1]; omega⟩]
    refine congrArg (fun z => i (ix1 z)) (Fin.ext ?_)
    show b.val - _ = b.val
    rw [h1]
    rfl
  · rw [if_neg h, dif_neg]
    rintro ⟨⟨u, v⟩, _⟩
    rw [h0] at u v
    omega

/-- The walk's row of distances. -/
theorem rowB_at (d : FVec Ideal S32x128x128 .f32) (v : IVec S32x128 1) (i : IVec S32 32) (b : Fin 32) (a : Fin 128) (h : i (ix1 b) = BitVec.ofNat 32 a.val) (j : Fin 128) :
    rowB (F := Ideal) d v i (ix2 b j) = if v (ix2 b j) = 1#1 then ⊤ else d (ix3 b a j) := by
  pointwise [rowB]
  rw [gather_row d _ b j a (by pointwise []; exact h), select_eq, ofBits_inf]

/-- The visited points. -/
theorem visB_at (v : IVec S32x128 1) (i : IVec S32 32) (b : Fin 32) (a : Fin 128) (h : i (ix1 b) = BitVec.ofNat 32 a.val) (j : Fin 128) :
    visB v i (ix2 b j) = 1#1 ↔ v (ix2 b j) = 1#1 ∨ j = a := by
  pointwise [visB]
  rw [h]
  have e : IntOp.cmpi .eq (BitVec.ofNat 32 j.val) (BitVec.ofNat 32 a.val) = 1#1 ↔ j = a := by
    rw [cmpi_eq_one, ofNat_inj (by omega) (by omega), Fin.ext_iff]
  rw [← e]
  generalize IntOp.cmpi .eq (BitVec.ofNat 32 j.val) (BitVec.ofNat 32 a.val) = q
  generalize v (ix2 b j) = p
  revert p q
  decide

/-- The first visited point. -/
theorem vis0_at (b : Fin 32) (j : Fin 128) : vis0 (ix2 b j) = 1#1 ↔ j = 0 := by
  pointwise [vis0]
  rw [cmpi_eq_one, ofNat_inj (a := j.val) (b := 0) (by omega) (by omega), Fin.ext_iff]
  rfl

/-- The walk, point 0 first. -/
theorem orderR_at (l : IVec S127x32 32) (b : Fin 32) (g : Fin 128) :
    orderR l (ix3 b g 0) = if h : g.val = 0 then 0#32 else l (ix2 ⟨g.val - 1, by omega⟩ b) := by
  pointwise [orderR]
  by_cases h : g.val = 0
  · rw [dif_pos h, dif_pos (by omega)]
  · rw [dif_neg h, dif_neg (by omega)]

/-- A step that keeps the better of two values with their indices, the smaller index among equals. -/
theorem keep_step (κ : EReal → EReal) (p q : EReal × BitVec 32) (v2 v3 v5 v6 : BitVec 1) (h2 : v2 = 1#1 ↔ κ p.1 < κ q.1) (h3 : v3 = 0#1)
    (h5 : v5 = 1#1 ↔ p.1 = q.1) (hκ : κ p.1 = κ q.1 ↔ p.1 = q.1) (h6 : v6 = 1#1 ↔ p.2.toInt < q.2.toInt) :
    let v4 := IntOp.ori v2 v3
    let r : EReal × BitVec 32 := (Scalar.select v4 p.1 q.1, Scalar.select (IntOp.ori v4 (IntOp.andi v5 v6)) p.2 q.2)
    r = p ∧ (κ p.1 < κ q.1 ∨ (κ p.1 = κ q.1 ∧ p.2.toInt ≤ q.2.toInt)) ∨ r = q ∧ (κ q.1 < κ p.1 ∨ (κ q.1 = κ p.1 ∧ q.2.toInt ≤ p.2.toInt)) := by
  intro v4 r
  subst h3
  have e4 : v4 = v2 := (by decide : ∀ v : BitVec 1, IntOp.ori v 0#1 = v) v2
  have e8 : IntOp.ori v2 (IntOp.andi v5 v6) = 1#1 ↔ v2 = 1#1 ∨ (v5 = 1#1 ∧ v6 = 1#1) := by
    exact (by decide : ∀ a b c : BitVec 1, IntOp.ori a (IntOp.andi b c) = 1#1 ↔ a = 1#1 ∨ (b = 1#1 ∧ c = 1#1)) v2 v5 v6
  have hr : r = (if κ p.1 < κ q.1 then p.1 else q.1, if κ p.1 < κ q.1 ∨ (p.1 = q.1 ∧ p.2.toInt < q.2.toInt) then p.2 else q.2) := by
    show (Scalar.select v4 p.1 q.1, Scalar.select (IntOp.ori v4 (IntOp.andi v5 v6)) p.2 q.2) = _
    rw [select_eq, select_eq]
    simp only [e4, e8]
    simp only [h2, h5, h6]
  rw [hr]
  rcases lt_trichotomy (κ p.1) (κ q.1) with h | h | h
  · left
    exact ⟨by rw [if_pos h, if_pos (Or.inl h)], Or.inl h⟩
  · have e := hκ.1 h
    by_cases hi : p.2.toInt < q.2.toInt
    · left
      refine ⟨?_, Or.inr ⟨h, hi.le⟩⟩
      rw [if_neg (by rw [h]; exact lt_irrefl _), if_pos (Or.inr ⟨e, hi⟩), ← e]
    · right
      refine ⟨?_, Or.inr ⟨h.symm, not_lt.1 hi⟩⟩
      rw [if_neg (by rw [h]; exact lt_irrefl _), if_neg]
      rintro (hh | ⟨_, hh⟩)
      · exact absurd hh (by rw [h]; exact lt_irrefl _)
      · exact hi hh
  · right
    refine ⟨?_, Or.inl h⟩
    rw [if_neg h.le.not_gt, if_neg]
    rintro (hh | ⟨hh, _⟩)
    · exact absurd hh h.le.not_gt
    · exact absurd (hκ.2 hh) h.ne'

theorem cmp_olt (a b : EReal) : FloatOps.cmpf (F := Ideal) (φ := FTy.f32) CmpFPredicate.olt a b = 1#1 ↔ a < b := by
  show Ideal.cmp .olt a b = 1#1 ↔ _
  unfold Ideal.cmp
  by_cases h : a < b <;> simp [h]

theorem cmp_oeq (a b : EReal) : FloatOps.cmpf (F := Ideal) (φ := FTy.f32) CmpFPredicate.oeq a b = 1#1 ↔ a = b := by
  show Ideal.cmp .oeq a b = 1#1 ↔ _
  unfold Ideal.cmp
  by_cases h : a = b <;> simp [h]

theorem cmp_une (a : EReal) : FloatOps.cmpf (F := Ideal) (φ := FTy.f32) CmpFPredicate.une a a = 0#1 := by
  show Ideal.cmp .une a a = 0#1
  simp [Ideal.cmp]

theorem cmp_slt (a b : BitVec 32) : IntOp.cmpi .slt a b = 1#1 ↔ a.toInt < b.toInt := by
  by_cases h : a.toInt < b.toInt <;> simp [IntOp.cmpi, BitVec.slt, h]

/-- The farthest point. -/
theorem farA_at (d : FVec Ideal S32x8192 .f32) (b : Fin 32) : farA (F := Ideal) d (ix1 b) = BitVec.ofNat 32 (firstMax fun n => d (ix2 b n)).val := by
  unfold farA
  rw [Ideal.argReduce_eq_reduce2, Host.reduce2_eq_foldl_fiber]
  refine foldl_pairs (n := 8192) (by norm_num) (fun x => -x) (fun n => d (ix2 b n)) _ ?_ _ ?_ ?_ _ ?_ ?_ _ (firstMin_isFirst _)
  · intro p q
    refine keep_step (fun x => -x) p q _ _ _ _ ((cmp_ogt _ _).trans EReal.neg_lt_neg_iff.symm) (cmp_une _) (cmp_oeq _ _) neg_inj (cmp_slt _ _)
  · intro p hp
    simp only [Host.argReduceFiber, List.mem_map, List.mem_filter, decide_eq_true_eq] at hp
    obtain ⟨n, ⟨_, hn⟩, rfl⟩ := hp
    obtain ⟨k, hk⟩ := (Shape.ReducesTo.fiber_r2_a1 _ _ _).1 hn
    refine ⟨k, ?_⟩
    rw [← hk]
    rfl
  · intro k
    simp only [Host.argReduceFiber, List.mem_map, List.mem_filter, decide_eq_true_eq]
    refine ⟨S32x8192.rowMajor (ix2 b k), ⟨List.mem_finRange _, ?_⟩, ?_⟩
    · rw [Equiv.symm_apply_apply]
      exact (Shape.ReducesTo.fiber_r2_a1 _ _ _).2 ⟨k, rfl⟩
    · rw [Equiv.symm_apply_apply]
      rfl
  · show -(Ideal.ofBits .f32 4286578688#32 : EReal) = ⊤
    rw [ofBits_ninf]
    rfl
  · rfl

/-- The nearest one. -/
theorem nearB_at (d : FVec Ideal S32x128 .f32) (b : Fin 32) : nearB (F := Ideal) d (ix1 b) = BitVec.ofNat 32 (firstMin fun n => d (ix2 b n)).val := by
  unfold nearB
  rw [Ideal.argReduce_eq_reduce2, Host.reduce2_eq_foldl_fiber]
  refine foldl_pairs (n := 128) (by norm_num) (fun x => x) (fun n => d (ix2 b n)) _ ?_ _ ?_ ?_ _ ?_ ?_ _ (firstMin_isFirst _)
  · intro p q
    refine keep_step (fun x => x) p q _ _ _ _ (cmp_olt _ _) (cmp_une _) (cmp_oeq _ _) Iff.rfl (cmp_slt _ _)
  · intro p hp
    simp only [Host.argReduceFiber, List.mem_map, List.mem_filter, decide_eq_true_eq] at hp
    obtain ⟨n, ⟨_, hn⟩, rfl⟩ := hp
    obtain ⟨k, hk⟩ := (Shape.ReducesTo.fiber_r2_a1 _ _ _).1 hn
    refine ⟨k, ?_⟩
    rw [← hk]
    rfl
  · intro k
    simp only [Host.argReduceFiber, List.mem_map, List.mem_filter, decide_eq_true_eq]
    refine ⟨S32x128.rowMajor (ix2 b k), ⟨List.mem_finRange _, ?_⟩, ?_⟩
    · rw [Equiv.symm_apply_apply]
      exact (Shape.ReducesTo.fiber_r2_a1 _ _ _).2 ⟨k, rfl⟩
    · rw [Equiv.symm_apply_apply]
      rfl
  · exact ofBits_inf
  · rfl

end Cert.Ref
-- ==== Proof.TopK.lean ====
/-
  The first positions of a stable sort by distance are the rounds of taking the nearest point, one after the other, each
  taken point set to a value above every distance.
-/
module

public import proofs.«01_k».proof.Proof.RefVal
public import Idealize.ShloMosaic.Lib.SortPrefix
public import Idealize.ShloMosaic.Lib.Pointwise
public import Idealize.ShloMosaic.PureOps.Ideal.Laws

@[expose] public section

set_option maxRecDepth 16384

noncomputable section

namespace Cert.Pick

open Idealize.ShloMosaic Cert.Spec

/-- A stable sort asks its comparator only for a later position against an earlier one. -/
theorem stableSort_later {n : ℕ} (R B : Fin n → Fin n → Bool) (h : ∀ a b, a < b → R b a = B b a) :
    ∀ l : List (Fin n), l.Pairwise (· < ·) → stableSort R l = stableSort B l
  | [], _ => rfl
  | a :: l, hl => by
    rw [List.pairwise_cons] at hl
    unfold stableSort
    rw [stableSort_later R B h l hl.2]
    exact insertBefore_congr R B a _ fun b hb => h a b (hl.1 b ((perm_stableSort B l).mem_iff.1 hb))

/-- So ties may be broken by position. -/
theorem sortedFrom_later {n : ℕ} (R B : Fin n → Fin n → Bool) (h : ∀ a b, a < b → R b a = B b a) : sortedFrom R = sortedFrom B := by
  have e : sortPositions n R = sortPositions n B := stableSort_later R B h _ (List.pairwise_lt_finRange n)
  funext k
  unfold sortedFrom
  rw [List.get_of_eq e]
  rfl

section
variable {n : ℕ} [NeZero n] (D : Fin n → EReal)

/-- Before round `r` the points taken read the stand-in value, the others their distance. -/
theorem near_taken : ∀ (r : ℕ) (i : Fin n), (∃ q < r, firstMin (near D q) = i) → near D r i = big
  | 0, _, ⟨_, hq, _⟩ => absurd hq (Nat.not_lt_zero _)
  | r + 1, i, ⟨q, hq, he⟩ => by
    show (if i = firstMin (near D r) then big else near D r i) = big
    by_cases h : i = firstMin (near D r)
    · rw [if_pos h]
    · rw [if_neg h]
      refine near_taken r i ⟨q, ?_, he⟩
      refine lt_of_le_of_ne (Nat.le_of_lt_succ hq) fun e => h ?_
      rw [← he, e]

theorem near_left : ∀ (r : ℕ) (i : Fin n), (∀ q < r, firstMin (near D q) ≠ i) → near D r i = D i
  | 0, _, _ => rfl
  | r + 1, i, h => by
    show (if i = firstMin (near D r) then big else near D r i) = D i
    rw [if_neg fun e => h r (Nat.lt_succ_self r) e.symm]
    exact near_left r i fun q hq => h q (hq.trans (Nat.lt_succ_self r))

variable (hD : ∀ i, D i < big)
include hD

/-- No point is taken twice. -/
theorem near_fresh (r : ℕ) (hr : r < n) (q : ℕ) (hq : q < r) : firstMin (near D q) ≠ firstMin (near D r) := by
  classical
  intro he
  have hbig : near D r (firstMin (near D r)) = big := near_taken D r _ ⟨q, hq, he⟩
  obtain ⟨i, _, hi⟩ := Finset.exists_mem_notMem_of_card_lt_card (s := (Finset.range r).image fun q => firstMin (near D q)) (t := (Finset.univ : Finset (Fin n)))
    (lt_of_le_of_lt Finset.card_image_le (by rw [Finset.card_range, Finset.card_univ, Fintype.card_fin]; exact hr))
  have hi' : near D r i = D i := near_left D r i fun q hq e => hi (Finset.mem_image.2 ⟨q, Finset.mem_range.2 hq, e⟩)
  have := (firstMin_isFirst (near D r)).1 i
  rw [hbig, hi'] at this
  exact absurd (hD i) (not_lt.2 this)

/-- A point not taken before round `r` does not come before the one taken then. -/
theorem near_order (r : ℕ) (hr : r < n) (p : Fin n) (hp : ∀ q < r, firstMin (near D q) ≠ p) :
    ¬ (D p < D (firstMin (near D r)) ∨ (D p = D (firstMin (near D r)) ∧ p < firstMin (near D r))) := by
  have hf := firstMin_isFirst (near D r)
  have e1 := near_left D r p hp
  have e2 := near_left D r (firstMin (near D r)) fun q hq => near_fresh D hD r hr q hq
  rintro (h | ⟨h, hlt⟩)
  · have := hf.1 p
    rw [e1, e2] at this
    exact absurd h (not_lt.2 this)
  · have := hf.2 p hlt
    rw [e1, e2, h] at this
    exact lt_irrefl _ this

/-- The sort's first positions. -/
theorem sortedFrom_near (R : Fin n → Fin n → Bool) (hR : ∀ a b, R a b = true ↔ D a < D b) (K : ℕ) (hK : K ≤ n) (r : Fin K) :
    sortedFrom R (r.castLE hK) = firstMin (near D r.val) := by
  classical
  have hB := StrictTotalBefore.of_key_then_position (n := n) (fun a b : EReal => decide (a < b)) D (fun a => by simp)
    (fun a b c h1 h2 => by simp only [decide_eq_true_eq] at *; exact h1.trans h2)
    (fun a b => by simp only [decide_eq_true_eq]; exact lt_trichotomy a b)
  rw [sortedFrom_later R _ fun a b hab => ?_, hB.sortedFrom_eq_of_prefix hK (fun i => firstMin (near D i.val)) ?_ ?_ ?_ r]
  · intro i j hij
    by_contra hne
    rcases lt_or_gt_of_ne (fun e => hne (Fin.ext e) : i.val ≠ j.val) with h | h
    · exact near_fresh D hD j.val (by omega) i.val h hij
    · exact near_fresh D hD i.val (by omega) j.val h hij.symm
  · intro i j hij
    have := near_order D hD i.val (by omega) (firstMin (near D j.val)) fun q hq => near_fresh D hD j.val (by omega) q (hq.trans hij)
    simpa using this
  · intro i p hp
    have := near_order D hD i.val (by omega) p fun q hq => hp ⟨q, by omega⟩
    simpa using this
  · have : ¬ b < a := not_lt.2 hab.le
    by_cases h : D b < D a
    · simp [h, (hR b a).2 h]
    · have : R b a = false := by
        cases hh : R b a
        · rfl
        · exact absurd ((hR b a).1 hh) h
      simp [h, this, not_lt.2 hab.le]
end

end Cert.Pick

namespace Cert.Ref

open Cert.ReferenceIdeal Cert.ReferenceIdeal.Gen Cert.Pick Cert.Spec
open Idealize.ShloMosaic Idealize.ShloMosaic.TcCoe Idealize.ShloMosaic.Tactic
open Idealize.SL.Sem

/-- The nearest points' indices are the rounds of taking the nearest. -/
theorem nearR_at (d : FVec Ideal S32x128x8192 .f32) (b : Fin 32) (g : Fin 128) (hd : ∀ n : Fin 8192, d (ix3 b g n) < big) (r : Fin 32) :
    nearR (F := Ideal) d (ix3 b g r) = BitVec.ofNat 32 (firstMin (near (fun n : Fin 8192 => d (ix3 b g n)) r.val)).val := by
  rw [← sortedFrom_near (fun n : Fin 8192 => d (ix3 b g n)) hd
    (fun k k' => FloatOps.cmpfTotal (F := Ideal) (φ := .f32) .gt (-(d (ix3 b g k))) (-(d (ix3 b g k'))) == 1#1) ?_ 32 (by norm_num) r]
  · unfold nearR Host.topK
    pointwise [Host.sort2]
    have e : ∀ k : Fin 8192, (ix3 b g (⟨r.val, by omega⟩ : Fin 8192)).along 2 k = ix3 b g k := by
      intro k
      funext a
      fin_cases a <;> rfl
    simp only [e]
    rfl
  · intro p q
    rw [beq_iff_eq]
    exact (cmp_ogt _ _).trans EReal.neg_lt_neg_iff

end Cert.Ref
-- ==== Proof.RefLoops.lean ====
/-
  The reference's two loops, round by round: the sampling and the walk; and its two results.
-/
module

public import proofs.«01_k».proof.Proof.TopK
public import Idealize.ShloMosaic.Lib.Pointwise
public import Idealize.ShloMosaic.PureOps.Ideal.Laws

@[expose] public section

set_option maxRecDepth 16384

noncomputable section

namespace Cert.Ref

open Cert.ReferenceIdeal Cert.ReferenceIdeal.Gen Cert.Pick Cert.Spec
open Idealize.ShloMosaic Idealize.ShloMosaic.TcCoe Idealize.ShloMosaic.Tactic
open Idealize.SL.Sem
open Idealize.ShloMosaic.StableHlo

/-- The clouds of an array. -/
def clouds (x : FVec Ideal S32x8192x3 .f32) (b : Fin 32) : Cloud := fun n k => x (ix3 b n k)

/-! ## The sampling -/

/-- What the sampling's buffers hold before round `k`. -/
structure SampleAt (x : FVec Ideal S32x8192x3 .f32) (k : ℕ) (V : Valuation τ sig (Elt Ideal)) : Prop where
  arg : rd V main_v3_0 = x
  dst : ∀ b n, (rd V main_v3_2 : FVec Ideal S32x8192 .f32) (ix2 b n) = (sample (clouds x b) k).1 n
  last : ∀ b, (rd V main_v3_3 : IVec S32 32) (ix1 b) = BitVec.ofNat 32 (sample (clouds x b) k).2.val
  list : ∀ (g : Fin 128) b, g.val < k → (rd V main_v3_4 : IVec S128x32 32) (ix2 g b) = BitVec.ofNat 32 (sample (clouds x b) g.val).2.val

theorem sample_step (x : FVec Ideal S32x8192x3 .f32) (k : ℕ) (hk : k < 128) (V : Valuation τ sig (Elt Ideal)) (hr : rd V main_v3_1 = fun _ => Scf.iv 0#32 1#32 k)
    (h : SampleAt x k V) : SampleAt x (k + 1) (afterL bodyA (after condA V)) := by
  have hd : ∀ b n, updA (F := Ideal) (rd V main_v3_0) (rd V main_v3_3) (rd V main_v3_2) (ix2 b n) = (sample (clouds x b) (k + 1)).1 n := by
    intro b n
    rw [updA_at _ _ _ b _ (h.last b) n, h.arg, h.dst b n]
    rfl
  refine ⟨?_, ?_, ?_, ?_⟩
  · rw [stepA_0, h.arg]
  · intro b n
    rw [stepA_2]
    exact hd b n
  · intro b
    rw [stepA_3, farA_at]
    simp only [hd b]
    rfl
  · intro g b hg
    rw [stepA_4, listA_at _ _ k hk _ (by rw [hr]; exact funext fun _ => iv_zero k)]
    by_cases e : g.val = k
    · rw [if_pos e, h.last b, e]
    · rw [if_neg e]
      exact h.list g b (by omega)

theorem sample_trip (x : FVec Ideal S32x8192x3 .f32) (W : Dev nD → Valuation τ sig (Elt Ideal)) (c : Dev nD) (hr : rd (W c) main_v3_1 = fun _ => (0#32 : BitVec 32))
    (h : SampleAt x 0 (W c)) : ∀ k, k ≤ 128 → SampleAt x k (atTrip condA bodyA W k c)
  | 0, _ => h
  | k + 1, hk => sample_step x k (by omega) _ (atA_round W c hr k) (sample_trip x W c hr h k (by omega))

theorem sample_start (V : Valuation τ sig (Elt Ideal)) : SampleAt (rd V main_arg0) 0 (after hostOps0 V) := by
  refine ⟨startA_0 V, ?_, ?_, fun _ _ h => absurd h (Nat.not_lt_zero _)⟩
  · intro b n
    rw [startA_2]
    rfl
  · intro b
    rw [startA_3]
    rfl

/-! ## The walk -/

/-- What the walk's buffers hold before round `k`. -/
structure WalkAt (D : Fin 32 → Fin 128 → Fin 128 → EReal) (k : ℕ) (V : Valuation τ sig (Elt Ideal)) : Prop where
  dst : ∀ b i j, (rd V main_v57_0 : FVec Ideal S32x128x128 .f32) (ix3 b i j) = D b i j
  vis : ∀ b j, (rd V main_v57_2 : IVec S32x128 1) (ix2 b j) = 1#1 ↔ (path ⊤ (D b) k).1 j
  last : ∀ b, (rd V main_v57_3 : IVec S32 32) (ix1 b) = BitVec.ofNat 32 (path ⊤ (D b) k).2.val
  list : ∀ (g : Fin 127) b, g.val < k → (rd V main_v57_4 : IVec S127x32 32) (ix2 g b) = BitVec.ofNat 32 (path ⊤ (D b) (g.val + 1)).2.val

theorem walk_step (D : Fin 32 → Fin 128 → Fin 128 → EReal) (k : ℕ) (hk : k < 127) (V : Valuation τ sig (Elt Ideal)) (hr : rd V main_v57_1 = fun _ => Scf.iv 0#32 1#32 k)
    (h : WalkAt D k V) : WalkAt D (k + 1) (afterL bodyB (after condB V)) := by
  classical
  have hn : ∀ b, nearB (F := Ideal) (rowB (rd V main_v57_0) (rd V main_v57_2) (rd V main_v57_3)) (ix1 b) = BitVec.ofNat 32 (path ⊤ (D b) (k + 1)).2.val := by
    intro b
    rw [nearB_at]
    simp only [rowB_at _ _ _ b _ (h.last b), h.dst, h.vis]
    refine congrArg (fun z : Fin 128 => BitVec.ofNat 32 z.val) ?_
    show firstMin _ = firstMin _
    refine congrArg firstMin (funext fun j => ?_)
    by_cases hj : (path ⊤ (D b) k).1 j
    · simp only [if_pos hj]
    · simp only [if_neg hj]
  refine ⟨?_, ?_, ?_, ?_⟩
  · intro b i j
    rw [stepB_0]
    exact h.dst b i j
  · intro b j
    rw [stepB_2, visB_at _ _ b _ (hn b) j, h.vis b j]
    rfl
  · intro b
    rw [stepB_3]
    exact hn b
  · intro g b hg
    rw [stepB_4, listB_at _ _ k hk _ (by rw [hr]; exact funext fun _ => iv_zero k)]
    by_cases e : g.val = k
    · rw [if_pos e, hn b, e]
    · rw [if_neg e]
      exact h.list g b (by omega)

theorem walk_trip (D : Fin 32 → Fin 128 → Fin 128 → EReal) (W : Dev nD → Valuation τ sig (Elt Ideal)) (c : Dev nD) (hr : rd (W c) main_v57_1 = fun _ => (0#32 : BitVec 32))
    (h : WalkAt D 0 (W c)) : ∀ k, k ≤ 127 → WalkAt D k (atTrip condB bodyB W k c)
  | 0, _ => h
  | k + 1, hk => walk_step D k (by omega) _ (atB_round W c hr k) (walk_trip D W c hr h k (by omega))

end Cert.Ref
-- ==== Proof.RefEnd.lean ====
/-
  The reference's two results: the neighbourhoods of the sampled points and the points, in walking order.
-/
module

public import proofs.«01_k».proof.Proof.RefLoops
public import Idealize.ShloMosaic.Lib.Pointwise
public import Idealize.ShloMosaic.PureOps.Ideal.Laws

@[expose] public section

set_option maxRecDepth 16384

noncomputable section

namespace Cert.Ref

open Cert.ReferenceIdeal Cert.ReferenceIdeal.Gen Cert.Pick Cert.Spec
open Idealize.ShloMosaic Idealize.ShloMosaic.TcCoe Idealize.ShloMosaic.Tactic
open Idealize.SL.Sem
open Idealize.ShloMosaic.StableHlo

/-- Every point's distance to every sampled point is below the kernel's mask. -/
def Below (p : Cloud) : Prop := ∀ (g : Fin 128) (n : Fin 8192), Cert.Spec.dist (centre p g.val) (p n) < big

variable (x : FVec Ideal S32x8192x3 .f32)

section
variable (X : Valuation τ sig (Elt Ideal)) (hx : rd X main_arg0 = x)
  (hl : ∀ (g : Fin 128) (b : Fin 32), (rd X main_v3_4 : IVec S128x32 32) (ix2 g b) = BitVec.ofNat 32 (sample (clouds x b) g.val).2.val)
include hl

theorem ctr_at (b : Fin 32) (g : Fin 128) : (fun k => ctrR (F := Ideal) x (rd X main_v3_4) (ix3 b g k)) = centre (clouds x b) g.val := by
  funext k
  exact ctrR_at x _ b g _ (hl g b) k

include hx

/-- The walk starts from the distances among the sampled points. -/
theorem walk_start : WalkAt (fun b => among ⊤ (clouds x b)) 0 (after hostOps0_3 (after hostOps0_2 (after hostOps0_1 X))) := by
  refine ⟨?_, ?_, ?_, fun _ _ h => absurd h (Nat.not_lt_zero _)⟩
  · intro b i j
    rw [mid3_0, mid_v50, maskR_at, distC_at, hx, ctr_at x X hl b i, ctr_at x X hl b j]
    rfl
  · intro b j
    rw [mid3_2, vis0_at]
    rfl
  · intro b
    rw [mid3_3]
    rfl

theorem mid_ctr (b : Fin 32) (g : Fin 128) (k : Fin 3) :
    (rd (after hostOps0_3 (after hostOps0_2 (after hostOps0_1 X))) main_v6 : FVec Ideal S32x128x3 .f32) (ix3 b g k) = centre (clouds x b) g.val k := by
  rw [rd_keep hostOps0_3 hostOps0_3_writes (by decide +kernel), rd_keep hostOps0_2 hostOps0_2_writes (by decide +kernel), mid_v6, hx]
  exact congrFun (ctr_at x X hl b g) k

theorem mid_rel (b : Fin 32) (hb : Below (clouds x b)) (g : Fin 128) (r : Fin 32) (k : Fin 3) :
    (rd (after hostOps0_3 (after hostOps0_2 (after hostOps0_1 X))) main_v28 : FVec Ideal S32x128x32x3 .f32) (ix4 b g r k) = rel (clouds x b) g.val r.val k := by
  have e : ∀ n : Fin 8192, distR (F := Ideal) (ctrR (F := Ideal) x (rd X main_v3_4)) x (ix3 b g n) = Cert.Spec.dist (centre (clouds x b) g.val) (clouds x b n) := by
    intro n
    rw [distR_at, ctr_at x X hl b g]
    rfl
  have hn := nearR_at (distR (F := Ideal) (ctrR (F := Ideal) x (rd X main_v3_4)) x) b g (fun n => by rw [e]; exact hb g n) r
  simp only [e] at hn
  rw [rd_keep hostOps0_3 hostOps0_3_writes (by decide +kernel), rd_keep hostOps0_2 hostOps0_2_writes (by decide +kernel), mid_v28, hx,
    relR_at x _ _ b g r k _ hn, show ctrR (F := Ideal) x (rd X main_v3_4) (ix3 b g k) = _ from congrFun (ctr_at x X hl b g) k]
  rfl
end

/-- The walk with the kernel's mask is the walk with an infinite one. -/
theorem order_eq (p : Cloud) (hp : Below p) (k : ℕ) (hk : k ≤ 127) : order p k = (path ⊤ (among ⊤ p) k).2 := by
  have hlt : ∀ i j : Fin 128, i ≠ j → Cert.Spec.dist (centre p i.val) (centre p j.val) < big := fun i j _ => hp i _
  unfold order
  rw [path_congr (M := big) (M' := ⊤) (d := among big p) (d' := among ⊤ p) ?_ ?_ ?_ k hk]
  · intro i j h
    show (if i = j then big else _) = (if i = j then ⊤ else _)
    rw [if_neg h, if_neg h]
  · intro i j h
    show (if i = j then big else _) < _
    rw [if_neg h]
    exact hlt i j h
  · intro i j h
    show (if i = j then big else _) < _
    rw [if_neg h]
    exact (hlt i j h).trans_le le_top

/-- The walk's list, point 0 first. -/
theorem order_at (l : IVec S127x32 32) (b : Fin 32) (p : Cloud) (hp : Below p)
    (h : ∀ g : Fin 127, l (ix2 g b) = BitVec.ofNat 32 (path ⊤ (among ⊤ p) (g.val + 1)).2.val) (g : Fin 128) :
    orderR l (ix3 b g 0) = BitVec.ofNat 32 (order p g.val).val := by
  rw [orderR_at, order_eq p hp g.val (by omega)]
  by_cases hg : g.val = 0
  · rw [dif_pos hg, hg]
    rfl
  · rw [dif_neg hg, h]
    refine congrArg (fun z => BitVec.ofNat 32 (path ⊤ (among ⊤ p) z).2.val) ?_
    show g.val - 1 + 1 = g.val
    omega

section
variable (m : (l : Loc nD τ sig) → Buf (Elt Ideal) l) (c : Dev nD)

/-- The argument's array. -/
def argR : FVec Ideal S32x8192x3 .f32 := m ((c.tc : Thread nD τ).loc main_arg0)

/-- The contents before the walk. -/
def beforeB (c : Dev nD) : Valuation τ sig (Elt Ideal) :=
  after hostOps0_3 (after hostOps0_2 (after hostOps0_1 (after condA (atTrip condA bodyA (fun c => after hostOps0 (launchContents m c)) 128 c))))

theorem sampled : SampleAt (argR m c) 128 (atTrip condA bodyA (fun c => after hostOps0 (launchContents m c)) 128 c) :=
  sample_trip (argR m c) (fun c => after hostOps0 (launchContents m c)) c (startA_round _)
    (show SampleAt (rd (launchContents m c) main_arg0) 0 (after hostOps0 (launchContents m c)) from sample_start _) 128 le_rfl

theorem sampled_list (g : Fin 128) (b : Fin 32) :
    (rd (after condA (atTrip condA bodyA (fun c => after hostOps0 (launchContents m c)) 128 c)) main_v3_4 : IVec S128x32 32) (ix2 g b)
      = BitVec.ofNat 32 (sample (clouds (argR m c) b) g.val).2.val := by
  rw [rd_keep condA condA_writes (by decide +kernel)]
  exact (sampled m c).list g b g.isLt

theorem sampled_arg : rd (after condA (atTrip condA bodyA (fun c => after hostOps0 (launchContents m c)) 128 c)) main_arg0 = argR m c := by
  rw [rd_keep condA condA_writes (by decide +kernel), atA_arg]
  exact rd_keep hostOps0 hostOps0_writes (by decide +kernel) _

theorem walked : WalkAt (fun b => among ⊤ (clouds (argR m c) b)) 127 (atTrip condB bodyB (beforeB m) 127 c) :=
  walk_trip _ (beforeB m) c (startB_round _) (walk_start _ _ (sampled_arg m c) (sampled_list m c)) 127 le_rfl

theorem endV_eq : endV m c = after hostOps0_4 (after condB (atTrip condB bodyB (beforeB m) 127 c)) := rfl

variable (hb : ∀ b, Below (clouds (argR m c) b))
include hb

theorem walked_order (b : Fin 32) (g : Fin 128) :
    orderR (rd (after condB (atTrip condB bodyB (beforeB m) 127 c)) main_v57_4) (ix3 b g 0) = BitVec.ofNat 32 (order (clouds (argR m c) b) g.val).val := by
  rw [rd_keep condB condB_writes (by decide +kernel)]
  exact order_at _ b _ (hb b) (fun g => (walked m c).list g b g.isLt) g

/-- The first result. -/
theorem end_v62 (b : Fin 32) (g : Fin 128) (r : Fin 32) (k : Fin 3) :
    (rd (endV m c) main_v62 : FVec Ideal S32x128x32x3 .f32) (ix4 b g r k) = rel (clouds (argR m c) b) (order (clouds (argR m c) b) g.val) r.val k := by
  rw [endV_eq, post_v62, gather_nbhd _ _ b g r k _ (walked_order m c hb b g), rd_keep condB condB_writes (by decide +kernel), atB_keep _ c main_v28 (by decide +kernel) 127]
  exact mid_rel _ _ (sampled_arg m c) (sampled_list m c) b (hb b) _ r k

/-- The second result. -/
theorem end_v64 (b : Fin 32) (g : Fin 128) (k : Fin 3) :
    (rd (endV m c) main_v64 : FVec Ideal S32x128x3 .f32) (ix3 b g k) = centre (clouds (argR m c) b) (order (clouds (argR m c) b) g.val) k := by
  rw [endV_eq, post_v64, gather_ctr _ _ b g k _ (walked_order m c hb b g), rd_keep condB condB_writes (by decide +kernel), atB_keep _ c main_v6 (by decide +kernel) 127]
  exact mid_ctr _ _ (sampled_arg m c) (sampled_list m c) b _ k
end

end Cert.Ref
-- ==== Proof.Bounded.lean ====
/-
  What the bound on the coordinates gives: every distance is below the value the kernel masks with.
-/
module

public import proofs.«01_k».proof.Pre_bounded
public import proofs.«01_k».proof.Proof.Spec
public import proofs.«01_k».proof.Proof.Search
public import Idealize.ShloMosaic.Lib.ReduceAll
public import Idealize.ShloMosaic.Lib.Pointwise
public import Idealize.ShloMosaic.PureOps.Ideal.Laws

@[expose] public section

set_option maxRecDepth 16384

noncomputable section

namespace Cert.Bounded

open Idealize.ShloMosaic Cert.Spec

theorem facts : Cert.Pre_bounded.Facts where
  bcast_S_S32x8192x3 := by decide
  reducesTo_S32x8192x3_S_d0_1_2 := by decide
  h_S_ := by decide

/-- The bound on the coordinates. -/
def bnd : ℝ := (2 ^ 23 + 0x167699) * 2 ^ 102
/-- The kernel's mask. -/
def bigR : ℝ := (2 ^ 23 + 0x61B1E6) * 2 ^ 104

theorem bnd_eq : Ideal.ofBits .f32 0x7E167699#32 = (bnd : EReal) := by
  unfold bnd
  simp [Ideal.ofBits, Ideal.ieee, -EReal.coe_mul]; norm_num

theorem big_eq : big = (bigR : EReal) := by
  unfold big bigR
  simp [Ideal.ofBits, Ideal.ieee, -EReal.coe_mul]; norm_num

theorem two_eq : Ideal.ofBits .f32 1073741824#32 = ((2 : ℝ) : EReal) := by
  simp [Ideal.ofBits, Ideal.ieee, -EReal.coe_mul]; norm_num

/-- A bounded value is a real one. -/
theorem real_of_le (x : EReal) (h : max x (-x) ≤ (bnd : EReal)) : ∃ r : ℝ, x = r ∧ |r| ≤ bnd := by
  induction x with
  | bot => exact absurd (le_trans (le_max_right _ _) h) (by rw [EReal.neg_bot]; exact not_le.2 (EReal.coe_lt_top _))
  | top => exact absurd (le_trans (le_max_left _ _) h) (not_le.2 (EReal.coe_lt_top _))
  | coe r =>
    refine ⟨r, rfl, abs_le.2 ⟨?_, ?_⟩⟩
    · have := le_trans (le_max_right _ _) h
      rw [← EReal.coe_neg, EReal.coe_le_coe_iff] at this
      linarith
    · exact EReal.coe_le_coe_iff.1 (le_trans (le_max_left _ _) h)

/-- Distances of bounded points are below the mask. -/
theorem dist_lt (a b : Fin 3 → EReal) (ha : ∀ k, max (a k) (-(a k)) ≤ (bnd : EReal)) (hb : ∀ k, max (b k) (-(b k)) ≤ (bnd : EReal)) :
    Cert.Spec.dist a b < big := by
  choose r hr hr' using fun k => real_of_le (a k) (ha k)
  choose q hq hq' using fun k => real_of_le (b k) (hb k)
  obtain rfl : a = fun k => (r k : EReal) := funext hr
  obtain rfl : b = fun k => (q k : EReal) := funext hq
  have hpos : (0 : ℝ) ≤ bnd := (abs_nonneg _).trans (hr' 0)
  have e : max ((∑ k, (r k : EReal) * r k) + (∑ k, (q k : EReal) * q k) - Ideal.ofBits .f32 1073741824#32 * ∑ k, (r k : EReal) * q k) 0
      = ((max ((∑ k, r k * r k) + (∑ k, q k * q k) - 2 * ∑ k, r k * q k) 0 : ℝ) : EReal) := by
    rw [two_eq]
    simp only [Fin.sum_univ_three]
    norm_cast
  unfold Cert.Spec.dist
  rw [e, big_eq]
  show (if max ((∑ k, r k * r k) + (∑ k, q k * q k) - 2 * ∑ k, r k * q k) 0 < 0 then ⊥ else (Real.sqrt (max ((∑ k, r k * r k) + (∑ k, q k * q k) - 2 * ∑ k, r k * q k) 0) : EReal)) < _
  rw [if_neg (not_lt.2 (le_max_right _ _)), EReal.coe_lt_coe_iff, Real.sqrt_lt' (by unfold bigR; norm_num)]
  have hd : ∀ k, (r k - q k) ^ 2 ≤ 4 * bnd ^ 2 := by
    intro k
    have h1 := abs_le.1 (hr' k)
    have h2 := abs_le.1 (hq' k)
    nlinarith
  have hs : (∑ k, r k * r k) + (∑ k, q k * q k) - 2 * ∑ k, r k * q k ≤ 12 * bnd ^ 2 := by
    simp only [Fin.sum_univ_three]
    nlinarith [hd 0, hd 1, hd 2]
  refine lt_of_le_of_lt (max_le hs (by positivity)) ?_
  unfold bnd bigR
  norm_num

/-- The predicate, entry by entry. -/
theorem entry_le [Cert.Pre_bounded.Facts] (x : FVec Ideal Cert.Pre_bounded.S32x8192x3 .f32) (h : Cert.Pre_bounded.fn (F := Ideal) x = fun _ => 1#1)
    (i : Cert.Pre_bounded.S32x8192x3.Idx) : max (x i) (-(x i)) ≤ (bnd : EReal) := by
  have hh := congrFun h (Shape.Idx.first Cert.Pre_bounded.Facts.h_S_)
  unfold Cert.Pre_bounded.fn at hh
  have hi := Host.reduce_andi_all (t := Cert.Pre_bounded.S_) _ _ _ _ _ hh i
  have hc : max (x i) (-(x i)) ≤ Ideal.ofBits .f32 0x7E167699#32 := (Cert.Pick.cmp_ole _ _).1 hi
  rwa [bnd_eq] at hc

end Cert.Bounded
-- ==== Proof.Algebraic.lean ====
/-
  The kernel and the reference end with equal results on bounded coordinates: both hold the neighbourhoods of the sampled
  points and the points, in walking order.
-/
module

public import proofs.«01_k».proof.Defs
public import proofs.«01_k».proof.Proof.KernelRun
public import proofs.«01_k».proof.Proof.RefEnd
public import proofs.«01_k».proof.Proof.Bounded

@[expose] public section

set_option maxRecDepth 16384

noncomputable section

namespace Cert.Algebraic

open Idealize.ShloMosaic Idealize.ShloMosaic.TcCoe Idealize.ShloMosaic.Tactic Idealize.SL.Sem
open Cert.Spec

theorem bounded_facts : Cert.Pre_bounded.Facts := Cert.Bounded.facts

/-- A bounded array's clouds have every distance below the mask. -/
theorem below (x : FVec Ideal Cert.ReferenceIdeal.S32x8192x3 .f32) (h : @Cert.Pre_bounded.fn bounded_facts Ideal _ x = fun _ => 1#1) (b : Fin 32) :
    Cert.Ref.Below (Cert.Ref.clouds x b) := by
  intro g n
  exact Cert.Bounded.dist_lt _ _ (fun k => @Cert.Bounded.entry_le bounded_facts x h _) (fun k => @Cert.Bounded.entry_le bounded_facts x h _)

/-- The reference's results from any memory, every cloud's distances below the mask. -/
theorem ref_values (m : (l : Loc Cert.ReferenceIdeal.nD Cert.ReferenceIdeal.τ Cert.ReferenceIdeal.sig) → Buf (Elt Ideal) l) (ρ : Dev Cert.ReferenceIdeal.nD → PrngReg)
    (hb : ∀ c b, Cert.Ref.Below (Cert.Ref.clouds (Cert.Ref.argR m c) b)) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v62) = Cert.KernelIdeal.Val.nbhd (Cert.Ref.clouds (Cert.Ref.argR m c))
      ∧ r.2.mem ((c.tc : Thread Cert.ReferenceIdeal.nD Cert.ReferenceIdeal.τ).loc Cert.ReferenceIdeal.main_v64) = Cert.KernelIdeal.Val.ctrs (Cert.Ref.clouds (Cert.Ref.argR m c))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)) := by
  refine (θ_run (Cert.ReferenceIdeal.defs (F := Ideal)) (onTc (τ := Cert.ReferenceIdeal.τ) (Cert.ReferenceIdeal.main (F := Ideal))) ⟨m, fun _ => 0, ρ⟩).mono
    (fun r h c => ⟨(h c Cert.ReferenceIdeal.main_v62 (by decide)).trans ?_, (h c Cert.ReferenceIdeal.main_v64 (by decide)).trans ?_,
      (h c Cert.ReferenceIdeal.main_arg0 (by decide)).trans (Cert.Ref.end_arg m c)⟩) (Cert.Ref.run_end m ρ)
  · funext i
    obtain ⟨b, g, r, k, rfl⟩ : ∃ (b : Fin 32) (g : Fin 128) (r : Fin 32) (k : Fin 3), i = ix4 b g r k := ⟨i 0, i 1, i 2, i 3, by idx_vars i⟩
    exact Cert.Ref.end_v62 m c (hb c) b g r k
  · funext i
    obtain ⟨b, g, k, rfl⟩ : ∃ (b : Fin 32) (g : Fin 128) (k : Fin 3), i = ix3 b g k := ⟨i 0, i 1, i 2, by idx_vars i⟩
    exact Cert.Ref.end_v64 m c (hb c) b g k

theorem algebraic : Cert.algebraic_KernelIdeal_ReferenceIdeal_pre_bounded (hKernelIdeal := Cert.KernelIdeal.Gen.facts)
    (hReferenceIdeal := Cert.ReferenceIdeal.Gen.facts) (hPre_bounded := bounded_facts) := by
  intro m g m' g' hpre hargs
  have harg : ∀ c, Cert.Ref.clouds (Cert.Ref.argR m' c) = Cert.KernelIdeal.Val.cloud m c := by
    intro c
    funext b n k
    exact congrFun (hargs c) (ix3 b n k)
  have hb : ∀ c b, Cert.Ref.Below (Cert.Ref.clouds (Cert.Ref.argR m' c) b) := by
    intro c b
    refine below _ ?_ b
    refine (congrArg (@Cert.Pre_bounded.fn bounded_facts Ideal _) (hargs c)).trans (hpre c)
  refine ⟨fun c => Cert.KernelIdeal.Val.nbhd (Cert.KernelIdeal.Val.cloud m c), fun c => Cert.KernelIdeal.Val.ctrs (Cert.KernelIdeal.Val.cloud m c), ?_, ?_⟩
  · refine (θ_run (Cert.KernelIdeal.defs (F := Ideal)) (onTc (τ := Cert.KernelIdeal.τ) (Cert.KernelIdeal.main (F := Ideal))) ⟨m, fun _ => 0, g⟩).mono
      (fun r h c => ⟨(h c).1.trans (Cert.KernelIdeal.Val.W6_nbhd m g c), (h c).2.1.trans (Cert.KernelIdeal.Val.W6_ctrs m g c), (h c).2.2⟩)
      (Cert.KernelIdeal.Val.run_values m g)
  · refine (θ_run (Cert.ReferenceIdeal.defs (F := Ideal)) (onTc (τ := Cert.ReferenceIdeal.τ) (Cert.ReferenceIdeal.main (F := Ideal))) ⟨m', fun _ => 0, g'⟩).mono
      (fun r h c => ⟨(h c).1.trans (by rw [harg c]), (h c).2.1.trans (by rw [harg c]), (h c).2.2⟩)
      (ref_values m' g' hb)

end Cert.Algebraic
-- ==== Proof.lean ====
module

public import proofs.«01_k».proof.Defs
public import proofs.«01_k».proof.Proof.Gen.Kernel.Frame
public import proofs.«01_k».proof.Proof.Gen.KernelIdeal.Frame
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Algebraic.bounded_facts,
    fun m g _ => Cert.Kernel.Gen.frame m g,
    fun m g _ => Cert.KernelIdeal.Gen.frame m g, fun m g _ => Cert.KernelIdeal.Gen.frame m g,
    fun m g _ => Cert.Ref.frame m g, fun m g _ => Cert.Ref.frame m g, trivial, Cert.Algebraic.algebraic⟩

end Cert.Proof

end
